-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_band [hPre_finite_band : Cert.Pre_finite_band.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_band.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))).1 = (fun _ => 1#1)
    ∧ (Cert.Pre_finite_band.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_band [hPre_finite_band : Cert.Pre_finite_band.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_band.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))).1 = (fun _ => 1#1)
    ∧ (Cert.Pre_finite_band.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_stick [hPre_finite_stick : Cert.Pre_finite_stick.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_stick.fn (F := Ideal) (m ((c.tc : Thread Cert.Kernel7Ideal.nD Cert.Kernel7Ideal.τ).loc Cert.Kernel7Ideal.main_arg0))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_stick [hPre_finite_stick : Cert.Pre_finite_stick.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_stick.fn (F := Ideal) (m ((c.tc : Thread Cert.Reference7Ideal.nD Cert.Reference7Ideal.τ).loc Cert.Reference7Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite_band [hKernel6Ideal : Cert.Kernel6Ideal.Facts] [hPre_finite_band : Cert.Pre_finite_band.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_band m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite_band [hReference6Ideal : Cert.Reference6Ideal.Facts] [hPre_finite_band : Cert.Pre_finite_band.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_band m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Kernel7Ideal_pre_finite_stick [hKernel7Ideal : Cert.Kernel7Ideal.Facts] [hPre_finite_stick : Cert.Pre_finite_stick.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_stick m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Reference7Ideal_pre_finite_stick [hReference7Ideal : Cert.Reference7Ideal.Facts] [hPre_finite_stick : Cert.Pre_finite_stick.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_stick m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v83) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  IdealRules.named_const.Statement Cert.Kernel6Ideal.κ "mask" .f32 0xF149F2CA#32 ⊥

def algebraic_Kernel6Ideal_Reference6Ideal_pre_finite_band [hKernel6Ideal : Cert.Kernel6Ideal.Facts] [hReference6Ideal : Cert.Reference6Ideal.Facts] [hPre_finite_band : Cert.Pre_finite_band.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_band m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v46)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v46) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v73) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_stick [hKernel7Ideal : Cert.Kernel7Ideal.Facts] [hReference7Ideal : Cert.Reference7Ideal.Facts] [hPre_finite_stick : Cert.Pre_finite_stick.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_stick m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_band : Cert.Pre_finite_band.Facts) (hPre_finite_stick : Cert.Pre_finite_stick.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_band (hKernel6Ideal := hKernel6Ideal) (hPre_finite_band := hPre_finite_band)
    ∧ quiescent_Reference6Ideal (hReference6Ideal := hReference6Ideal)
    ∧ quiescent_Reference6Ideal_pre_finite_band (hReference6Ideal := hReference6Ideal) (hPre_finite_band := hPre_finite_band)
    ∧ quiescent_Kernel7 (hKernel7 := hKernel7)
    ∧ quiescent_Kernel7Ideal (hKernel7Ideal := hKernel7Ideal)
    ∧ quiescent_Kernel7Ideal_pre_finite_stick (hKernel7Ideal := hKernel7Ideal) (hPre_finite_stick := hPre_finite_stick)
    ∧ quiescent_Reference7Ideal (hReference7Ideal := hReference7Ideal)
    ∧ quiescent_Reference7Ideal_pre_finite_stick (hReference7Ideal := hReference7Ideal) (hPre_finite_stick := hPre_finite_stick)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_band (hKernel6Ideal := hKernel6Ideal) (hReference6Ideal := hReference6Ideal) (hPre_finite_band := hPre_finite_band)
    ∧ preserves_Kernel7_Kernel7Ideal
    ∧ algebraic_Kernel7Ideal_Reference7Ideal_pre_finite_stick (hKernel7Ideal := hKernel7Ideal) (hReference7Ideal := hReference7Ideal) (hPre_finite_stick := hPre_finite_stick)
-- ==== Pre_finite.lean ====
abbrev S32x2048x3584 : Shape := ⟨3, ![32, 2048, 3584]⟩
abbrev S32x16 : Shape := ⟨2, ![32, 16]⟩
abbrev S8 : Shape := ⟨1, ![8]⟩
abbrev S_ : Shape := ⟨0, ![]⟩

class Facts : Prop where
  bitsLt_bf16_f32 : FTy.bits .bf16 < FTy.bits .f32
  bcast_S_S32x2048x3584 : S_.BroadcastsInDim S32x2048x3584 (![] : Fin 0 → Fin S32x2048x3584.rank)
  bcast_S_S32x16 : S_.BroadcastsInDim S32x16 (![] : Fin 0 → Fin S32x16.rank)
  bcast_S_S8 : S_.BroadcastsInDim S8 (![] : Fin 0 → Fin S8.rank)

variable [Facts]

def fn {F : FTy → Type} [FloatOps F] (main_arg0 : FVec F S32x2048x3584 .bf16) (main_arg1 : FVec F S32x16 .f32) (main_arg2 : FVec F S8 .f32) : IVec S32x2048x3584 1 × IVec S32x16 1 × IVec S8 1 :=
  let main_v0 : FVec F S32x2048x3584 .f32 := (extf .f32 · bitsLt_bf16_f32) main_arg0
  let main_v1 : FVec F S32x2048x3584 .f32 := Host.absf main_v0
  let main_cst : FVec F S_ .f32 := constant S_ .f32 0x7F800000#32
  let main_v2 : FVec F S32x2048x3584 .f32 := broadcastInDim S32x2048x3584 ![] bcast_S_S32x2048x3584 main_cst
  let main_v3 : IVec S32x2048x3584 1 := cmpf .olt main_v1 main_v2
  let main_v4 : FVec F S32x16 .f32 := Host.absf main_arg1
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_v7 : FVec F S8 .f32 := Host.absf main_arg2
  let main_cst_1 : FVec F S_ .f32 := constant S_ .f32 0x7F800000#32
  let main_v8 : FVec F S8 .f32 := broadcastInDim S8 ![] bcast_S_S8 main_cst_1
  let main_v9 : IVec S8 1 := cmpf .olt main_v7 main_v8
  (main_v3, main_v6, main_v9)
-- ==== Pre_finite_band.lean ====
abbrev S32x2048x3584 : Shape := ⟨3, ![32, 2048, 3584]⟩
abbrev S32x16 : Shape := ⟨2, ![32, 16]⟩
abbrev S_ : Shape := ⟨0, ![]⟩

class Facts : Prop where
  bitsLt_bf16_f32 : FTy.bits .bf16 < FTy.bits .f32
  bcast_S_S32x2048x3584 : S_.BroadcastsInDim S32x2048x3584 (![] : Fin 0 → Fin S32x2048x3584.rank)
  bcast_S_S32x16 : S_.BroadcastsInDim S32x16 (![] : Fin 0 → Fin S32x16.rank)

variable [Facts]

def fn {F : FTy → Type} [FloatOps F] (main_arg0 : FVec F S32x2048x3584 .bf16) (main_arg1 : FVec F S32x16 .f32) : IVec S32x2048x3584 1 × IVec S32x16 1 :=
  let main_v0 : FVec F S32x2048x3584 .f32 := (extf .f32 · bitsLt_bf16_f32) main_arg0
  let main_v1 : FVec F S32x2048x3584 .f32 := Host.absf main_v0
  let main_cst : FVec F S_ .f32 := constant S_ .f32 0x7F800000#32
  let main_v2 : FVec F S32x2048x3584 .f32 := broadcastInDim S32x2048x3584 ![] bcast_S_S32x2048x3584 main_cst
  let main_v3 : IVec S32x2048x3584 1 := cmpf .olt main_v1 main_v2
  let main_v4 : FVec F S32x16 .f32 := Host.absf main_arg1
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  (main_v3, main_v6)
-- ==== Pre_finite_stick.lean ====
abbrev S32x2048x3584 : Shape := ⟨3, ![32, 2048, 3584]⟩
abbrev S_ : Shape := ⟨0, ![]⟩

class Facts : Prop where
  bitsLt_bf16_f32 : FTy.bits .bf16 < FTy.bits .f32
  bcast_S_S32x2048x3584 : S_.BroadcastsInDim S32x2048x3584 (![] : Fin 0 → Fin S32x2048x3584.rank)

variable [Facts]

def fn {F : FTy → Type} [FloatOps F] (main_arg0 : FVec F S32x2048x3584 .bf16) : IVec S32x2048x3584 1 :=
  let main_v0 : FVec F S32x2048x3584 .f32 := (extf .f32 · bitsLt_bf16_f32) main_arg0
  let main_v1 : FVec F S32x2048x3584 .f32 := Host.absf main_v0
  let main_cst : FVec F S_ .f32 := constant S_ .f32 0x7F800000#32
  let main_v2 : FVec F S32x2048x3584 .f32 := broadcastInDim S32x2048x3584 ![] bcast_S_S32x2048x3584 main_cst
  let main_v3 : IVec S32x2048x3584 1 := cmpf .olt main_v1 main_v2
  main_v3
-- ==== Kernel.lean ====
abbrev S32x2048x3584 : Shape := ⟨3, ![32, 2048, 3584]⟩
abbrev S32x16 : Shape := ⟨2, ![32, 16]⟩
abbrev S8 : Shape := ⟨1, ![8]⟩
abbrev S32x8 : Shape := ⟨2, ![32, 8]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S1x128x256 : Shape := ⟨3, ![1, 128, 256]⟩
abbrev S2x512x256 : Shape := ⟨3, ![2, 512, 256]⟩
abbrev S8x128 : Shape := ⟨2, ![8, 128]⟩
abbrev S1024 : Shape := ⟨1, ![1024]⟩
abbrev S2x512x1 : Shape := ⟨3, ![2, 512, 1]⟩
abbrev S32x2048x512 : Shape := ⟨3, ![32, 2048, 512]⟩
abbrev S1x128x512 : Shape := ⟨3, ![1, 128, 512]⟩
abbrev S1x2048x128 : Shape := ⟨3, ![1, 2048, 128]⟩
abbrev S1x128x128 : Shape := ⟨3, ![1, 128, 128]⟩
abbrev S128x128 : Shape := ⟨2, ![128, 128]⟩
abbrev S256x128 : Shape := ⟨2, ![256, 128]⟩
abbrev S128x512 : Shape := ⟨2, ![128, 512]⟩
abbrev S512x128 : Shape := ⟨2, ![512, 128]⟩
abbrev S512x256 : Shape := ⟨2, ![512, 256]⟩
abbrev S1x512x256 : Shape := ⟨3, ![1, 512, 256]⟩
abbrev S512 : Shape := ⟨1, ![512]⟩
abbrev S512x1 : Shape := ⟨2, ![512, 1]⟩
abbrev S1x512x1 : Shape := ⟨3, ![1, 512, 1]⟩

abbrev nBuf : Space → Nat
  | .hbm => 70
  | .vmem => 10
  | .smem => 0
  | _ => 0

abbrev bufTy : (tb : Table) → Fin (tcTables nBuf tb) → BufTy
  | .hbm, ⟨0, _⟩ => ⟨S32x2048x3584, .bf16⟩
  | .hbm, ⟨1, _⟩ => ⟨S32x16, .f32⟩
  | .hbm, ⟨2, _⟩ => ⟨S8, .f32⟩
  | .hbm, ⟨3, _⟩ => ⟨S32x8, .f32⟩
  | .hbm, ⟨4, _⟩ => ⟨S128, .i32⟩
  | .hbm, ⟨5, _⟩ => ⟨S128x1, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S256, .i32⟩
  | .hbm, ⟨10, _⟩ => ⟨S1x256, .i32⟩
  | .hbm, ⟨11, _⟩ => ⟨S128x256, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x256, .i32⟩
  | .hbm, ⟨47, _⟩ => ⟨S128x256, .i32⟩
  | .hbm, ⟨48, _⟩ => ⟨S128x256, .i32⟩
  | .hbm, ⟨49, _⟩ => ⟨S128x256x1, .i32⟩
  | .hbm, ⟨50, _⟩ => ⟨S128x256x8, .f32⟩
  | .hbm, ⟨51, _⟩ => ⟨S8x128x256, .f32⟩
  | .hbm, ⟨52, _⟩ => ⟨S_, .i32⟩
  | .hbm, ⟨53, _⟩ => ⟨S128x256, .i32⟩
  | .hbm, ⟨54, _⟩ => ⟨S128x256, .i1⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S128x256, .i1⟩
  | .hbm, ⟨59, _⟩ => ⟨S1x128x256, .i1⟩
  | .hbm, ⟨60, _⟩ => ⟨S_, .f32⟩
  | .hbm, ⟨61, _⟩ => ⟨S_, .f32⟩
  | .hbm, ⟨62, _⟩ => ⟨S8x128x256, .i1⟩
  | .hbm, ⟨63, _⟩ => ⟨S8x128x256, .f32⟩
  | .hbm, ⟨64, _⟩ => ⟨S8x128x256, .f32⟩
  | .hbm, ⟨65, _⟩ => ⟨S2x512x256, .f32⟩
  | .hbm, ⟨66, _⟩ => ⟨S8x128, .f32⟩
  | .hbm, ⟨67, _⟩ => ⟨S1024, .f32⟩
  | .hbm, ⟨68, _⟩ => ⟨S2x512x1, .f32⟩
  | .hbm, ⟨69, _⟩ => ⟨S32x2048x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S2x512x256, .f32⟩
  | .local _ .vmem, ⟨7, _⟩ => ⟨S2x512x1, .f32⟩
  | .local _ .vmem, ⟨8, _⟩ => ⟨S1x128x512, .bf16⟩
  | .local _ .vmem, ⟨9, _⟩ => ⟨S1x128x512, .bf16⟩
  | _, _ => ⟨S32x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_9 : Ref sig .tc := ⟨.hbm, 52, rfl⟩
abbrev main_v38 : Ref sig .tc := ⟨.hbm, 53, rfl⟩
abbrev main_v39 : Ref sig .tc := ⟨.hbm, 54, rfl⟩
abbrev main_c_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 16], ![false, false]⟩

def k0_mult1 (i : grid0.Coords) : BitVec 32 :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  v3
def k0_off1 (i : grid0.Coords) (c0_i32 : BitVec 32) : Fin 3 → Nat :=
  let c0 : Index := 0#32
  let arg1 : BitVec 32 := BitVec.ofNat 32 (i 1).val
  let c1_i32 : BitVec 32 := 1#32
  let v0 : BitVec 32 := Scalar.subi arg1 c1_i32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  let v8 : BitVec 32 := v3
  let v9 : Index := Scalar.indexCast v8
  let c0_5 : Index := 0#32
  ![0, v9.toNat, 0]
def k0_mult2 (i : grid0.Coords) : BitVec 32 :=
  let arg1 : BitVec 32 := BitVec.ofNat 32 (i 1).val
  let c1_i32_1 : BitVec 32 := 1#32
  let v4 : BitVec 32 := Scalar.subi arg1 c1_i32_1
  let c1_i32_2 : BitVec 32 := 1#32
  let v5 : BitVec 32 := Scalar.addi v4 c1_i32_2
  let c0_i32_3 : BitVec 32 := 0#32
  let v6 : BitVec 32 := Scalar.maxsi v5 c0_i32_3
  let c128_i32_4 : BitVec 32 := 128#32
  let v7 : BitVec 32 := Scalar.muli v6 c128_i32_4
  v7
def k0_mult3 (i : grid0.Coords) : BitVec 32 :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  v3
def k0_mult4 (i : grid0.Coords) : BitVec 32 :=
  let arg1 : BitVec 32 := BitVec.ofNat 32 (i 1).val
  let c1_i32_1 : BitVec 32 := 1#32
  let v4 : BitVec 32 := Scalar.subi arg1 c1_i32_1
  let c1_i32_2 : BitVec 32 := 1#32
  let v5 : BitVec 32 := Scalar.addi v4 c1_i32_2
  let c0_i32_3 : BitVec 32 := 0#32
  let v6 : BitVec 32 := Scalar.maxsi v5 c0_i32_3
  let c128_i32_4 : BitVec 32 := 128#32
  let v7 : BitVec 32 := Scalar.muli v6 c128_i32_4
  v7
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c20_i32 : BitVec 32 := 20#32
  let c0_i32_0 : BitVec 32 := 0#32
  ![arg0.toNat, c0_i32.toNat, c20_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c21_i32 : BitVec 32 := 21#32
  let c0_i32_0 : BitVec 32 := 0#32
  ![arg0.toNat, c0_i32.toNat, c21_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32x2048x3584 : Shape := ⟨3, ![32, 2048, 3584]⟩
abbrev S32x16 : Shape := ⟨2, ![32, 16]⟩
abbrev S8 : Shape := ⟨1, ![8]⟩
abbrev S32x2048x512 : Shape := ⟨3, ![32, 2048, 512]⟩
abbrev S32x2048x128 : Shape := ⟨3, ![32, 2048, 128]⟩
abbrev S32x8 : Shape := ⟨2, ![32, 8]⟩
abbrev S32x2048x2x4x64 : Shape := ⟨5, ![32, 2048, 2, 4, 64]⟩
abbrev S32x2x4x2048x64 : Shape := ⟨5, ![32, 2, 4, 2048, 64]⟩
abbrev S32x2048x2x64 : Shape := ⟨4, ![32, 2048, 2, 64]⟩
abbrev S32x2x2048x64 : Shape := ⟨4, ![32, 2, 2048, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S2x4x2048x2048 : Shape := ⟨4, ![2, 4, 2048, 2048]⟩
abbrev S32x2x4x2048x2048 : Shape := ⟨5, ![32, 2, 4, 2048, 2048]⟩
abbrev S1x2x4x2048x2048 : Shape := ⟨5, ![1, 2, 4, 2048, 2048]⟩
abbrev S2x4 : Shape := ⟨2, ![2, 4]⟩
abbrev S1x2x4x1x1 : Shape := ⟨5, ![1, 2, 4, 1, 1]⟩
abbrev S32x2x4x2048 : Shape := ⟨4, ![32, 2, 4, 2048]⟩
abbrev S32x2x4x2048x1 : Shape := ⟨5, ![32, 2, 4, 2048, 1]⟩

abbrev nBuf : Space → Nat
  | .hbm => 104
  | .vmem => 0
  | .smem => 0
  | _ => 0

abbrev bufTy : (tb : Table) → Fin (tcTables nBuf tb) → BufTy
  | .hbm, ⟨0, _⟩ => ⟨S32x2048x3584, .bf16⟩
  | .hbm, ⟨1, _⟩ => ⟨S32x16, .f32⟩
  | .hbm, ⟨2, _⟩ => ⟨S8, .f32⟩
  | .hbm, ⟨3, _⟩ => ⟨S32x2048x512, .bf16⟩
  | .hbm, ⟨4, _⟩ => ⟨S32x2048x512, .f32⟩
  | .hbm, ⟨5, _⟩ => ⟨S32x2048x128, .bf16⟩
  | .hbm, ⟨6, _⟩ => ⟨S32x2048x128, .f32⟩
  | .hbm, ⟨7, _⟩ => ⟨S32x2048x128, .bf16⟩
  | .hbm, ⟨8, _⟩ => ⟨S32x2048x128, .f32⟩
  | .hbm, ⟨9, _⟩ => ⟨S32x8, .f32⟩
  | .hbm, ⟨10, _⟩ => ⟨S32x2048x2x4x64, .f32⟩
  | .hbm, ⟨11, _⟩ => ⟨S32x2x4x2048x64, .f32⟩
  | .hbm, ⟨12, _⟩ => ⟨S32x2048x2x64, .f32⟩
  | .hbm, ⟨13, _⟩ => ⟨S32x2x2048x64, .f32⟩
  | .hbm, ⟨14, _⟩ => ⟨S32x2048x2x64, .f32⟩
  | .hbm, ⟨15, _⟩ => ⟨S32x2x2048x64, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i1⟩
  | .hbm, ⟨26, _⟩ => ⟨S_, .i32⟩
  | .hbm, ⟨27, _⟩ => ⟨S2048x2048, .i32⟩
  | .hbm, ⟨28, _⟩ => ⟨S2048x2048, .i1⟩
  | .hbm, ⟨29, _⟩ => ⟨S2048x2048, .i1⟩
  | .hbm, ⟨30, _⟩ => ⟨S_, .i32⟩
  | .hbm, ⟨31, _⟩ => ⟨S2048x2048, .i32⟩
  | .hbm, ⟨32, _⟩ => ⟨S2048x2048, .i32⟩
  | .hbm, ⟨33, _⟩ => ⟨S_, .i32⟩
  | .hbm, ⟨34, _⟩ => ⟨S2048x2048, .i32⟩
  | .hbm, ⟨35, _⟩ => ⟨S2048x2048, .i32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x2048, .i32⟩
  | .hbm, ⟨48, _⟩ => ⟨S_, .i32⟩
  | .hbm, ⟨49, _⟩ => ⟨S2048x2048, .i32⟩
  | .hbm, ⟨50, _⟩ => ⟨S2048x2048, .i32⟩
  | .hbm, ⟨51, _⟩ => ⟨S_, .i32⟩
  | .hbm, ⟨52, _⟩ => ⟨S2048x2048, .i32⟩
  | .hbm, ⟨53, _⟩ => ⟨S2048x2048, .i32⟩
  | .hbm, ⟨54, _⟩ => ⟨S_, .i32⟩
  | .hbm, ⟨55, _⟩ => ⟨S2048x2048, .i32⟩
  | .hbm, ⟨56, _⟩ => ⟨S2048x2048, .i1⟩
  | .hbm, ⟨57, _⟩ => ⟨S2048x2048, .i32⟩
  | .hbm, ⟨58, _⟩ => ⟨S_, .i32⟩
  | .hbm, ⟨59, _⟩ => ⟨S2048x2048, .i32⟩
  | .hbm, ⟨60, _⟩ => ⟨S2048x2048, .i1⟩
  | .hbm, ⟨61, _⟩ => ⟨S_, .i32⟩
  | .hbm, ⟨62, _⟩ => ⟨S2048x2048, .i32⟩
  | .hbm, ⟨63, _⟩ => ⟨S2048x2048, .i32⟩
  | .hbm, ⟨64, _⟩ => ⟨S2048x2048, .i32⟩
  | .hbm, ⟨65, _⟩ => ⟨S2048x2048x1, .i32⟩
  | .hbm, ⟨66, _⟩ => ⟨S2048x2048x8, .f32⟩
  | .hbm, ⟨67, _⟩ => ⟨S8x2048x2048, .f32⟩
  | .hbm, ⟨68, _⟩ => ⟨S2x4x2048x2048, .f32⟩
  | .hbm, ⟨69, _⟩ => ⟨S32x2x4x2048x2048, .f32⟩
  | .hbm, ⟨70, _⟩ => ⟨S_, .f32⟩
  | .hbm, ⟨71, _⟩ => ⟨S32x2x4x2048x2048, .f32⟩
  | .hbm, ⟨72, _⟩ => ⟨S32x2x4x2048x2048, .f32⟩
  | .hbm, ⟨73, _⟩ => ⟨S1x2x4x2048x2048, .f32⟩
  | .hbm, ⟨74, _⟩ => ⟨S32x2x4x2048x2048, .f32⟩
  | .hbm, ⟨75, _⟩ => ⟨S32x2x4x2048x2048, .f32⟩
  | .hbm, ⟨76, _⟩ => ⟨S_, .f32⟩
  | .hbm, ⟨77, _⟩ => ⟨S_, .f32⟩
  | .hbm, ⟨78, _⟩ => ⟨S32x2x4x2048x2048, .i1⟩
  | .hbm, ⟨79, _⟩ => ⟨S32x2x4x2048x2048, .f32⟩
  | .hbm, ⟨80, _⟩ => ⟨S32x2x4x2048x2048, .f32⟩
  | .hbm, ⟨81, _⟩ => ⟨S2x4, .f32⟩
  | .hbm, ⟨82, _⟩ => ⟨S1x2x4x1x1, .f32⟩
  | .hbm, ⟨83, _⟩ => ⟨S_, .f32⟩
  | .hbm, ⟨84, _⟩ => ⟨S32x2x4x2048, .f32⟩
  | .hbm, ⟨85, _⟩ => ⟨S32x2x4x2048x1, .f32⟩
  | .hbm, ⟨86, _⟩ => ⟨S32x2x4x2048x1, .f32⟩
  | .hbm, ⟨87, _⟩ => ⟨S32x2x4x2048x1, .f32⟩
  | .hbm, ⟨88, _⟩ => ⟨S32x2x4x2048x2048, .f32⟩
  | .hbm, ⟨89, _⟩ => ⟨S32x2x4x2048x2048, .f32⟩
  | .hbm, ⟨90, _⟩ => ⟨S32x2x4x2048x2048, .f32⟩
  | .hbm, ⟨91, _⟩ => ⟨S_, .f32⟩
  | .hbm, ⟨92, _⟩ => ⟨S32x2x4x2048, .f32⟩
  | .hbm, ⟨93, _⟩ => ⟨S32x2x4x2048x1, .f32⟩
  | .hbm, ⟨94, _⟩ => ⟨S32x2x4x2048x1, .f32⟩
  | .hbm, ⟨95, _⟩ => ⟨S32x2x4x2048x1, .f32⟩
  | .hbm, ⟨96, _⟩ => ⟨S32x2x4x2048x1, .f32⟩
  | .hbm, ⟨97, _⟩ => ⟨S32x2x4x2048x1, .f32⟩
  | .hbm, ⟨98, _⟩ => ⟨S32x2x4x2048x2048, .f32⟩
  | .hbm, ⟨99, _⟩ => ⟨S32x2x4x2048x2048, .f32⟩
  | .hbm, ⟨100, _⟩ => ⟨S32x2x4x2048x64, .f32⟩
  | .hbm, ⟨101, _⟩ => ⟨S32x2048x2x4x64, .f32⟩
  | .hbm, ⟨102, _⟩ => ⟨S32x2048x512, .f32⟩
  | .hbm, ⟨103, _⟩ => ⟨S32x2048x512, .bf16⟩
  | _, _ => ⟨S32x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_1 : Ref sig .tc := ⟨.hbm, 30, rfl⟩
abbrev main_v25 : Ref sig .tc := ⟨.hbm, 31, rfl⟩
abbrev main_v26 : Ref sig .tc := ⟨.hbm, 32, rfl⟩
abbrev main_c_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_5 : Ref sig .tc := ⟨.hbm, 48, rfl⟩
abbrev main_v38 : Ref sig .tc := ⟨.hbm, 49, rfl⟩
abbrev main_v39 : Ref sig .tc := ⟨.hbm, 50, rfl⟩
abbrev main_c_6 : Ref sig .tc := ⟨.hbm, 51, rfl⟩
abbrev main_v40 : Ref sig .tc := ⟨.hbm, 52, rfl⟩
abbrev main_v41 : Ref sig .tc := ⟨.hbm, 53, rfl⟩
abbrev main_c_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_8 : Ref sig .tc := ⟨.hbm, 58, rfl⟩
abbrev main_v45 : Ref sig .tc := ⟨.hbm, 59, rfl⟩
abbrev main_v46 : Ref sig .tc := ⟨.hbm, 60, rfl⟩
abbrev main_c_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x9x1024 : Shape := ⟨3, ![32, 9, 1024]⟩
abbrev S1x1024 : Shape := ⟨2, ![1, 1024]⟩
abbrev S1024x2816 : Shape := ⟨2, ![1024, 2816]⟩
abbrev S2816x1024 : Shape := ⟨2, ![2816, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x9x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x512x1024, .f32⟩
  | .local _ .vmem, ⟨10, _⟩ => ⟨S1x512x1024, .f32⟩
  | .local _ .vmem, ⟨11, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S32x2048x1024 : Shape := ⟨3, ![32, 2048, 1024]⟩
abbrev S32x9x1024 : Shape := ⟨3, ![32, 9, 1024]⟩
abbrev S1x1024 : Shape := ⟨2, ![1, 1024]⟩
abbrev S1024x2816 : Shape := ⟨2, ![1024, 2816]⟩
abbrev S2816x1024 : Shape := ⟨2, ![2816, 1024]⟩
abbrev S32x3x3x1024 : Shape := ⟨4, ![32, 3, 3, 1024]⟩
abbrev S32x1x1x1024 : Shape := ⟨4, ![32, 1, 1, 1024]⟩
abbrev S32x1024 : Shape := ⟨2, ![32, 1024]⟩
abbrev S32x1x1024 : Shape := ⟨3, ![32, 1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩

abbrev nBuf : Space → Nat
  | .hbm => 77
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x9x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S32x3x3x1024, .f32⟩
  | .hbm, ⟨8, _⟩ => ⟨S32x1x1x1024, .f32⟩
  | .hbm, ⟨9, _⟩ => ⟨S32x1024, .f32⟩
  | .hbm, ⟨10, _⟩ => ⟨S32x1x1024, .f32⟩
  | .hbm, ⟨11, _⟩ => ⟨S32x1x1x1024, .f32⟩
  | .hbm, ⟨12, _⟩ => ⟨S32x1024, .f32⟩
  | .hbm, ⟨13, _⟩ => ⟨S32x1x1024, .f32⟩
  | .hbm, ⟨14, _⟩ => ⟨S32x1x1x1024, .f32⟩
  | .hbm, ⟨15, _⟩ => ⟨S32x1024, .f32⟩
  | .hbm, ⟨16, _⟩ => ⟨S32x1x1024, .f32⟩
  | .hbm, ⟨17, _⟩ => ⟨S1024, .f32⟩
  | .hbm, ⟨18, _⟩ => ⟨S32x2048x1024, .f32⟩
  | .hbm, ⟨19, _⟩ => ⟨S_, .f32⟩
  | .hbm, ⟨20, _⟩ => ⟨S32x2048, .f32⟩
  | .hbm, ⟨21, _⟩ => ⟨S32x2048x1, .f32⟩
  | .hbm, ⟨22, _⟩ => ⟨S_, .f32⟩
  | .hbm, ⟨23, _⟩ => ⟨S32x2048x1, .f32⟩
  | .hbm, ⟨24, _⟩ => ⟨S32x2048x1, .f32⟩
  | .hbm, ⟨25, _⟩ => ⟨S_, .f32⟩
  | .hbm, ⟨26, _⟩ => ⟨S32x2048x1, .f32⟩
  | .hbm, ⟨27, _⟩ => ⟨S32x2048x1, .f32⟩
  | .hbm, ⟨28, _⟩ => ⟨S32x2048x1, .f32⟩
  | .hbm, ⟨29, _⟩ => ⟨S32x2048x1024, .f32⟩
  | .hbm, ⟨30, _⟩ => ⟨S32x2048x1024, .f32⟩
  | .hbm, ⟨31, _⟩ => ⟨S1x1x1024, .f32⟩
  | .hbm, ⟨32, _⟩ => ⟨S32x2048x1024, .f32⟩
  | .hbm, ⟨33, _⟩ => ⟨S32x2048x1024, .f32⟩
  | .hbm, ⟨34, _⟩ => ⟨S_, .f32⟩
  | .hbm, ⟨35, _⟩ => ⟨S32x1x1024, .f32⟩
  | .hbm, ⟨36, _⟩ => ⟨S32x1x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x2048x1024, .f32⟩
  | .hbm, ⟨41, _⟩ => ⟨S_, .f32⟩
  | .hbm, ⟨42, _⟩ => ⟨S32x1x1024, .f32⟩
  | .hbm, ⟨43, _⟩ => ⟨S32x1x1024, .f32⟩
  | .hbm, ⟨44, _⟩ => ⟨S32x2048x2816, .f32⟩
  | .hbm, ⟨45, _⟩ => ⟨S32x2048x2816, .f32⟩
  | .hbm, ⟨46, _⟩ => ⟨S32x2048x2816, .f32⟩
  | .hbm, ⟨47, _⟩ => ⟨S_, .f32⟩
  | .hbm, ⟨48, _⟩ => ⟨S32x2048x2816, .f32⟩
  | .hbm, ⟨49, _⟩ => ⟨S32x2048x2816, .f32⟩
  | .hbm, ⟨50, _⟩ => ⟨S_, .f32⟩
  | .hbm, ⟨51, _⟩ => ⟨S32x2048x2816, .f32⟩
  | .hbm, ⟨52, _⟩ => ⟨S32x2048x2816, .f32⟩
  | .hbm, ⟨53, _⟩ => ⟨S32x2048x2816, .f32⟩
  | .hbm, ⟨54, _⟩ => ⟨S32x2048x2816, .f32⟩
  | .hbm, ⟨55, _⟩ => ⟨S32x2048x2816, .f32⟩
  | .hbm, ⟨56, _⟩ => ⟨S32x2048x1024, .f32⟩
  | .hbm, ⟨57, _⟩ => ⟨S1024, .f32⟩
  | .hbm, ⟨58, _⟩ => ⟨S32x2048x1024, .f32⟩
  | .hbm, ⟨59, _⟩ => ⟨S_, .f32⟩
  | .hbm, ⟨60, _⟩ => ⟨S32x2048, .f32⟩
  | .hbm, ⟨61, _⟩ => ⟨S32x2048x1, .f32⟩
  | .hbm, ⟨62, _⟩ => ⟨S_, .f32⟩
  | .hbm, ⟨63, _⟩ => ⟨S32x2048x1, .f32⟩
  | .hbm, ⟨64, _⟩ => ⟨S32x2048x1, .f32⟩
  | .hbm, ⟨65, _⟩ => ⟨S_, .f32⟩
  | .hbm, ⟨66, _⟩ => ⟨S32x2048x1, .f32⟩
  | .hbm, ⟨67, _⟩ => ⟨S32x2048x1, .f32⟩
  | .hbm, ⟨68, _⟩ => ⟨S32x2048x1, .f32⟩
  | .hbm, ⟨69, _⟩ => ⟨S32x2048x1024, .f32⟩
  | .hbm, ⟨70, _⟩ => ⟨S32x2048x1024, .f32⟩
  | .hbm, ⟨71, _⟩ => ⟨S1x1x1024, .f32⟩
  | .hbm, ⟨72, _⟩ => ⟨S32x2048x1024, .f32⟩
  | .hbm, ⟨73, _⟩ => ⟨S32x2048x1024, .f32⟩
  | .hbm, ⟨74, _⟩ => ⟨S32x2048x1024, .f32⟩
  | .hbm, ⟨75, _⟩ => ⟨S32x2048x1024, .f32⟩
  | .hbm, ⟨76, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x9x1024 : Shape := ⟨3, ![32, 9, 1024]⟩
abbrev S1x1024 : Shape := ⟨2, ![1, 1024]⟩
abbrev S1024x2816 : Shape := ⟨2, ![1024, 2816]⟩
abbrev S2816x1024 : Shape := ⟨2, ![2816, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x9x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x512x1024, .f32⟩
  | .local _ .vmem, ⟨10, _⟩ => ⟨S1x512x1024, .f32⟩
  | .local _ .vmem, ⟨11, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S32x2048x1024 : Shape := ⟨3, ![32, 2048, 1024]⟩
abbrev S32x9x1024 : Shape := ⟨3, ![32, 9, 1024]⟩
abbrev S1x1024 : Shape := ⟨2, ![1, 1024]⟩
abbrev S1024x2816 : Shape := ⟨2, ![1024, 2816]⟩
abbrev S2816x1024 : Shape := ⟨2, ![2816, 1024]⟩
abbrev S32x3x3x1024 : Shape := ⟨4, ![32, 3, 3, 1024]⟩
abbrev S32x1x1x1024 : Shape := ⟨4, ![32, 1, 1, 1024]⟩
abbrev S32x1024 : Shape := ⟨2, ![32, 1024]⟩
abbrev S32x1x1024 : Shape := ⟨3, ![32, 1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩

abbrev nBuf : Space → Nat
  | .hbm => 77
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x9x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S32x3x3x1024, .f32⟩
  | .hbm, ⟨8, _⟩ => ⟨S32x1x1x1024, .f32⟩
  | .hbm, ⟨9, _⟩ => ⟨S32x1024, .f32⟩
  | .hbm, ⟨10, _⟩ => ⟨S32x1x1024, .f32⟩
  | .hbm, ⟨11, _⟩ => ⟨S32x1x1x1024, .f32⟩
  | .hbm, ⟨12, _⟩ => ⟨S32x1024, .f32⟩
  | .hbm, ⟨13, _⟩ => ⟨S32x1x1024, .f32⟩
  | .hbm, ⟨14, _⟩ => ⟨S32x1x1x1024, .f32⟩
  | .hbm, ⟨15, _⟩ => ⟨S32x1024, .f32⟩
  | .hbm, ⟨16, _⟩ => ⟨S32x1x1024, .f32⟩
  | .hbm, ⟨17, _⟩ => ⟨S1024, .f32⟩
  | .hbm, ⟨18, _⟩ => ⟨S32x2048x1024, .f32⟩
  | .hbm, ⟨19, _⟩ => ⟨S_, .f32⟩
  | .hbm, ⟨20, _⟩ => ⟨S32x2048, .f32⟩
  | .hbm, ⟨21, _⟩ => ⟨S32x2048x1, .f32⟩
  | .hbm, ⟨22, _⟩ => ⟨S_, .f32⟩
  | .hbm, ⟨23, _⟩ => ⟨S32x2048x1, .f32⟩
  | .hbm, ⟨24, _⟩ => ⟨S32x2048x1, .f32⟩
  | .hbm, ⟨25, _⟩ => ⟨S_, .f32⟩
  | .hbm, ⟨26, _⟩ => ⟨S32x2048x1, .f32⟩
  | .hbm, ⟨27, _⟩ => ⟨S32x2048x1, .f32⟩
  | .hbm, ⟨28, _⟩ => ⟨S32x2048x1, .f32⟩
  | .hbm, ⟨29, _⟩ => ⟨S32x2048x1024, .f32⟩
  | .hbm, ⟨30, _⟩ => ⟨S32x2048x1024, .f32⟩
  | .hbm, ⟨31, _⟩ => ⟨S1x1x1024, .f32⟩
  | .hbm, ⟨32, _⟩ => ⟨S32x2048x1024, .f32⟩
  | .hbm, ⟨33, _⟩ => ⟨S32x2048x1024, .f32⟩
  | .hbm, ⟨34, _⟩ => ⟨S_, .f32⟩
  | .hbm, ⟨35, _⟩ => ⟨S32x1x1024, .f32⟩
  | .hbm, ⟨36, _⟩ => ⟨S32x1x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x2048x1024, .f32⟩
  | .hbm, ⟨41, _⟩ => ⟨S_, .f32⟩
  | .hbm, ⟨42, _⟩ => ⟨S32x1x1024, .f32⟩
  | .hbm, ⟨43, _⟩ => ⟨S32x1x1024, .f32⟩
  | .hbm, ⟨44, _⟩ => ⟨S32x2048x2816, .f32⟩
  | .hbm, ⟨45, _⟩ => ⟨S32x2048x2816, .f32⟩
  | .hbm, ⟨46, _⟩ => ⟨S32x2048x2816, .f32⟩
  | .hbm, ⟨47, _⟩ => ⟨S_, .f32⟩
  | .hbm, ⟨48, _⟩ => ⟨S32x2048x2816, .f32⟩
  | .hbm, ⟨49, _⟩ => ⟨S32x2048x2816, .f32⟩
  | .hbm, ⟨50, _⟩ => ⟨S_, .f32⟩
  | .hbm, ⟨51, _⟩ => ⟨S32x2048x2816, .f32⟩
  | .hbm, ⟨52, _⟩ => ⟨S32x2048x2816, .f32⟩
  | .hbm, ⟨53, _⟩ => ⟨S32x2048x2816, .f32⟩
  | .hbm, ⟨54, _⟩ => ⟨S32x2048x2816, .f32⟩
  | .hbm, ⟨55, _⟩ => ⟨S32x2048x2816, .f32⟩
  | .hbm, ⟨56, _⟩ => ⟨S32x2048x1024, .f32⟩
  | .hbm, ⟨57, _⟩ => ⟨S1024, .f32⟩
  | .hbm, ⟨58, _⟩ => ⟨S32x2048x1024, .f32⟩
  | .hbm, ⟨59, _⟩ => ⟨S_, .f32⟩
  | .hbm, ⟨60, _⟩ => ⟨S32x2048, .f32⟩
  | .hbm, ⟨61, _⟩ => ⟨S32x2048x1, .f32⟩
  | .hbm, ⟨62, _⟩ => ⟨S_, .f32⟩
  | .hbm, ⟨63, _⟩ => ⟨S32x2048x1, .f32⟩
  | .hbm, ⟨64, _⟩ => ⟨S32x2048x1, .f32⟩
  | .hbm, ⟨65, _⟩ => ⟨S_, .f32⟩
  | .hbm, ⟨66, _⟩ => ⟨S32x2048x1, .f32⟩
  | .hbm, ⟨67, _⟩ => ⟨S32x2048x1, .f32⟩
  | .hbm, ⟨68, _⟩ => ⟨S32x2048x1, .f32⟩
  | .hbm, ⟨69, _⟩ => ⟨S32x2048x1024, .f32⟩
  | .hbm, ⟨70, _⟩ => ⟨S32x2048x1024, .f32⟩
  | .hbm, ⟨71, _⟩ => ⟨S1x1x1024, .f32⟩
  | .hbm, ⟨72, _⟩ => ⟨S32x2048x1024, .f32⟩
  | .hbm, ⟨73, _⟩ => ⟨S32x2048x1024, .f32⟩
  | .hbm, ⟨74, _⟩ => ⟨S32x2048x1024, .f32⟩
  | .hbm, ⟨75, _⟩ => ⟨S32x2048x1024, .f32⟩
  | .hbm, ⟨76, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Kernel4.lean ====
abbrev S32x2048x1024 : Shape := ⟨3, ![32, 2048, 1024]⟩
abbrev S32x9x1024 : Shape := ⟨3, ![32, 9, 1024]⟩
abbrev S1x1024 : Shape := ⟨2, ![1, 1024]⟩
abbrev S1024x6680 : Shape := ⟨2, ![1024, 6680]⟩
abbrev S1024x512 : Shape := ⟨2, ![1024, 512]⟩
abbrev S1024x128 : Shape := ⟨2, ![1024, 128]⟩
abbrev S1024x3584 : Shape := ⟨2, ![1024, 3584]⟩
abbrev S_ : Shape := ⟨0, ![]⟩
abbrev S1024x104 : Shape := ⟨2, ![1024, 104]⟩
abbrev S1024x3072 : Shape := ⟨2, ![1024, 3072]⟩
abbrev S1024x24 : Shape := ⟨2, ![1024, 24]⟩
abbrev S1024x3200 : Shape := ⟨2, ![1024, 3200]⟩
abbrev S32x2048x3584 : Shape := ⟨3, ![32, 2048, 3584]⟩
abbrev S32x2048x3200 : Shape := ⟨3, ![32, 2048, 3200]⟩
abbrev S1x256x1024 : Shape := ⟨3, ![1, 256, 1024]⟩
abbrev S1x9x1024 : Shape := ⟨3, ![1, 9, 1024]⟩
abbrev S1x256x3584 : Shape := ⟨3, ![1, 256, 3584]⟩
abbrev S1x256x3200 : Shape := ⟨3, ![1, 256, 3200]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x512 : Shape := ⟨2, ![256, 512]⟩
abbrev S1x256x512 : Shape := ⟨3, ![1, 256, 512]⟩
abbrev S1024x640 : Shape := ⟨2, ![1024, 640]⟩
abbrev S256x640 : Shape := ⟨2, ![256, 640]⟩
abbrev S1x256x640 : Shape := ⟨3, ![1, 256, 640]⟩

abbrev nBuf : Space → Nat
  | .hbm => 27
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S32x9x1024, .f32⟩
  | .hbm, ⟨2, _⟩ => ⟨S1x1024, .f32⟩
  | .hbm, ⟨3, _⟩ => ⟨S1024x6680, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x3584, .f32⟩
  | .hbm, ⟨18, _⟩ => ⟨S1024x3584, .bf16⟩
  | .hbm, ⟨19, _⟩ => ⟨S_, .f32⟩
  | .hbm, ⟨20, _⟩ => ⟨S1024x104, .f32⟩
  | .hbm, ⟨21, _⟩ => ⟨S1024x3072, .f32⟩
  | .hbm, ⟨22, _⟩ => ⟨S1024x24, .f32⟩
  | .hbm, ⟨23, _⟩ => ⟨S1024x3200, .f32⟩
  | .hbm, ⟨24, _⟩ => ⟨S1024x3200, .bf16⟩
  | .hbm, ⟨25, _⟩ => ⟨S32x2048x3584, .bf16⟩
  | .hbm, ⟨26, _⟩ => ⟨S32x2048x3200, .f32⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x3584, .bf16⟩
  | .local _ .vmem, ⟨6, _⟩ => ⟨S1024x3200, .bf16⟩
  | .local _ .vmem, ⟨7, _⟩ => ⟨S1x256x3584, .bf16⟩
  | .local _ .vmem, ⟨8, _⟩ => ⟨S1x256x3584, .bf16⟩
  | .local _ .vmem, ⟨9, _⟩ => ⟨S1x256x3200, .f32⟩
  | .local _ .vmem, ⟨10, _⟩ => ⟨S1x256x3200, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x3200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S32x2048x1024 : Shape := ⟨3, ![32, 2048, 1024]⟩
abbrev S32x9x1024 : Shape := ⟨3, ![32, 9, 1024]⟩
abbrev S1x1024 : Shape := ⟨2, ![1, 1024]⟩
abbrev S1024x6680 : Shape := ⟨2, ![1024, 6680]⟩
abbrev S32x3x3x1024 : Shape := ⟨4, ![32, 3, 3, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1x1024 : Shape := ⟨4, ![32, 1, 1, 1024]⟩
abbrev S32x1024 : Shape := ⟨2, ![32, 1024]⟩
abbrev S32x1x1024 : Shape := ⟨3, ![32, 1, 1024]⟩
abbrev S1024x512 : Shape := ⟨2, ![1024, 512]⟩
abbrev S1024x128 : Shape := ⟨2, ![1024, 128]⟩
abbrev S1024x3584 : Shape := ⟨2, ![1024, 3584]⟩
abbrev S1024x3072 : Shape := ⟨2, ![1024, 3072]⟩
abbrev S1024x24 : Shape := ⟨2, ![1024, 24]⟩
abbrev S1024x104 : Shape := ⟨2, ![1024, 104]⟩
abbrev S1024x3200 : Shape := ⟨2, ![1024, 3200]⟩
abbrev S32x2048x3584 : Shape := ⟨3, ![32, 2048, 3584]⟩
abbrev S32x2048x3200 : Shape := ⟨3, ![32, 2048, 3200]⟩

abbrev nBuf : Space → Nat
  | .hbm => 57
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x9x1024, .f32⟩
  | .hbm, ⟨2, _⟩ => ⟨S1x1024, .f32⟩
  | .hbm, ⟨3, _⟩ => ⟨S1024x6680, .f32⟩
  | .hbm, ⟨4, _⟩ => ⟨S32x3x3x1024, .f32⟩
  | .hbm, ⟨5, _⟩ => ⟨S1024, .f32⟩
  | .hbm, ⟨6, _⟩ => ⟨S32x2048x1024, .f32⟩
  | .hbm, ⟨7, _⟩ => ⟨S_, .f32⟩
  | .hbm, ⟨8, _⟩ => ⟨S32x2048, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S32x2048x1, .f32⟩
  | .hbm, ⟨17, _⟩ => ⟨S32x2048x1024, .f32⟩
  | .hbm, ⟨18, _⟩ => ⟨S32x2048x1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S32x1x1x1024, .f32⟩
  | .hbm, ⟨23, _⟩ => ⟨S32x1024, .f32⟩
  | .hbm, ⟨24, _⟩ => ⟨S32x1x1024, .f32⟩
  | .hbm, ⟨25, _⟩ => ⟨S_, .f32⟩
  | .hbm, ⟨26, _⟩ => ⟨S32x1x1024, .f32⟩
  | .hbm, ⟨27, _⟩ => ⟨S32x1x1024, .f32⟩
  | .hbm, ⟨28, _⟩ => ⟨S32x2048x1024, .f32⟩
  | .hbm, ⟨29, _⟩ => ⟨S32x2048x1024, .f32⟩
  | .hbm, ⟨30, _⟩ => ⟨S32x1x1x1024, .f32⟩
  | .hbm, ⟨31, _⟩ => ⟨S32x1024, .f32⟩
  | .hbm, ⟨32, _⟩ => ⟨S32x1x1024, .f32⟩
  | .hbm, ⟨33, _⟩ => ⟨S32x2048x1024, .f32⟩
  | .hbm, ⟨34, _⟩ => ⟨S32x2048x1024, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S1024x512, .f32⟩
  | .hbm, ⟨40, _⟩ => ⟨S1024x128, .f32⟩
  | .hbm, ⟨41, _⟩ => ⟨S1024x128, .f32⟩
  | .hbm, ⟨42, _⟩ => ⟨S1024x128, .f32⟩
  | .hbm, ⟨43, _⟩ => ⟨S1024x128, .f32⟩
  | .hbm, ⟨44, _⟩ => ⟨S1024x128, .f32⟩
  | .hbm, ⟨45, _⟩ => ⟨S1024x128, .f32⟩
  | .hbm, ⟨46, _⟩ => ⟨S1024x128, .f32⟩
  | .hbm, ⟨47, _⟩ => ⟨S1024x128, .f32⟩
  | .hbm, ⟨48, _⟩ => ⟨S1024x3584, .f32⟩
  | .hbm, ⟨49, _⟩ => ⟨S1024x3072, .f32⟩
  | .hbm, ⟨50, _⟩ => ⟨S1024x24, .f32⟩
  | .hbm, ⟨51, _⟩ => ⟨S_, .f32⟩
  | .hbm, ⟨52, _⟩ => ⟨S1024x104, .f32⟩
  | .hbm, ⟨53, _⟩ => ⟨S1024x3200, .f32⟩
  | .hbm, ⟨54, _⟩ => ⟨S32x2048x3584, .f32⟩
  | .hbm, ⟨55, _⟩ => ⟨S32x2048x3584, .bf16⟩
  | .hbm, ⟨56, _⟩ => ⟨S32x2048x3200, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Kernel5.lean ====
abbrev S32x2048x1024 : Shape := ⟨3, ![32, 2048, 1024]⟩
abbrev S32x9x1024 : Shape := ⟨3, ![32, 9, 1024]⟩
abbrev S1x1024 : Shape := ⟨2, ![1, 1024]⟩
abbrev S32x2048x512 : Shape := ⟨3, ![32, 2048, 512]⟩
abbrev S32x2048x3200 : Shape := ⟨3, ![32, 2048, 3200]⟩
abbrev S3x512x1024 : Shape := ⟨3, ![3, 512, 1024]⟩
abbrev S1024x1024 : Shape := ⟨2, ![1024, 1024]⟩
abbrev S1x256x1024 : Shape := ⟨3, ![1, 256, 1024]⟩
abbrev S1x9x1024 : Shape := ⟨3, ![1, 9, 1024]⟩
abbrev S1x256x512 : Shape := ⟨3, ![1, 256, 512]⟩
abbrev S1x256x3072 : Shape := ⟨3, ![1, 256, 3072]⟩
abbrev S1x256x128 : Shape := ⟨3, ![1, 256, 128]⟩
abbrev S256x128 : Shape := ⟨2, ![256, 128]⟩
abbrev S128x512 : Shape := ⟨2, ![128, 512]⟩
abbrev S256x512 : Shape := ⟨2, ![256, 512]⟩
abbrev S256x1024 : Shape := ⟨2, ![256, 1024]⟩
abbrev S1x512x1024 : Shape := ⟨3, ![1, 512, 1024]⟩
abbrev S512x1024 : Shape := ⟨2, ![512, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 14
  | .vmem => 23
  | .smem => 0
  | _ => 0

abbrev bufTy : (tb : Table) → Fin (tcTables nBuf tb) → BufTy
  | .hbm, ⟨0, _⟩ => ⟨S32x2048x1024, .f32⟩
  | .hbm, ⟨1, _⟩ => ⟨S32x9x1024, .f32⟩
  | .hbm, ⟨2, _⟩ => ⟨S1x1024, .f32⟩
  | .hbm, ⟨3, _⟩ => ⟨S32x2048x512, .bf16⟩
  | .hbm, ⟨4, _⟩ => ⟨S32x2048x512, .bf16⟩
  | .hbm, ⟨5, _⟩ => ⟨S32x2048x512, .bf16⟩
  | .hbm, ⟨6, _⟩ => ⟨S32x2048x512, .bf16⟩
  | .hbm, ⟨7, _⟩ => ⟨S32x2048x512, .bf16⟩
  | .hbm, ⟨8, _⟩ => ⟨S32x2048x3200, .f32⟩
  | .hbm, ⟨9, _⟩ => ⟨S3x512x1024, .f32⟩
  | .hbm, ⟨10, _⟩ => ⟨S1024x1024, .f32⟩
  | .hbm, ⟨11, _⟩ => ⟨S3x512x1024, .bf16⟩
  | .hbm, ⟨12, _⟩ => ⟨S1024x1024, .bf16⟩
  | .hbm, ⟨13, _⟩ => ⟨S32x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x3072, .f32⟩
  | .local _ .vmem, ⟨16, _⟩ => ⟨S1x256x3072, .f32⟩
  | .local _ .vmem, ⟨17, _⟩ => ⟨S1x256x128, .f32⟩
  | .local _ .vmem, ⟨18, _⟩ => ⟨S1x256x128, .f32⟩
  | .local _ .vmem, ⟨19, _⟩ => ⟨S3x512x1024, .bf16⟩
  | .local _ .vmem, ⟨20, _⟩ => ⟨S1024x1024, .bf16⟩
  | .local _ .vmem, ⟨21, _⟩ => ⟨S1x256x1024, .f32⟩
  | .local _ .vmem, ⟨22, _⟩ => ⟨S1x256x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S32x2048x1024 : Shape := ⟨3, ![32, 2048, 1024]⟩
abbrev S32x9x1024 : Shape := ⟨3, ![32, 9, 1024]⟩
abbrev S1x1024 : Shape := ⟨2, ![1, 1024]⟩
abbrev S32x2048x512 : Shape := ⟨3, ![32, 2048, 512]⟩
abbrev S32x2048x3200 : Shape := ⟨3, ![32, 2048, 3200]⟩
abbrev S3x512x1024 : Shape := ⟨3, ![3, 512, 1024]⟩
abbrev S1024x1024 : Shape := ⟨2, ![1024, 1024]⟩
abbrev S32x2048x24 : Shape := ⟨3, ![32, 2048, 24]⟩
abbrev S_ : Shape := ⟨0, ![]⟩
abbrev S32x2048x3x8 : Shape := ⟨4, ![32, 2048, 3, 8]⟩
abbrev S32x2048x1x8 : Shape := ⟨4, ![32, 2048, 1, 8]⟩
abbrev S32x2048x8 : Shape := ⟨3, ![32, 2048, 8]⟩
abbrev S32x2048x8x1 : Shape := ⟨4, ![32, 2048, 8, 1]⟩
abbrev S32x2048x8x64 : Shape := ⟨4, ![32, 2048, 8, 64]⟩
abbrev S32x2048x3072 : Shape := ⟨3, ![32, 2048, 3072]⟩
abbrev S32x2048x3x1024 : Shape := ⟨4, ![32, 2048, 3, 1024]⟩
abbrev S32x2048x1x1024 : Shape := ⟨4, ![32, 2048, 1, 1024]⟩
abbrev S1x512x1024 : Shape := ⟨3, ![1, 512, 1024]⟩
abbrev S512x1024 : Shape := ⟨2, ![512, 1024]⟩
abbrev S32x3x3x1024 : Shape := ⟨4, ![32, 3, 3, 1024]⟩
abbrev S32x1x1x1024 : Shape := ⟨4, ![32, 1, 1, 1024]⟩
abbrev S32x1024 : Shape := ⟨2, ![32, 1024]⟩
abbrev S32x1x1024 : Shape := ⟨3, ![32, 1, 1024]⟩
abbrev S1024 : Shape := ⟨1, ![1024]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x9x1024, .f32⟩
  | .hbm, ⟨2, _⟩ => ⟨S1x1024, .f32⟩
  | .hbm, ⟨3, _⟩ => ⟨S32x2048x512, .bf16⟩
  | .hbm, ⟨4, _⟩ => ⟨S32x2048x512, .bf16⟩
  | .hbm, ⟨5, _⟩ => ⟨S32x2048x512, .bf16⟩
  | .hbm, ⟨6, _⟩ => ⟨S32x2048x512, .bf16⟩
  | .hbm, ⟨7, _⟩ => ⟨S32x2048x512, .bf16⟩
  | .hbm, ⟨8, _⟩ => ⟨S32x2048x3200, .f32⟩
  | .hbm, ⟨9, _⟩ => ⟨S3x512x1024, .f32⟩
  | .hbm, ⟨10, _⟩ => ⟨S1024x1024, .f32⟩
  | .hbm, ⟨11, _⟩ => ⟨S32x2048x24, .f32⟩
  | .hbm, ⟨12, _⟩ => ⟨S32x2048x24, .f32⟩
  | .hbm, ⟨13, _⟩ => ⟨S32x2048x24, .f32⟩
  | .hbm, ⟨14, _⟩ => ⟨S_, .f32⟩
  | .hbm, ⟨15, _⟩ => ⟨S32x2048x24, .f32⟩
  | .hbm, ⟨16, _⟩ => ⟨S32x2048x24, .f32⟩
  | .hbm, ⟨17, _⟩ => ⟨S_, .f32⟩
  | .hbm, ⟨18, _⟩ => ⟨S32x2048x24, .f32⟩
  | .hbm, ⟨19, _⟩ => ⟨S32x2048x24, .f32⟩
  | .hbm, ⟨20, _⟩ => ⟨S32x2048x3x8, .f32⟩
  | .hbm, ⟨21, _⟩ => ⟨S32x2048x1x8, .f32⟩
  | .hbm, ⟨22, _⟩ => ⟨S32x2048x8, .f32⟩
  | .hbm, ⟨23, _⟩ => ⟨S32x2048x8x1, .f32⟩
  | .hbm, ⟨24, _⟩ => ⟨S32x2048x512, .f32⟩
  | .hbm, ⟨25, _⟩ => ⟨S32x2048x8x64, .f32⟩
  | .hbm, ⟨26, _⟩ => ⟨S32x2048x8x64, .f32⟩
  | .hbm, ⟨27, _⟩ => ⟨S32x2048x8x64, .f32⟩
  | .hbm, ⟨28, _⟩ => ⟨S32x2048x1x8, .f32⟩
  | .hbm, ⟨29, _⟩ => ⟨S32x2048x8, .f32⟩
  | .hbm, ⟨30, _⟩ => ⟨S32x2048x8x1, .f32⟩
  | .hbm, ⟨31, _⟩ => ⟨S32x2048x512, .f32⟩
  | .hbm, ⟨32, _⟩ => ⟨S32x2048x8x64, .f32⟩
  | .hbm, ⟨33, _⟩ => ⟨S32x2048x8x64, .f32⟩
  | .hbm, ⟨34, _⟩ => ⟨S32x2048x8x64, .f32⟩
  | .hbm, ⟨35, _⟩ => ⟨S32x2048x8x64, .f32⟩
  | .hbm, ⟨36, _⟩ => ⟨S32x2048x1x8, .f32⟩
  | .hbm, ⟨37, _⟩ => ⟨S32x2048x8, .f32⟩
  | .hbm, ⟨38, _⟩ => ⟨S32x2048x8x1, .f32⟩
  | .hbm, ⟨39, _⟩ => ⟨S32x2048x512, .f32⟩
  | .hbm, ⟨40, _⟩ => ⟨S32x2048x8x64, .f32⟩
  | .hbm, ⟨41, _⟩ => ⟨S32x2048x8x64, .f32⟩
  | .hbm, ⟨42, _⟩ => ⟨S32x2048x8x64, .f32⟩
  | .hbm, ⟨43, _⟩ => ⟨S32x2048x8x64, .f32⟩
  | .hbm, ⟨44, _⟩ => ⟨S32x2048x512, .f32⟩
  | .hbm, ⟨45, _⟩ => ⟨S32x2048x3072, .f32⟩
  | .hbm, ⟨46, _⟩ => ⟨S32x2048x3072, .f32⟩
  | .hbm, ⟨47, _⟩ => ⟨S32x2048x3072, .f32⟩
  | .hbm, ⟨48, _⟩ => ⟨S_, .f32⟩
  | .hbm, ⟨49, _⟩ => ⟨S32x2048x3072, .f32⟩
  | .hbm, ⟨50, _⟩ => ⟨S32x2048x3072, .f32⟩
  | .hbm, ⟨51, _⟩ => ⟨S_, .f32⟩
  | .hbm, ⟨52, _⟩ => ⟨S32x2048x3072, .f32⟩
  | .hbm, ⟨53, _⟩ => ⟨S32x2048x3072, .f32⟩
  | .hbm, ⟨54, _⟩ => ⟨S32x2048x3x1024, .f32⟩
  | .hbm, ⟨55, _⟩ => ⟨S32x2048x1x1024, .f32⟩
  | .hbm, ⟨56, _⟩ => ⟨S32x2048x1024, .f32⟩
  | .hbm, ⟨57, _⟩ => ⟨S32x2048x512, .f32⟩
  | .hbm, ⟨58, _⟩ => ⟨S1x512x1024, .f32⟩
  | .hbm, ⟨59, _⟩ => ⟨S512x1024, .f32⟩
  | .hbm, ⟨60, _⟩ => ⟨S32x2048x1024, .f32⟩
  | .hbm, ⟨61, _⟩ => ⟨S32x2048x1024, .f32⟩
  | .hbm, ⟨62, _⟩ => ⟨S32x2048x1x1024, .f32⟩
  | .hbm, ⟨63, _⟩ => ⟨S32x2048x1024, .f32⟩
  | .hbm, ⟨64, _⟩ => ⟨S1x512x1024, .f32⟩
  | .hbm, ⟨65, _⟩ => ⟨S512x1024, .f32⟩
  | .hbm, ⟨66, _⟩ => ⟨S32x2048x1024, .f32⟩
  | .hbm, ⟨67, _⟩ => ⟨S32x2048x1024, .f32⟩
  | .hbm, ⟨68, _⟩ => ⟨S32x2048x1024, .f32⟩
  | .hbm, ⟨69, _⟩ => ⟨S32x2048x1x1024, .f32⟩
  | .hbm, ⟨70, _⟩ => ⟨S32x2048x1024, .f32⟩
  | .hbm, ⟨71, _⟩ => ⟨S32x2048x512, .f32⟩
  | .hbm, ⟨72, _⟩ => ⟨S1x512x1024, .f32⟩
  | .hbm, ⟨73, _⟩ => ⟨S512x1024, .f32⟩
  | .hbm, ⟨74, _⟩ => ⟨S32x2048x1024, .f32⟩
  | .hbm, ⟨75, _⟩ => ⟨S32x2048x1024, .f32⟩
  | .hbm, ⟨76, _⟩ => ⟨S32x2048x1024, .f32⟩
  | .hbm, ⟨77, _⟩ => ⟨S32x3x3x1024, .f32⟩
  | .hbm, ⟨78, _⟩ => ⟨S32x1x1x1024, .f32⟩
  | .hbm, ⟨79, _⟩ => ⟨S32x1024, .f32⟩
  | .hbm, ⟨80, _⟩ => ⟨S32x1x1024, .f32⟩
  | .hbm, ⟨81, _⟩ => ⟨S32x2048x1024, .f32⟩
  | .hbm, ⟨82, _⟩ => ⟨S1024, .f32⟩
  | .hbm, ⟨83, _⟩ => ⟨S32x2048x1024, .f32⟩
  | .hbm, ⟨84, _⟩ => ⟨S_, .f32⟩
  | .hbm, ⟨85, _⟩ => ⟨S32x2048, .f32⟩
  | .hbm, ⟨86, _⟩ => ⟨S32x2048x1, .f32⟩
  | .hbm, ⟨87, _⟩ => ⟨S_, .f32⟩
  | .hbm, ⟨88, _⟩ => ⟨S32x2048x1, .f32⟩
  | .hbm, ⟨89, _⟩ => ⟨S32x2048x1, .f32⟩
  | .hbm, ⟨90, _⟩ => ⟨S_, .f32⟩
  | .hbm, ⟨91, _⟩ => ⟨S32x2048x1, .f32⟩
  | .hbm, ⟨92, _⟩ => ⟨S32x2048x1, .f32⟩
  | .hbm, ⟨93, _⟩ => ⟨S32x2048x1, .f32⟩
  | .hbm, ⟨94, _⟩ => ⟨S32x2048x1024, .f32⟩
  | .hbm, ⟨95, _⟩ => ⟨S32x2048x1024, .f32⟩
  | .hbm, ⟨96, _⟩ => ⟨S1x1x1024, .f32⟩
  | .hbm, ⟨97, _⟩ => ⟨S32x2048x1024, .f32⟩
  | .hbm, ⟨98, _⟩ => ⟨S32x2048x1024, .f32⟩
  | .hbm, ⟨99, _⟩ => ⟨S32x2048x1024, .f32⟩
  | .hbm, ⟨100, _⟩ => ⟨S32x2048x1024, .f32⟩
  | .hbm, ⟨101, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_3 : Ref sig .tc := ⟨.hbm, 84, rfl⟩
abbrev main_v69 : Ref sig .tc := ⟨.hbm, 85, rfl⟩
abbrev main_v70 : Ref sig .tc := ⟨.hbm, 86, rfl⟩
abbrev main_cst_4 : Ref sig .tc := ⟨.hbm, 87, rfl⟩
abbrev main_v71 : Ref sig .tc := ⟨.hbm, 88, rfl⟩
abbrev main_v72 : Ref sig .tc := ⟨.hbm, 89, rfl⟩
abbrev main_cst_5 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩

abbrev nD : Nat := 1
abbrev τ : Topo := Topo.v7x

variable {F : FTy → Type} [FloatOps F]
-- ==== Kernel6.lean ====
abbrev S32x2048x3584 : Shape := ⟨3, ![32, 2048, 3584]⟩
abbrev S32x16 : Shape := ⟨2, ![32, 16]⟩
abbrev S32x8 : Shape := ⟨2, ![32, 8]⟩
abbrev S128 : Shape := ⟨1, ![128]⟩
abbrev S128x1 : Shape := ⟨2, ![128, 1]⟩
abbrev S_ : Shape := ⟨0, ![]⟩
abbrev S640 : Shape := ⟨1, ![640]⟩
abbrev S1x640 : Shape := ⟨2, ![1, 640]⟩
abbrev S128x640 : Shape := ⟨2, ![128, 640]⟩
abbrev S128x640x1 : Shape := ⟨3, ![128, 640, 1]⟩
abbrev S128x640x8 : Shape := ⟨3, ![128, 640, 8]⟩
abbrev S8x128x640 : Shape := ⟨3, ![8, 128, 640]⟩
abbrev S1x128x640 : Shape := ⟨3, ![1, 128, 640]⟩
abbrev S2x512x640 : Shape := ⟨3, ![2, 512, 640]⟩
abbrev S32x2048x512 : Shape := ⟨3, ![32, 2048, 512]⟩
abbrev S1x128x512 : Shape := ⟨3, ![1, 128, 512]⟩
abbrev S1x2048x128 : Shape := ⟨3, ![1, 2048, 128]⟩
abbrev S1x128x128 : Shape := ⟨3, ![1, 128, 128]⟩
abbrev S128x128 : Shape := ⟨2, ![128, 128]⟩
abbrev S640x128 : Shape := ⟨2, ![640, 128]⟩
abbrev S128x512 : Shape := ⟨2, ![128, 512]⟩
abbrev S512x128 : Shape := ⟨2, ![512, 128]⟩
abbrev S512x640 : Shape := ⟨2, ![512, 640]⟩
abbrev S1x512x640 : Shape := ⟨3, ![1, 512, 640]⟩
abbrev S512 : Shape := ⟨1, ![512]⟩
abbrev S512x1 : Shape := ⟨2, ![512, 1]⟩
abbrev S128x256 : Shape := ⟨2, ![128, 256]⟩

abbrev nBuf : Space → Nat
  | .hbm => 66
  | .vmem => 9
  | .smem => 0
  | _ => 0

abbrev bufTy : (tb : Table) → Fin (tcTables nBuf tb) → BufTy
  | .hbm, ⟨0, _⟩ => ⟨S32x2048x3584, .bf16⟩
  | .hbm, ⟨1, _⟩ => ⟨S32x16, .f32⟩
  | .hbm, ⟨2, _⟩ => ⟨S32x8, .f32⟩
  | .hbm, ⟨3, _⟩ => ⟨S128, .i32⟩
  | .hbm, ⟨4, _⟩ => ⟨S128x1, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S640, .i32⟩
  | .hbm, ⟨9, _⟩ => ⟨S1x640, .i32⟩
  | .hbm, ⟨10, _⟩ => ⟨S128x640, .i32⟩
  | .hbm, ⟨11, _⟩ => ⟨S128x640, .i32⟩
  | .hbm, ⟨12, _⟩ => ⟨S128x640, .i32⟩
  | .hbm, ⟨13, _⟩ => ⟨S_, .i32⟩
  | .hbm, ⟨14, _⟩ => ⟨S128x640, .i32⟩
  | .hbm, ⟨15, _⟩ => ⟨S128x640, .i32⟩
  | .hbm, ⟨16, _⟩ => ⟨S_, .i32⟩
  | .hbm, ⟨17, _⟩ => ⟨S128x640, .i32⟩
  | .hbm, ⟨18, _⟩ => ⟨S128x640, .i32⟩
  | .hbm, ⟨19, _⟩ => ⟨S128x640, .f32⟩
  | .hbm, ⟨20, _⟩ => ⟨S_, .f32⟩
  | .hbm, ⟨21, _⟩ => ⟨S128x640, .f32⟩
  | .hbm, ⟨22, _⟩ => ⟨S128x640, .f32⟩
  | .hbm, ⟨23, _⟩ => ⟨S128x640, .f32⟩
  | .hbm, ⟨24, _⟩ => ⟨S_, .f32⟩
  | .hbm, ⟨25, _⟩ => ⟨S128x640, .f32⟩
  | .hbm, ⟨26, _⟩ => ⟨S128x640, .f32⟩
  | .hbm, ⟨27, _⟩ => ⟨S_, .f32⟩
  | .hbm, ⟨28, _⟩ => ⟨S128x640, .f32⟩
  | .hbm, ⟨29, _⟩ => ⟨S128x640, .f32⟩
  | .hbm, ⟨30, _⟩ => ⟨S128x640, .i32⟩
  | .hbm, ⟨31, _⟩ => ⟨S_, .i32⟩
  | .hbm, ⟨32, _⟩ => ⟨S128x640, .i32⟩
  | .hbm, ⟨33, _⟩ => ⟨S128x640, .i32⟩
  | .hbm, ⟨34, _⟩ => ⟨S_, .i32⟩
  | .hbm, ⟨35, _⟩ => ⟨S128x640, .i32⟩
  | .hbm, ⟨36, _⟩ => ⟨S128x640, .i32⟩
  | .hbm, ⟨37, _⟩ => ⟨S_, .i32⟩
  | .hbm, ⟨38, _⟩ => ⟨S128x640, .i32⟩
  | .hbm, ⟨39, _⟩ => ⟨S128x640, .i1⟩
  | .hbm, ⟨40, _⟩ => ⟨S128x640, .i32⟩
  | .hbm, ⟨41, _⟩ => ⟨S_, .i32⟩
  | .hbm, ⟨42, _⟩ => ⟨S128x640, .i32⟩
  | .hbm, ⟨43, _⟩ => ⟨S128x640, .i1⟩
  | .hbm, ⟨44, _⟩ => ⟨S_, .i32⟩
  | .hbm, ⟨45, _⟩ => ⟨S128x640, .i32⟩
  | .hbm, ⟨46, _⟩ => ⟨S128x640, .i32⟩
  | .hbm, ⟨47, _⟩ => ⟨S128x640, .i32⟩
  | .hbm, ⟨48, _⟩ => ⟨S128x640x1, .i32⟩
  | .hbm, ⟨49, _⟩ => ⟨S128x640x8, .f32⟩
  | .hbm, ⟨50, _⟩ => ⟨S8x128x640, .f32⟩
  | .hbm, ⟨51, _⟩ => ⟨S_, .i32⟩
  | .hbm, ⟨52, _⟩ => ⟨S128x640, .i32⟩
  | .hbm, ⟨53, _⟩ => ⟨S128x640, .i1⟩
  | .hbm, ⟨54, _⟩ => ⟨S_, .i32⟩
  | .hbm, ⟨55, _⟩ => ⟨S128x640, .i32⟩
  | .hbm, ⟨56, _⟩ => ⟨S128x640, .i1⟩
  | .hbm, ⟨57, _⟩ => ⟨S128x640, .i1⟩
  | .hbm, ⟨58, _⟩ => ⟨S1x128x640, .i1⟩
  | .hbm, ⟨59, _⟩ => ⟨S_, .f32⟩
  | .hbm, ⟨60, _⟩ => ⟨S_, .f32⟩
  | .hbm, ⟨61, _⟩ => ⟨S8x128x640, .i1⟩
  | .hbm, ⟨62, _⟩ => ⟨S8x128x640, .f32⟩
  | .hbm, ⟨63, _⟩ => ⟨S8x128x640, .f32⟩
  | .hbm, ⟨64, _⟩ => ⟨S2x512x640, .f32⟩
  | .hbm, ⟨65, _⟩ => ⟨S32x2048x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S2x512x640, .f32⟩
  | .local _ .vmem, ⟨7, _⟩ => ⟨S1x128x512, .bf16⟩
  | .local _ .vmem, ⟨8, _⟩ => ⟨S1x128x512, .bf16⟩
  | _, _ => ⟨S32x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_7 : Ref sig .tc := ⟨.hbm, 41, rfl⟩
abbrev main_v30 : Ref sig .tc := ⟨.hbm, 42, rfl⟩
abbrev main_v31 : Ref sig .tc := ⟨.hbm, 43, rfl⟩
abbrev main_c_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_9 : Ref sig .tc := ⟨.hbm, 51, rfl⟩
abbrev main_v38 : Ref sig .tc := ⟨.hbm, 52, rfl⟩
abbrev main_v39 : Ref sig .tc := ⟨.hbm, 53, rfl⟩
abbrev main_c_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 16], ![false, false]⟩

def k0_mult1 (i : grid0.Coords) : BitVec 32 :=
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  v3
def k0_off1 (i : grid0.Coords) (c0_i32 : BitVec 32) : Fin 3 → Nat :=
  let c0 : Index := 0#32
  let arg1 : BitVec 32 := BitVec.ofNat 32 (i 1).val
  let c4_i32 : BitVec 32 := 4#32
  let v0 : BitVec 32 := Scalar.subi arg1 c4_i32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  let v20 : BitVec 32 := v3
  let v21 : Index := Scalar.indexCast v20
  let c0_14 : Index := 0#32
  ![0, v21.toNat, 0]
def k0_mult2 (i : grid0.Coords) : BitVec 32 :=
  let arg1 : BitVec 32 := BitVec.ofNat 32 (i 1).val
  let c4_i32_1 : BitVec 32 := 4#32
  let v4 : BitVec 32 := Scalar.subi arg1 c4_i32_1
  let c1_i32 : BitVec 32 := 1#32
  let v5 : BitVec 32 := Scalar.addi v4 c1_i32
  let c0_i32_2 : BitVec 32 := 0#32
  let v6 : BitVec 32 := Scalar.maxsi v5 c0_i32_2
  let c128_i32_3 : BitVec 32 := 128#32
  let v7 : BitVec 32 := Scalar.muli v6 c128_i32_3
  v7
def k0_mult3 (i : grid0.Coords) : BitVec 32 :=
  let arg1 : BitVec 32 := BitVec.ofNat 32 (i 1).val
  let c4_i32_4 : BitVec 32 := 4#32
  let v8 : BitVec 32 := Scalar.subi arg1 c4_i32_4
  let c2_i32 : BitVec 32 := 2#32
  let v9 : BitVec 32 := Scalar.addi v8 c2_i32
  let c0_i32_5 : BitVec 32 := 0#32
  let v10 : BitVec 32 := Scalar.maxsi v9 c0_i32_5
  let c128_i32_6 : BitVec 32 := 128#32
  let v11 : BitVec 32 := Scalar.muli v10 c128_i32_6
  v11
def k0_mult4 (i : grid0.Coords) : BitVec 32 :=
  let arg1 : BitVec 32 := BitVec.ofNat 32 (i 1).val
  let c4_i32_7 : BitVec 32 := 4#32
  let v12 : BitVec 32 := Scalar.subi arg1 c4_i32_7
  let c3_i32 : BitVec 32 := 3#32
  let v13 : BitVec 32 := Scalar.addi v12 c3_i32
  let c0_i32_8 : BitVec 32 := 0#32
  let v14 : BitVec 32 := Scalar.maxsi v13 c0_i32_8
  let c128_i32_9 : BitVec 32 := 128#32
  let v15 : BitVec 32 := Scalar.muli v14 c128_i32_9
  v15
def k0_mult5 (i : grid0.Coords) : BitVec 32 :=
  let arg1 : BitVec 32 := BitVec.ofNat 32 (i 1).val
  let c4_i32_10 : BitVec 32 := 4#32
  let v16 : BitVec 32 := Scalar.subi arg1 c4_i32_10
  let c4_i32_11 : BitVec 32 := 4#32
  let v17 : BitVec 32 := Scalar.addi v16 c4_i32_11
  let c0_i32_12 : BitVec 32 := 0#32
  let v18 : BitVec 32 := Scalar.maxsi v17 c0_i32_12
  let c128_i32_13 : BitVec 32 := 128#32
  let v19 : BitVec 32 := Scalar.muli v18 c128_i32_13
  v19
def k0_mult6 (i : grid0.Coords) : BitVec 32 :=
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  v3
def k0_mult7 (i : grid0.Coords) : BitVec 32 :=
  let arg1 : BitVec 32 := BitVec.ofNat 32 (i 1).val
  let c4_i32_1 : BitVec 32 := 4#32
  let v4 : BitVec 32 := Scalar.subi arg1 c4_i32_1
  let c1_i32 : BitVec 32 := 1#32
  let v5 : BitVec 32 := Scalar.addi v4 c1_i32
  let c0_i32_2 : BitVec 32 := 0#32
  let v6 : BitVec 32 := Scalar.maxsi v5 c0_i32_2
  let c128_i32_3 : BitVec 32 := 128#32
  let v7 : BitVec 32 := Scalar.muli v6 c128_i32_3
  v7
def k0_mult8 (i : grid0.Coords) : BitVec 32 :=
  let arg1 : BitVec 32 := BitVec.ofNat 32 (i 1).val
  let c4_i32_4 : BitVec 32 := 4#32
  let v8 : BitVec 32 := Scalar.subi arg1 c4_i32_4
  let c2_i32 : BitVec 32 := 2#32
  let v9 : BitVec 32 := Scalar.addi v8 c2_i32
  let c0_i32_5 : BitVec 32 := 0#32
  let v10 : BitVec 32 := Scalar.maxsi v9 c0_i32_5
  let c128_i32_6 : BitVec 32 := 128#32
  let v11 : BitVec 32 := Scalar.muli v10 c128_i32_6
  v11
def k0_mult9 (i : grid0.Coords) : BitVec 32 :=
  let arg1 : BitVec 32 := BitVec.ofNat 32 (i 1).val
  let c4_i32_7 : BitVec 32 := 4#32
  let v12 : BitVec 32 := Scalar.subi arg1 c4_i32_7
  let c3_i32 : BitVec 32 := 3#32
  let v13 : BitVec 32 := Scalar.addi v12 c3_i32
  let c0_i32_8 : BitVec 32 := 0#32
  let v14 : BitVec 32 := Scalar.maxsi v13 c0_i32_8
  let c128_i32_9 : BitVec 32 := 128#32
  let v15 : BitVec 32 := Scalar.muli v14 c128_i32_9
  v15
def k0_mult10 (i : grid0.Coords) : BitVec 32 :=
  let arg1 : BitVec 32 := BitVec.ofNat 32 (i 1).val
  let c4_i32_10 : BitVec 32 := 4#32
  let v16 : BitVec 32 := Scalar.subi arg1 c4_i32_10
  let c4_i32_11 : BitVec 32 := 4#32
  let v17 : BitVec 32 := Scalar.addi v16 c4_i32_11
  let c0_i32_12 : BitVec 32 := 0#32
  let v18 : BitVec 32 := Scalar.maxsi v17 c0_i32_12
  let c128_i32_13 : BitVec 32 := 128#32
  let v19 : BitVec 32 := Scalar.muli v18 c128_i32_13
  v19
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c26_i32 : BitVec 32 := 26#32
  let c0_i32_0 : BitVec 32 := 0#32
  ![arg0.toNat, c0_i32.toNat, c26_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c27_i32 : BitVec 32 := 27#32
  let c0_i32_0 : BitVec 32 := 0#32
  ![arg0.toNat, c0_i32.toNat, c27_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x512x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel6Ideal.lean ====
variable {F : FTy → Type} [FloatOps F] [Named F]
def κ : String → Option EReal := fun
  | "mask" => some ⊥
  | _ => none
-- ==== Reference6Ideal.lean ====
abbrev S32x2048x3584 : Shape := ⟨3, ![32, 2048, 3584]⟩
abbrev S32x16 : Shape := ⟨2, ![32, 16]⟩
abbrev S32x2048x512 : Shape := ⟨3, ![32, 2048, 512]⟩
abbrev S32x2048x128 : Shape := ⟨3, ![32, 2048, 128]⟩
abbrev S32x8 : Shape := ⟨2, ![32, 8]⟩
abbrev S32x2048x2x4x64 : Shape := ⟨5, ![32, 2048, 2, 4, 64]⟩
abbrev S32x2x4x2048x64 : Shape := ⟨5, ![32, 2, 4, 2048, 64]⟩
abbrev S32x2048x2x64 : Shape := ⟨4, ![32, 2048, 2, 64]⟩
abbrev S32x2x2048x64 : Shape := ⟨4, ![32, 2, 2048, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S2x4x2048x2048 : Shape := ⟨4, ![2, 4, 2048, 2048]⟩
abbrev S32x2x4x2048x2048 : Shape := ⟨5, ![32, 2, 4, 2048, 2048]⟩
abbrev S1x2x4x2048x2048 : Shape := ⟨5, ![1, 2, 4, 2048, 2048]⟩
abbrev S32x2x4x2048 : Shape := ⟨4, ![32, 2, 4, 2048]⟩
abbrev S32x2x4x2048x1 : Shape := ⟨5, ![32, 2, 4, 2048, 1]⟩

abbrev nBuf : Space → Nat
  | .hbm => 95
  | .vmem => 0
  | .smem => 0
  | _ => 0

abbrev bufTy : (tb : Table) → Fin (tcTables nBuf tb) → BufTy
  | .hbm, ⟨0, _⟩ => ⟨S32x2048x3584, .bf16⟩
  | .hbm, ⟨1, _⟩ => ⟨S32x16, .f32⟩
  | .hbm, ⟨2, _⟩ => ⟨S32x2048x512, .bf16⟩
  | .hbm, ⟨3, _⟩ => ⟨S32x2048x512, .f32⟩
  | .hbm, ⟨4, _⟩ => ⟨S32x2048x128, .bf16⟩
  | .hbm, ⟨5, _⟩ => ⟨S32x2048x128, .f32⟩
  | .hbm, ⟨6, _⟩ => ⟨S32x2048x128, .bf16⟩
  | .hbm, ⟨7, _⟩ => ⟨S32x2048x128, .f32⟩
  | .hbm, ⟨8, _⟩ => ⟨S32x8, .f32⟩
  | .hbm, ⟨9, _⟩ => ⟨S32x2048x2x4x64, .f32⟩
  | .hbm, ⟨10, _⟩ => ⟨S32x2x4x2048x64, .f32⟩
  | .hbm, ⟨11, _⟩ => ⟨S32x2048x2x64, .f32⟩
  | .hbm, ⟨12, _⟩ => ⟨S32x2x2048x64, .f32⟩
  | .hbm, ⟨13, _⟩ => ⟨S32x2048x2x64, .f32⟩
  | .hbm, ⟨14, _⟩ => ⟨S32x2x2048x64, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S2048x2048, .i1⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S_, .i32⟩
  | .hbm, ⟨33, _⟩ => ⟨S2048x2048, .i32⟩
  | .hbm, ⟨34, _⟩ => ⟨S2048x2048, .i32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S2048x2048, .i32⟩
  | .hbm, ⟨47, _⟩ => ⟨S_, .i32⟩
  | .hbm, ⟨48, _⟩ => ⟨S2048x2048, .i32⟩
  | .hbm, ⟨49, _⟩ => ⟨S2048x2048, .i32⟩
  | .hbm, ⟨50, _⟩ => ⟨S_, .i32⟩
  | .hbm, ⟨51, _⟩ => ⟨S2048x2048, .i32⟩
  | .hbm, ⟨52, _⟩ => ⟨S2048x2048, .i32⟩
  | .hbm, ⟨53, _⟩ => ⟨S_, .i32⟩
  | .hbm, ⟨54, _⟩ => ⟨S2048x2048, .i32⟩
  | .hbm, ⟨55, _⟩ => ⟨S2048x2048, .i1⟩
  | .hbm, ⟨56, _⟩ => ⟨S2048x2048, .i32⟩
  | .hbm, ⟨57, _⟩ => ⟨S_, .i32⟩
  | .hbm, ⟨58, _⟩ => ⟨S2048x2048, .i32⟩
  | .hbm, ⟨59, _⟩ => ⟨S2048x2048, .i1⟩
  | .hbm, ⟨60, _⟩ => ⟨S_, .i32⟩
  | .hbm, ⟨61, _⟩ => ⟨S2048x2048, .i32⟩
  | .hbm, ⟨62, _⟩ => ⟨S2048x2048, .i32⟩
  | .hbm, ⟨63, _⟩ => ⟨S2048x2048, .i32⟩
  | .hbm, ⟨64, _⟩ => ⟨S2048x2048x1, .i32⟩
  | .hbm, ⟨65, _⟩ => ⟨S2048x2048x8, .f32⟩
  | .hbm, ⟨66, _⟩ => ⟨S8x2048x2048, .f32⟩
  | .hbm, ⟨67, _⟩ => ⟨S2x4x2048x2048, .f32⟩
  | .hbm, ⟨68, _⟩ => ⟨S32x2x4x2048x2048, .f32⟩
  | .hbm, ⟨69, _⟩ => ⟨S_, .f32⟩
  | .hbm, ⟨70, _⟩ => ⟨S32x2x4x2048x2048, .f32⟩
  | .hbm, ⟨71, _⟩ => ⟨S32x2x4x2048x2048, .f32⟩
  | .hbm, ⟨72, _⟩ => ⟨S1x2x4x2048x2048, .f32⟩
  | .hbm, ⟨73, _⟩ => ⟨S32x2x4x2048x2048, .f32⟩
  | .hbm, ⟨74, _⟩ => ⟨S32x2x4x2048x2048, .f32⟩
  | .hbm, ⟨75, _⟩ => ⟨S_, .f32⟩
  | .hbm, ⟨76, _⟩ => ⟨S_, .f32⟩
  | .hbm, ⟨77, _⟩ => ⟨S32x2x4x2048x2048, .i1⟩
  | .hbm, ⟨78, _⟩ => ⟨S32x2x4x2048x2048, .f32⟩
  | .hbm, ⟨79, _⟩ => ⟨S32x2x4x2048x2048, .f32⟩
  | .hbm, ⟨80, _⟩ => ⟨S_, .f32⟩
  | .hbm, ⟨81, _⟩ => ⟨S32x2x4x2048, .f32⟩
  | .hbm, ⟨82, _⟩ => ⟨S32x2x4x2048x1, .f32⟩
  | .hbm, ⟨83, _⟩ => ⟨S32x2x4x2048x2048, .f32⟩
  | .hbm, ⟨84, _⟩ => ⟨S32x2x4x2048x2048, .f32⟩
  | .hbm, ⟨85, _⟩ => ⟨S32x2x4x2048x2048, .f32⟩
  | .hbm, ⟨86, _⟩ => ⟨S_, .f32⟩
  | .hbm, ⟨87, _⟩ => ⟨S32x2x4x2048, .f32⟩
  | .hbm, ⟨88, _⟩ => ⟨S32x2x4x2048x1, .f32⟩
  | .hbm, ⟨89, _⟩ => ⟨S32x2x4x2048x2048, .f32⟩
  | .hbm, ⟨90, _⟩ => ⟨S32x2x4x2048x2048, .f32⟩
  | .hbm, ⟨91, _⟩ => ⟨S32x2x4x2048x64, .f32⟩
  | .hbm, ⟨92, _⟩ => ⟨S32x2048x2x4x64, .f32⟩
  | .hbm, ⟨93, _⟩ => ⟨S32x2048x512, .f32⟩
  | .hbm, ⟨94, _⟩ => ⟨S32x2048x512, .bf16⟩
  | _, _ => ⟨S32x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_c : Ref sig .tc := ⟨.hbm, 22, rfl⟩
abbrev main_v20 : Ref sig .tc := ⟨.hbm, 23, rfl⟩
abbrev main_v21 : Ref sig .tc := ⟨.hbm, 24, rfl⟩
abbrev main_c_0 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_1 : Ref sig .tc := ⟨.hbm, 29, rfl⟩
abbrev main_v25 : Ref sig .tc := ⟨.hbm, 30, rfl⟩
abbrev main_v26 : Ref sig .tc := ⟨.hbm, 31, rfl⟩
abbrev main_c_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_5 : Ref sig .tc := ⟨.hbm, 47, rfl⟩
abbrev main_v38 : Ref sig .tc := ⟨.hbm, 48, rfl⟩
abbrev main_v39 : Ref sig .tc := ⟨.hbm, 49, rfl⟩
abbrev main_c_6 : Ref sig .tc := ⟨.hbm, 50, rfl⟩
abbrev main_v40 : Ref sig .tc := ⟨.hbm, 51, rfl⟩
abbrev main_v41 : Ref sig .tc := ⟨.hbm, 52, rfl⟩
abbrev main_c_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_8 : Ref sig .tc := ⟨.hbm, 57, rfl⟩
abbrev main_v45 : Ref sig .tc := ⟨.hbm, 58, rfl⟩
abbrev main_v46 : Ref sig .tc := ⟨.hbm, 59, rfl⟩
abbrev main_c_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== Kernel7.lean ====
abbrev S32x2048x3584 : Shape := ⟨3, ![32, 2048, 3584]⟩
abbrev S32x2048x512 : Shape := ⟨3, ![32, 2048, 512]⟩
abbrev S1x128x128 : Shape := ⟨3, ![1, 128, 128]⟩
abbrev S1x2048x128 : Shape := ⟨3, ![1, 2048, 128]⟩
abbrev S128x128 : Shape := ⟨2, ![128, 128]⟩
abbrev S256x128 : Shape := ⟨2, ![256, 128]⟩
abbrev S256x1 : Shape := ⟨2, ![256, 1]⟩
abbrev S256 : Shape := ⟨1, ![256]⟩

abbrev nBuf : Space → Nat
  | .hbm => 2
  | .vmem => 8
  | .smem => 0
  | _ => 0

abbrev bufTy : (tb : Table) → Fin (tcTables nBuf tb) → BufTy
  | .hbm, ⟨0, _⟩ => ⟨S32x2048x3584, .bf16⟩
  | .hbm, ⟨1, _⟩ => ⟨S32x2048x512, .bf16⟩
  | .local _ .vmem, ⟨0, _⟩ => ⟨S1x128x128, .bf16⟩
  | .local _ .vmem, ⟨1, _⟩ => ⟨S1x128x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x128, .bf16⟩
  | .local _ .vmem, ⟨7, _⟩ => ⟨S1x128x128, .bf16⟩
  | _, _ => ⟨S32x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 16], ![false, false, false]⟩

@[reducible] def k0_t1_loop (i : grid0.Coords) : Scf.Loop 32 :=
  let c0_i32_26 : BitVec 32 := 0#32
  let arg2 : BitVec 32 := BitVec.ofNat 32 (i 2).val
  let c1_i32_25 : BitVec 32 := 1#32
  let v83 : BitVec 32 := Scalar.addi arg2 c1_i32_25
  let v84 : BitVec 32 := Scalar.subi v83 c0_i32_26
  let c1_i32_27 : BitVec 32 := 1#32
  let v86 : BitVec 32 := Scalar.divsi v84 c1_i32_27
  let v87 : BitVec 32 := Scalar.muli v86 c1_i32_27
  let v88 : BitVec 32 := Scalar.addi c0_i32_26 v87
  let c1_i32_28 : BitVec 32 := 1#32
  ⟨c0_i32_26, v88, c1_i32_28⟩
def k0_mult1 (i : grid0.Coords) (k0_t1 : Fin (k0_t1_loop i).trips) : BitVec 32 :=
  let arg2 : BitVec 32 := BitVec.ofNat 32 (i 2).val
  let c0_i32_26 : BitVec 32 := 0#32
  let c1_i32_28 : BitVec 32 := 1#32
  let arg7 : BitVec 32 := Scf.iv c0_i32_26 c1_i32_28 k0_t1
  let v100 : BitVec 32 := Scalar.subi arg2 arg7
  let c128_i32_34 : BitVec 32 := 128#32
  let v101 : BitVec 32 := Scalar.muli v100 c128_i32_34
  v101
def k0_off1 (i : grid0.Coords) (k0_t1 : Fin (k0_t1_loop i).trips) : Fin 3 → Nat :=
  let c0_35 : Index := 0#32
  let arg2 : BitVec 32 := BitVec.ofNat 32 (i 2).val
  let c0_i32_26 : BitVec 32 := 0#32
  let c1_i32_28 : BitVec 32 := 1#32
  let arg7 : BitVec 32 := Scf.iv c0_i32_26 c1_i32_28 k0_t1
  let v100 : BitVec 32 := Scalar.subi arg2 arg7
  let c128_i32_34 : BitVec 32 := 128#32
  let v101 : BitVec 32 := Scalar.muli v100 c128_i32_34
  let v102 : BitVec 32 := v101
  let v103 : Index := Scalar.indexCast v102
  let c0_36 : Index := 0#32
  ![0, v103.toNat, 0]
@[reducible] def k0_t2_loop (i : grid0.Coords) : Scf.Loop 32 :=
  let c0_i32_26 : BitVec 32 := 0#32
  let arg2 : BitVec 32 := BitVec.ofNat 32 (i 2).val
  let c1_i32_25 : BitVec 32 := 1#32
  let v83 : BitVec 32 := Scalar.addi arg2 c1_i32_25
  let v84 : BitVec 32 := Scalar.subi v83 c0_i32_26
  let c1_i32_27 : BitVec 32 := 1#32
  let v86 : BitVec 32 := Scalar.divsi v84 c1_i32_27
  let v87 : BitVec 32 := Scalar.muli v86 c1_i32_27
  let v88 : BitVec 32 := Scalar.addi c0_i32_26 v87
  let v85 : BitVec 32 := Scalar.addi c0_i32_26 v84
  let c1_i32_29 : BitVec 32 := 1#32
  ⟨v88, v85, c1_i32_29⟩
def k0_mult2 (i : grid0.Coords) (k0_t2 : Fin (k0_t2_loop i).trips) : BitVec 32 :=
  let arg2 : BitVec 32 := BitVec.ofNat 32 (i 2).val
  let c0_i32_26 : BitVec 32 := 0#32
  let c1_i32_25 : BitVec 32 := 1#32
  let v83 : BitVec 32 := Scalar.addi arg2 c1_i32_25
  let v84 : BitVec 32 := Scalar.subi v83 c0_i32_26
  let c1_i32_27 : BitVec 32 := 1#32
  let v86 : BitVec 32 := Scalar.divsi v84 c1_i32_27
  let v87 : BitVec 32 := Scalar.muli v86 c1_i32_27
  let v88 : BitVec 32 := Scalar.addi c0_i32_26 v87
  let c1_i32_29 : BitVec 32 := 1#32
  let arg7 : BitVec 32 := Scf.iv v88 c1_i32_29 k0_t2
  let v100 : BitVec 32 := Scalar.subi arg2 arg7
  let c128_i32_34 : BitVec 32 := 128#32
  let v101 : BitVec 32 := Scalar.muli v100 c128_i32_34
  v101
def k0_off2 (i : grid0.Coords) (k0_t2 : Fin (k0_t2_loop i).trips) : Fin 3 → Nat :=
  let c0_35 : Index := 0#32
  let arg2 : BitVec 32 := BitVec.ofNat 32 (i 2).val
  let c0_i32_26 : BitVec 32 := 0#32
  let c1_i32_25 : BitVec 32 := 1#32
  let v83 : BitVec 32 := Scalar.addi arg2 c1_i32_25
  let v84 : BitVec 32 := Scalar.subi v83 c0_i32_26
  let c1_i32_27 : BitVec 32 := 1#32
  let v86 : BitVec 32 := Scalar.divsi v84 c1_i32_27
  let v87 : BitVec 32 := Scalar.muli v86 c1_i32_27
  let v88 : BitVec 32 := Scalar.addi c0_i32_26 v87
  let c1_i32_29 : BitVec 32 := 1#32
  let arg7 : BitVec 32 := Scf.iv v88 c1_i32_29 k0_t2
  let v100 : BitVec 32 := Scalar.subi arg2 arg7
  let c128_i32_34 : BitVec 32 := 128#32
  let v101 : BitVec 32 := Scalar.muli v100 c128_i32_34
  let v102 : BitVec 32 := v101
  let v103 : Index := Scalar.indexCast v102
  let c0_36 : Index := 0#32
  ![0, v103.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference7Ideal.lean ====
abbrev S32x2048x3584 : Shape := ⟨3, ![32, 2048, 3584]⟩
abbrev S32x2048x512 : Shape := ⟨3, ![32, 2048, 512]⟩
abbrev S32x2048x8x64 : Shape := ⟨4, ![32, 2048, 8, 64]⟩
abbrev S32x8x2048x64 : Shape := ⟨4, ![32, 8, 2048, 64]⟩
abbrev S32x8x2048x2048 : Shape := ⟨4, ![32, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 77
  | .vmem => 0
  | .smem => 0
  | _ => 0

abbrev bufTy : (tb : Table) → Fin (tcTables nBuf tb) → BufTy
  | .hbm, ⟨0, _⟩ => ⟨S32x2048x3584, .bf16⟩
  | .hbm, ⟨1, _⟩ => ⟨S32x2048x512, .bf16⟩
  | .hbm, ⟨2, _⟩ => ⟨S32x2048x512, .f32⟩
  | .hbm, ⟨3, _⟩ => ⟨S32x2048x8x64, .f32⟩
  | .hbm, ⟨4, _⟩ => ⟨S32x8x2048x64, .f32⟩
  | .hbm, ⟨5, _⟩ => ⟨S32x2048x512, .bf16⟩
  | .hbm, ⟨6, _⟩ => ⟨S32x2048x512, .f32⟩
  | .hbm, ⟨7, _⟩ => ⟨S32x2048x8x64, .f32⟩
  | .hbm, ⟨8, _⟩ => ⟨S32x8x2048x64, .f32⟩
  | .hbm, ⟨9, _⟩ => ⟨S32x2048x512, .bf16⟩
  | .hbm, ⟨10, _⟩ => ⟨S32x2048x512, .f32⟩
  | .hbm, ⟨11, _⟩ => ⟨S32x2048x8x64, .f32⟩
  | .hbm, ⟨12, _⟩ => ⟨S32x8x2048x64, .f32⟩
  | .hbm, ⟨13, _⟩ => ⟨S32x8x2048x2048, .f32⟩
  | .hbm, ⟨14, _⟩ => ⟨S_, .f32⟩
  | .hbm, ⟨15, _⟩ => ⟨S32x8x2048x2048, .f32⟩
  | .hbm, ⟨16, _⟩ => ⟨S32x8x2048x2048, .f32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S32x8x2048x2048, .f32⟩
  | .hbm, ⟨25, _⟩ => ⟨S32x8x2048x2048, .f32⟩
  | .hbm, ⟨26, _⟩ => ⟨S_, .f32⟩
  | .hbm, ⟨27, _⟩ => ⟨S32x8x2048x2048, .f32⟩
  | .hbm, ⟨28, _⟩ => ⟨S32x8x2048x2048, .f32⟩
  | .hbm, ⟨29, _⟩ => ⟨S32x8x2048x2048, .f32⟩
  | .hbm, ⟨30, _⟩ => ⟨S32x8x2048x2048, .f32⟩
  | .hbm, ⟨31, _⟩ => ⟨S32x8x2048x2048, .i1⟩
  | .hbm, ⟨32, _⟩ => ⟨S32x8x2048x2048, .f32⟩
  | .hbm, ⟨33, _⟩ => ⟨S32x8x2048x2048, .f32⟩
  | .hbm, ⟨34, _⟩ => ⟨S32x8x2048x2048, .f32⟩
  | .hbm, ⟨35, _⟩ => ⟨S32x8x2048x2048, .f32⟩
  | .hbm, ⟨36, _⟩ => ⟨S32x8x2048x2048, .f32⟩
  | .hbm, ⟨37, _⟩ => ⟨S32x8x2048x2048, .f32⟩
  | .hbm, ⟨38, _⟩ => ⟨S32x8x2048x2048, .f32⟩
  | .hbm, ⟨39, _⟩ => ⟨S32x8x2048x2048, .f32⟩
  | .hbm, ⟨40, _⟩ => ⟨S32x8x2048x2048, .f32⟩
  | .hbm, ⟨41, _⟩ => ⟨S_, .f32⟩
  | .hbm, ⟨42, _⟩ => ⟨S_, .f32⟩
  | .hbm, ⟨43, _⟩ => ⟨S32x8x2048x2048, .i1⟩
  | .hbm, ⟨44, _⟩ => ⟨S32x8x2048x2048, .f32⟩
  | .hbm, ⟨45, _⟩ => ⟨S32x8x2048x2048, .f32⟩
  | .hbm, ⟨46, _⟩ => ⟨S_, .f32⟩
  | .hbm, ⟨47, _⟩ => ⟨S_, .f32⟩
  | .hbm, ⟨48, _⟩ => ⟨S32x8x2048x2048, .f32⟩
  | .hbm, ⟨49, _⟩ => ⟨S32x8x2048x2048, .f32⟩
  | .hbm, ⟨50, _⟩ => ⟨S32x8x2048x2048, .f32⟩
  | .hbm, ⟨51, _⟩ => ⟨S_, .f32⟩
  | .hbm, ⟨52, _⟩ => ⟨S32x8x2048x2048, .f32⟩
  | .hbm, ⟨53, _⟩ => ⟨S32x8x2048x2048, .f32⟩
  | .hbm, ⟨54, _⟩ => ⟨S32x8x2048x2048, .f32⟩
  | .hbm, ⟨55, _⟩ => ⟨S32x8x2048x2048, .f32⟩
  | .hbm, ⟨56, _⟩ => ⟨S32x8x2048x2048, .i1⟩
  | .hbm, ⟨57, _⟩ => ⟨S32x8x2048x2048, .f32⟩
  | .hbm, ⟨58, _⟩ => ⟨S32x8x2048x2048, .f32⟩
  | .hbm, ⟨59, _⟩ => ⟨S32x8x2048x2048, .f32⟩
  | .hbm, ⟨60, _⟩ => ⟨S32x8x2048x2048, .f32⟩
  | .hbm, ⟨61, _⟩ => ⟨S32x8x2048x2048, .f32⟩
  | .hbm, ⟨62, _⟩ => ⟨S32x8x2048x2048, .f32⟩
  | .hbm, ⟨63, _⟩ => ⟨S32x8x2048x2048, .f32⟩
  | .hbm, ⟨64, _⟩ => ⟨S32x8x2048x2048, .f32⟩
  | .hbm, ⟨65, _⟩ => ⟨S32x8x2048x2048, .f32⟩
  | .hbm, ⟨66, _⟩ => ⟨S32x8x2048x2048, .f32⟩
  | .hbm, ⟨67, _⟩ => ⟨S32x8x2048x2048, .f32⟩
  | .hbm, ⟨68, _⟩ => ⟨S_, .f32⟩
  | .hbm, ⟨69, _⟩ => ⟨S_, .f32⟩
  | .hbm, ⟨70, _⟩ => ⟨S32x8x2048x2048, .i1⟩
  | .hbm, ⟨71, _⟩ => ⟨S32x8x2048x2048, .f32⟩
  | .hbm, ⟨72, _⟩ => ⟨S32x8x2048x2048, .f32⟩
  | .hbm, ⟨73, _⟩ => ⟨S32x8x2048x64, .f32⟩
  | .hbm, ⟨74, _⟩ => ⟨S32x2048x8x64, .f32⟩
  | .hbm, ⟨75, _⟩ => ⟨S32x2048x512, .f32⟩
  | .hbm, ⟨76, _⟩ => ⟨S32x2048x512, .bf16⟩
  | _, _ => ⟨S32x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v23 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_call2_cst : Ref sig .tc := ⟨.hbm, 46, rfl⟩
abbrev main_call2_v0 : Ref sig .tc := ⟨.hbm, 47, rfl⟩
abbrev main_v25 : Ref sig .tc := ⟨.hbm, 48, rfl⟩
abbrev main_v26 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩

abbrev nD : Nat := 1
abbrev τ : Topo := Topo.v7x

variable {F : FTy → Type} [FloatOps F]
-- ==== Proof.Spec.lean ====
/-
  The row functions both sides of the feed-forward claim are read down to: the root-mean-square normalization of one
  row of 1024 numbers, its modulation, the gated activation and the sandwich around it, over the extended reals.
-/
module

public import Idealize.ShloMosaic.PureOps.Ideal

@[expose] public section

noncomputable section

open Idealize.ShloMosaic

namespace Layer

/-- The reciprocal root of a row's mean square plus the small constant both programs write. -/
def rnorm (X : Fin 1024 → EReal) : EReal :=
  Ideal.rsqrt (Ideal.div (∑ k, X k * X k) (Ideal.ofBits .f32 0x44800000#32) + Ideal.ofBits .f32 0x358637BD#32)

/-- A row normalized and scaled by its gain. -/
def rmsRow (X g : Fin 1024 → EReal) (k : Fin 1024) : EReal := X k * rnorm X * g k

/-- The normalized row modulated: scaled by one plus `sc`, then shifted by `sh`. -/
def modRow (X g sh sc : Fin 1024 → EReal) (k : Fin 1024) : EReal :=
  rmsRow X g k * (1 + sc k) + sh k

/-- One hidden unit: the gate product through `x · logistic x`, times the up product. -/
def actRow (H wg wu : Fin 1024 → EReal) : EReal :=
  (∑ k, H k * wg k) * Ideal.logistic (∑ k, H k * wg k) * ∑ k, H k * wu k

/-- The last sum of the sandwich: the row plus half its gate times the normalized result. -/
def closeRow (X A g gate : Fin 1024 → EReal) (n : Fin 1024) : EReal :=
  X n + Ideal.ofBits .f32 0x3F000000#32 * gate n * rmsRow A g n

/-- One window of 256 consecutive terms of a sum over 2816. -/
def win (G : Fin 2816 → EReal) (o : ℕ) (h : o + 256 ≤ 2816) : EReal := ∑ f : Fin 256, G ⟨o + f, by omega⟩

/-- A sum over 2816 terms is its eleven windows added up in order. -/
theorem sum_eq_wins (G : Fin 2816 → EReal) :
    win G 0 (by decide) + win G 256 (by decide) + win G 512 (by decide) + win G 768 (by decide) + win G 1024 (by decide)
      + win G 1280 (by decide) + win G 1536 (by decide) + win G 1792 (by decide) + win G 2048 (by decide)
      + win G 2304 (by decide) + win G 2560 (by decide) = ∑ f, G f := by
  obtain ⟨g, hg⟩ : ∃ g : ℕ → EReal, ∀ i (h : i < 2816), G ⟨i, h⟩ = g i :=
    ⟨fun i => if h : i < 2816 then G ⟨i, h⟩ else 0, fun i h => by simp only [h, ↓reduceDIte]⟩
  have hw : ∀ o (h : o + 256 ≤ 2816), win G o h = ∑ x ∈ Finset.range 256, g (o + x) := by
    intro o h
    rw [Finset.sum_range]
    exact Finset.sum_congr rfl fun f _ => hg _ _
  have hs : ∑ f, G f = ∑ x ∈ Finset.range 2816, g x := by
    rw [Finset.sum_range]
    exact Finset.sum_congr rfl fun f _ => hg _ _
  rw [hs]
  simp only [hw]
  rw [Finset.sum_range_add g 2560 256, Finset.sum_range_add g 2304 256, Finset.sum_range_add g 2048 256,
    Finset.sum_range_add g 1792 256, Finset.sum_range_add g 1536 256, Finset.sum_range_add g 1280 256,
    Finset.sum_range_add g 1024 256, Finset.sum_range_add g 768 256, Finset.sum_range_add g 512 256,
    Finset.sum_range_add g 256 256]
  simp only [Nat.zero_add]

/-- The sandwich at one element: the row `X` modulated, its 2816 hidden units, their down product, normalized. -/
def ffnRow (X g sh sc gp gate : Fin 1024 → EReal) (wg wu : Fin 1024 → Fin 2816 → EReal) (wd : Fin 2816 → Fin 1024 → EReal)
    (n : Fin 1024) : EReal :=
  closeRow X (fun n => ∑ f, actRow (modRow X g sh sc) (fun k => wg k f) (fun k => wu k f) * wd f n) gp gate n

end Layer

end
-- ==== Proof.FfnKernel.lean ====
/-
  The feed-forward kernel read at one element of one block, as the row functions of Spec.lean.
-/
module

public import proofs.«01_k».proof.Proof.Spec
public import proofs.«01_k».proof.Proof.Gen.Kernel2Ideal.Value
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Layer.FfnKernel

open Cert.Kernel2Ideal Cert.Kernel2Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

variable (H : FVec Ideal S512x1024 .bf16) (A B : Vec Ideal S1024x256 .bf16) (D : Vec Ideal S256x1024 .bf16) (acc : Vec Ideal S512x1024 .f32)

/-- What one chunk of 256 hidden units adds to one element. -/
def part (r : Fin 512) (n : Fin 1024) : EReal :=
  ∑ f : Fin 256, actRow (fun k => H (ix2 r k)) (fun k => A (ix2 k f)) (fun k => B (ix2 k f)) * D (ix2 f n)

theorem actRow_eq (H wg wu : Fin 1024 → EReal) :
    (∑ k, H k * wg k) * Ideal.logistic (∑ k, H k * wg k) * ∑ k, H k * wu k = actRow H wg wu := rfl

theorem pay6_apply (r : Fin 512) (n : Fin 1024) :
    k0_pay6 H A B D acc (ix2 r n) = acc (ix2 r n) + part H A B D r n := by
  unfold_payloads
  pointwise [part, actRow]

theorem pay8_apply (r : Fin 512) (n : Fin 1024) :
    k0_pay8 (k0_pay7 H A B) D acc (ix2 r n) = acc (ix2 r n) + part H A B D r n := by
  unfold_payloads
  pointwise [part, actRow]

theorem pay9_apply (r : Fin 512) (n : Fin 1024) :
    k0_pay9 H A B D acc (ix2 r n) = acc (ix2 r n) + part H A B D r n := by
  unfold_payloads
  pointwise [part, actRow]

theorem pay13_apply (r : Fin 512) (n : Fin 1024) :
    k0_pay13 (k0_pay10 H A) (k0_pay11 H B) (k0_pay12 H A) D acc (ix2 r n) = acc (ix2 r n) + part H A B D r n := by
  unfold_payloads
  pointwise [part, actRow]

theorem pay14_apply (r : Fin 512) (n : Fin 1024) :
    k0_pay14 H A B D acc (ix2 r n) = acc (ix2 r n) + part H A B D r n := by
  unfold_payloads
  pointwise [part, actRow]

theorem pay16_apply (r : Fin 512) (n : Fin 1024) :
    k0_pay16 H (k0_pay15 H A) B D acc (ix2 r n) = acc (ix2 r n) + part H A B D r n := by
  unfold_payloads
  pointwise [part, actRow]

theorem pay17_apply (r : Fin 512) (n : Fin 1024) :
    k0_pay17 H A B D acc (ix2 r n) = acc (ix2 r n) + part H A B D r n := by
  unfold_payloads
  pointwise [part, actRow]

theorem pay19_apply (r : Fin 512) (n : Fin 1024) :
    k0_pay19 H (k0_pay18 A) (constant S512x256 .f32 0x00000000#32) B D acc (ix2 r n) = acc (ix2 r n) + part H A B D r n := by
  unfold_payloads
  pointwise [part, actRow]

theorem pay20_apply (r : Fin 512) (n : Fin 1024) :
    k0_pay20 H A B D acc (ix2 r n) = acc (ix2 r n) + part H A B D r n := by
  unfold_payloads
  pointwise [part, actRow]

theorem pay21_apply (r : Fin 512) (n : Fin 1024) :
    k0_pay21 H A B D acc (ix2 r n) = acc (ix2 r n) + part H A B D r n := by
  unfold_payloads
  pointwise [part, actRow]

theorem pay5_apply (x0 : Vec Ideal S1x512x1024 .f32) (x2 : Vec Ideal S1x1024 .f32) (x3 x5 : Vec Ideal S1x1x1024 .f32)
    (r : Fin 512) (n : Fin 1024) :
    k0_pay5 (k0_pay4 x0 x2 x3 x5 A B) D (ix2 r n) = part (k0_pay3 x0 x2 x3 x5) A B D r n := by
  unfold k0_pay5 k0_pay4
  pointwise [part, actRow]

theorem pay3_apply (x0 : Vec Ideal S1x512x1024 .f32) (x2 : Vec Ideal S1x1024 .f32) (x3 x5 : Vec Ideal S1x1x1024 .f32)
    (r : Fin 512) (k : Fin 1024) :
    k0_pay3 x0 x2 x3 x5 (ix2 r k)
      = modRow (fun k => x0 (ix3 0 r k)) (fun k => x2 (ix2 0 k)) (fun k => x3 (ix3 0 0 k)) (fun k => x5 (ix3 0 0 k)) k := by
  unfold_payloads
  pointwise [modRow, rmsRow, rnorm]

theorem close_apply (x0 : Vec Ideal S1x512x1024 .f32) (g : Vec Ideal S1x1x1024 .f32) (x3 : Vec Ideal S1x1024 .f32)
    (r : Fin 512) (n : Fin 1024) :
    k0_pay1 (k0_pay2 x0) (k0_pay22 g) (k0_pay23 acc x3) (ix3 0 r n)
      = closeRow (fun k => x0 (ix3 0 r k)) (fun k => acc (ix2 r k)) (fun k => x3 (ix2 0 k)) (fun k => g (ix3 0 0 k)) n := by
  unfold_payloads
  pointwise [closeRow, rmsRow, rnorm]

theorem part_win (x4 x5 : Vec Ideal S1024x2816 .bf16) (x6 : Vec Ideal S2816x1024 .bf16) (o : ℕ) (h : o + 256 ≤ 2816) inb4 inb6
    (r : Fin 512) (n : Fin 1024) :
    part H (View.ld x4 (Rect.unit (s := S1024x2816) ![0, o] ![1024, 256] inb4)) (View.ld x5 (Rect.unit (s := S1024x2816) ![0, o] ![1024, 256] inb4))
        (View.ld x6 (Rect.unit (s := S2816x1024) ![o, 0] ![256, 1024] inb6)) r n
      = win (fun f => actRow (fun k => H (ix2 r k)) (fun k => x4 (ix2 k f)) (fun k => x5 (ix2 k f)) * x6 (ix2 f n)) o h := by
  unfold part win
  pointwise

theorem out_apply (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x2816 .bf16) (harg6 : arg6.IsWhole) (arg7 : Memref sig .tc .vmem S1024x2816 .bf16) (harg7 : arg7.IsWhole) (arg8 : Memref sig .tc .vmem S2816x1024 .bf16) (harg8 : arg8.IsWhole) (arg9 : Memref sig .tc .vmem S1x512x1024 .f32) (harg9 : arg9.IsWhole) (arg10 : Memref sig .tc .vmem S512x1024 .f32) (harg10 : arg10.IsWhole)
    (x0 : Vec Ideal S1x512x1024 .f32) (x1 : Vec Ideal S1x9x1024 .f32) (x2 : Vec Ideal S1x1024 .f32) (x3 : Vec Ideal S1x1024 .f32) (x4 : Vec Ideal S1024x2816 .bf16) (x5 : Vec Ideal S1024x2816 .bf16) (x6 : Vec Ideal S2816x1024 .bf16) (r : Fin 512) (n : Fin 1024) :
    out0_A_7 (F := Ideal) c i arg2 harg2 arg3 harg3 arg4 harg4 arg5 harg5 arg6 harg6 arg7 harg7 arg8 harg8 arg9 harg9 arg10 harg10 x0 x1 x2 x3 x4 x5 x6 (ix3 0 r n)
      = ffnRow (fun k => x0 (ix3 0 r k)) (fun k => x2 (ix2 0 k)) (fun k => x1 (ix3 0 6 k)) (fun k => x1 (ix3 0 7 k))
          (fun k => x3 (ix2 0 k)) (fun k => x1 (ix3 0 8 k)) (fun k f => x4 (ix2 k f)) (fun k f => x5 (ix2 k f)) (fun f n => x6 (ix2 f n)) n := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  rw [View.canon_unit_zero (S := S1x512x1024) hz3]
  simp only [View.readCov_full (s := S512x1024), View.readAt_eq_ld, harg2.read_unread, harg3.read_unread, harg4.read_unread, harg5.read_unread, harg6.read_unread, harg7.read_unread, harg8.read_unread, View.ld_unit_zero (S := S1x512x1024) hz3, View.ld_unit_zero (S := S1x1024) hz2]
  rw [close_apply]
  simp only [pay6_apply, pay8_apply, pay9_apply, pay13_apply, pay14_apply, pay16_apply, pay17_apply, pay19_apply, pay20_apply,
    pay21_apply, pay5_apply]
  simp (disch := decide) only [part_win]
  rw [ffnRow]
  simp only [sum_eq_wins]
  pointwise [pay3_apply]

end Layer.FfnKernel

end
-- ==== Proof.FfnRef.lean ====
/-
  The plain feed-forward program read at one element, as the row functions of Spec.lean.
-/
module

public import proofs.«01_k».proof.Proof.Spec
public import proofs.«01_k».proof.Proof.Gen.Reference2Ideal.Read
public import Idealize.ShloMosaic.Lib.Pointwise

@[expose] public section

set_option maxRecDepth 16384

noncomputable section

open Idealize.ShloMosaic

namespace Layer.FfnRef

open Cert.Reference2Ideal Cert.Reference2Ideal.Read

variable (x0 : (⟨S32x2048x1024, .f32⟩ : BufTy).Contents (Elt Ideal)) (x1 : (⟨S32x9x1024, .f32⟩ : BufTy).Contents (Elt Ideal))
  (x2 x3 : (⟨S1x1024, .f32⟩ : BufTy).Contents (Elt Ideal)) (x4 x5 : (⟨S1024x2816, .f32⟩ : BufTy).Contents (Elt Ideal))
  (x6 : (⟨S2816x1024, .f32⟩ : BufTy).Contents (Elt Ideal))

/-- The modulated row the two hidden products read. -/
theorem h_apply (b : Fin 32) (t : Fin 2048) (k : Fin 1024) :
    val_main_v29 (F := Ideal) x0 x1 x2 (ix3 b t k)
      = modRow (fun k => x0 (ix3 b t k)) (fun k => x2 (ix2 0 k)) (fun k => x1 (ix3 b 6 k)) (fun k => x1 (ix3 b 7 k)) k := by
  unfold val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v6 val_main_v5 val_main_v4 val_main_v3 val_main_v2 val_main_v1 val_main_v0 val_main_cst val_main_cst_0 val_main_cst_1 val_main_cst_2
  pointwise [modRow, rmsRow, rnorm]

/-- One hidden unit of one row. -/
theorem act_apply (b : Fin 32) (t : Fin 2048) (f : Fin 2816) :
    val_main_v35 (F := Ideal) x0 x1 x2 x4 x5 (ix3 b t f)
      = actRow (fun k => val_main_v29 (F := Ideal) x0 x1 x2 (ix3 b t k)) (fun k => x4 (ix2 k f)) (fun k => x5 (ix2 k f)) := by
  unfold val_main_v35 val_main_v34 val_main_v33 val_main_call0_v5 val_main_call0_v4 val_main_call0_cst_0 val_main_call0_v3 val_main_call0_v2 val_main_call0_cst val_main_call0_v1 val_main_call0_v0 val_main_v32
  generalize val_main_v29 (F := Ideal) x0 x1 x2 = h
  pointwise [actRow]
  rfl

/-- The down product of one row. -/
theorem acc_apply (b : Fin 32) (t : Fin 2048) (n : Fin 1024) :
    val_main_v36 (F := Ideal) x0 x1 x2 x4 x5 x6 (ix3 b t n)
      = ∑ f : Fin 2816, val_main_v35 (F := Ideal) x0 x1 x2 x4 x5 (ix3 b t f) * x6 (ix2 f n) := by
  unfold val_main_v36
  generalize val_main_v35 (F := Ideal) x0 x1 x2 x4 x5 = h
  pointwise

/-- The result at one element. -/
theorem out_apply (b : Fin 32) (t : Fin 2048) (n : Fin 1024) :
    val_main_v53 (F := Ideal) x0 x1 x2 x3 x4 x5 x6 (ix3 b t n)
      = closeRow (fun k => x0 (ix3 b t k)) (fun k => val_main_v36 (F := Ideal) x0 x1 x2 x4 x5 x6 (ix3 b t k))
          (fun k => x3 (ix2 0 k)) (fun k => x1 (ix3 b 8 k)) n := by
  unfold val_main_v53 val_main_v52 val_main_v51 val_main_v50 val_main_v49 val_main_v48 val_main_v47 val_main_v46 val_main_v45 val_main_v44 val_main_v43 val_main_v42 val_main_v41 val_main_v40 val_main_v39 val_main_v38 val_main_v37 val_main_v31 val_main_v30 val_main_v9 val_main_v8 val_main_v7 val_main_v0 val_main_cst_3 val_main_cst_4 val_main_cst_5 val_main_cst_6
  generalize val_main_v36 (F := Ideal) x0 x1 x2 x4 x5 x6 = h
  pointwise [closeRow, rmsRow, rnorm]

end Layer.FfnRef

end
-- ==== Proof.FfnClaim.lean ====
/-
  The feed-forward claim: the kernel's result array and the plain program's are the same function of the arguments.
-/
module

public import proofs.«01_k».proof.Proof.FfnKernel
public import proofs.«01_k».proof.Proof.FfnRef
public import proofs.«01_k».proof.Defs

@[expose] public section

set_option maxRecDepth 16384

noncomputable section

open Idealize.ShloMosaic Idealize.ShloMosaic.TcCoe Idealize.SL.Sem
open Idealize.ShloMosaic.Pipeline (Dat)

namespace Layer.FfnClaim

open Cert.Kernel2Ideal Cert.Kernel2Ideal.Gen

variable (m : (ℓ : Loc nD τ sig) → Buf (Elt Ideal) ℓ) (ρ : Dev nD → PrngReg)

/-- The feed-forward part of the layer as one function of its seven arguments. -/
def G (x : FVec Ideal S32x2048x1024 .f32) (mo : FVec Ideal S32x9x1024 .f32) (gp go : FVec Ideal S1x1024 .f32)
    (wg wu : FVec Ideal S1024x2816 .f32) (wd : FVec Ideal S2816x1024 .f32) : FVec Ideal S32x2048x1024 .f32 := fun i =>
  ffnRow (fun k => x (ix3 (i 0) (i 1) k)) (fun k => gp (ix2 0 k)) (fun k => mo (ix3 (i 0) 6 k)) (fun k => mo (ix3 (i 0) 7 k))
    (fun k => go (ix2 0 k)) (fun k => mo (ix3 (i 0) 8 k)) (fun k f => wg (ix2 k f)) (fun k f => wu (ix2 k f)) (fun f n => wd (ix2 f n)) (i 2)

/-- The function at device `c`'s argument arrays. -/
abbrev Gm (c : Dev nD) : Buf (Elt Ideal) ((c : Thread nD τ).loc main_v3) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The three weight operands are the arguments in the narrower format. -/
theorem V_v0 (c : Dev nD) : V m c main_v0 = fun i => m ((c : Thread nD τ).loc main_arg4) i := by
  simp only [V, hostOps0]; after_results_simp <;> rfl
theorem V_v1 (c : Dev nD) : V m c main_v1 = fun i => m ((c : Thread nD τ).loc main_arg5) i := by
  simp only [V, hostOps0]; after_results_simp <;> rfl
theorem V_v2 (c : Dev nD) : V m c main_v2 = fun i => m ((c : Thread nD τ).loc main_arg6) i := by
  simp only [V, hostOps0]; after_results_simp <;> rfl

theorem ix_0 : ∀ t : Fin cfg0.N, win0_0.index t 0 = t.val / 4 ∧ win0_0.index t 1 = t.val % 4 ∧ win0_0.index t 2 = 0
    ∧ win0_1.index t 0 = t.val / 4 ∧ win0_1.index t 1 = 0 ∧ win0_1.index t 2 = 0
    ∧ win0_7.index t 0 = t.val / 4 ∧ win0_7.index t 1 = t.val % 4 ∧ win0_7.index t 2 = 0 :=
  (by decide +kernel : ∀ t : Fin grid0.N, win0_0.index t 0 = t.val / 4 ∧ win0_0.index t 1 = t.val % 4 ∧ win0_0.index t 2 = 0
    ∧ win0_1.index t 0 = t.val / 4 ∧ win0_1.index t 1 = 0 ∧ win0_1.index t 2 = 0
    ∧ win0_7.index t 0 = t.val / 4 ∧ win0_7.index t 1 = t.val % 4 ∧ win0_7.index t 2 = 0)
theorem ix_w : ∀ (t : Fin cfg0.N) (a : Fin 2), win0_2.index t a = 0 ∧ win0_3.index t a = 0 ∧ win0_4.index t a = 0 ∧ win0_5.index t a = 0
    ∧ win0_6.index t a = 0 :=
  (by decide +kernel : ∀ (t : Fin grid0.N) (a : Fin 2), win0_2.index t a = 0 ∧ win0_3.index t a = 0 ∧ win0_4.index t a = 0 ∧ win0_5.index t a = 0
    ∧ win0_6.index t a = 0)

theorem tb (t : Fin cfg0.N) : t.val / 4 < 32 := by have := t.isLt; have hN : cfg0.N = 128 := N_0; omega

theorem blk0 (c : Dev nD) (t : Fin cfg0.N) (r : Fin 512) (k : Fin 1024) :
    (iblk m c 0 t : Vec Ideal S1x512x1024 .f32) (ix3 0 r k)
      = m ((c : Thread nD τ).loc main_arg0) (ix3 ⟨t.val / 4, tb t⟩ ⟨t.val % 4 * 512 + r, by omega⟩ k) := by
  unfold iblk
  rw [View.read_apply]
  show V m c main_arg0 _ = _
  rw [V_main_arg0]
  congr 1
  funext a
  apply Fin.ext
  have h := ix_0 t
  match a with
  | ⟨0, _⟩ => show win0_0.index t 0 * 1 + 1 * 0 = t.val / 4; omega
  | ⟨1, _⟩ => show win0_0.index t 1 * 512 + 1 * r.val = t.val % 4 * 512 + r.val; omega
  | ⟨2, _⟩ => show win0_0.index t 2 * 1024 + 1 * k.val = k.val; omega

theorem blk1 (c : Dev nD) (t : Fin cfg0.N) (r : Fin 9) (k : Fin 1024) :
    (iblk m c 1 t : Vec Ideal S1x9x1024 .f32) (ix3 0 r k)
      = m ((c : Thread nD τ).loc main_arg1) (ix3 ⟨t.val / 4, tb t⟩ r k) := by
  unfold iblk
  rw [View.read_apply]
  show V m c main_arg1 _ = _
  rw [V_main_arg1]
  congr 1
  funext a
  apply Fin.ext
  have h := ix_0 t
  match a with
  | ⟨0, _⟩ => show win0_1.index t 0 * 1 + 1 * 0 = t.val / 4; omega
  | ⟨1, _⟩ => show win0_1.index t 1 * 9 + 1 * r.val = r.val; omega
  | ⟨2, _⟩ => show win0_1.index t 2 * 1024 + 1 * k.val = k.val; omega

theorem blk2 (c : Dev nD) (t : Fin cfg0.N) : (iblk m c 2 t : Vec Ideal S1x1024 .f32) = m ((c : Thread nD τ).loc main_arg2) := by
  have hz : (fun a => win0_2.index t a * main_arg2.ty.shape.size a) = fun _ => 0 := funext fun a => by
    rw [(ix_w t a).1, Nat.zero_mul]
  unfold iblk
  refine (Memref.read_access_unit_zero (Elt Ideal) main_arg2 hz (fun a => by rw [congrFun hz a]; simp) _).trans ?_
  exact V_main_arg2 m c

theorem blk3 (c : Dev nD) (t : Fin cfg0.N) : (iblk m c 3 t : Vec Ideal S1x1024 .f32) = m ((c : Thread nD τ).loc main_arg3) := by
  have hz : (fun a => win0_3.index t a * main_arg3.ty.shape.size a) = fun _ => 0 := funext fun a => by
    rw [(ix_w t a).2.1, Nat.zero_mul]
  unfold iblk
  refine (Memref.read_access_unit_zero (Elt Ideal) main_arg3 hz (fun a => by rw [congrFun hz a]; simp) _).trans ?_
  exact V_main_arg3 m c

theorem blk4 (c : Dev nD) (t : Fin cfg0.N) : (iblk m c 4 t : Vec Ideal S1024x2816 .bf16) = fun i => m ((c : Thread nD τ).loc main_arg4) i := by
  have hz : (fun a => win0_4.index t a * main_v0.ty.shape.size a) = fun _ => 0 := funext fun a => by
    rw [(ix_w t a).2.2.1, Nat.zero_mul]
  unfold iblk
  refine (Memref.read_access_unit_zero (Elt Ideal) main_v0 hz (fun a => by rw [congrFun hz a]; simp) _).trans ?_
  exact V_v0 m c

theorem blk5 (c : Dev nD) (t : Fin cfg0.N) : (iblk m c 5 t : Vec Ideal S1024x2816 .bf16) = fun i => m ((c : Thread nD τ).loc main_arg5) i := by
  have hz : (fun a => win0_5.index t a * main_v1.ty.shape.size a) = fun _ => 0 := funext fun a => by
    rw [(ix_w t a).2.2.2.1, Nat.zero_mul]
  unfold iblk
  refine (Memref.read_access_unit_zero (Elt Ideal) main_v1 hz (fun a => by rw [congrFun hz a]; simp) _).trans ?_
  exact V_v1 m c

theorem blk6 (c : Dev nD) (t : Fin cfg0.N) : (iblk m c 6 t : Vec Ideal S2816x1024 .bf16) = fun i => m ((c : Thread nD τ).loc main_arg6) i := by
  have hz : (fun a => win0_6.index t a * main_v2.ty.shape.size a) = fun _ => 0 := funext fun a => by
    rw [(ix_w t a).2.2.2.2, Nat.zero_mul]
  unfold iblk
  refine (Memref.read_access_unit_zero (Elt Ideal) main_v2 hz (fun a => by rw [congrFun hz a]; simp) _).trans ?_
  exact V_v2 m c

theorem flushed_eq (c : Dev nD) (t : Fin cfg0.N) :
    (dats m 0 c).flushed 7 t = ((cfg0.win 7).blk t).view.read (Elt Ideal) (Gm m c) := by
  rw [Value.flushed7_A]
  funext j
  obtain ⟨r, n, rfl⟩ : ∃ (r : Fin 512) (n : Fin 1024), j = ix3 0 r n := ⟨j 1, j 2, by
    refine (eq_ix3 j).trans ?_
    congr 1
    exact Fin.ext (by have := (j 0).isLt; show (j 0 : ℕ) = 0; change (j 0 : ℕ) < 1 at this; omega)⟩
  refine (FfnKernel.out_apply c (grid0.coords t) _ _ _ _ _ _ _ _ _ _ _ _ _ _ _ _ _ _ _ _ _ _ _ _ _ r n).trans ?_
  simp only [blk0, blk1, blk2, blk3, blk4, blk5, blk6]
  rw [View.read_apply]
  have h := ix_0 t
  have e : (((cfg0.win 7).blk t).view.emb (ix3 0 r n) : S32x2048x1024.Idx) = ix3 ⟨t.val / 4, tb t⟩ ⟨t.val % 4 * 512 + r, by omega⟩ n := by
    funext a
    apply Fin.ext
    match a with
    | ⟨0, _⟩ => show win0_7.index t 0 * 1 + 1 * 0 = t.val / 4; omega
    | ⟨1, _⟩ => show win0_7.index t 1 * 512 + 1 * r.val = t.val % 4 * 512 + r.val; omega
    | ⟨2, _⟩ => show win0_7.index t 2 * 1024 + 1 * n.val = n.val; omega
  rw [e]
  rfl

theorem cover (i : S32x2048x1024.Idx) :
    ∃ t : Fin cfg0.N, (cfg0.win 7).flush t = true ∧ i ∈ ((cfg0.win 7).blk t).view.set := by
  have h0 : (i 0 : Nat) < 32 := (i 0).isLt
  have h1 : (i 1 : Nat) < 2048 := (i 1).isLt
  have h2 : (i 2 : Nat) < 1024 := (i 2).isLt
  have hN : cfg0.N = 128 := N_0
  refine ⟨⟨(i 0 : Nat) * 4 + (i 1 : Nat) / 512, by omega⟩, flush0_7 _, ?_⟩
  generalize ht : (⟨(i 0 : Nat) * 4 + (i 1 : Nat) / 512, by omega⟩ : Fin cfg0.N) = t
  have hv : t.val = (i 0 : Nat) * 4 + (i 1 : Nat) / 512 := by rw [← ht]
  show i ∈ ((View.whole main_v3).slice (win0_7.rect t)).set
  rw [View.set_slice_whole, Rect.mem_set_unit]
  have h := ix_0 t
  intro a
  match a with
  | ⟨0, _⟩ => show win0_7.index t 0 * 1 ≤ (i 0 : Nat) ∧ (i 0 : Nat) < win0_7.index t 0 * 1 + 1; omega
  | ⟨1, _⟩ => show win0_7.index t 1 * 512 ≤ (i 1 : Nat) ∧ (i 1 : Nat) < win0_7.index t 1 * 512 + 512; omega
  | ⟨2, _⟩ => show win0_7.index t 2 * 1024 ≤ (i 2 : Nat) ∧ (i 2 : Nat) < win0_7.index t 2 * 1024 + 1024; omega

theorem final (c : Dev nD) : (dats m 0 c).arrAt 7 cfg0.N = Gm m c :=
  (dats m 0 c).arrAt_eq_of_cover 7 (Gm m c) (fun t _ => flushed_eq m c t) cover

/-- The plain program's result is the same function of its arguments. -/
theorem ref_eq (x0 : FVec Ideal S32x2048x1024 .f32) (x1 : FVec Ideal S32x9x1024 .f32) (x2 x3 : FVec Ideal S1x1024 .f32)
    (x4 x5 : FVec Ideal S1024x2816 .f32) (x6 : FVec Ideal S2816x1024 .f32) :
    Cert.Reference2Ideal.Read.val_main_v53 (F := Ideal) x0 x1 x2 x3 x4 x5 x6 = G x0 x1 x2 x3 x4 x5 x6 := by
  funext i
  obtain ⟨b, t, n, rfl⟩ : ∃ (b : Fin 32) (t : Fin 2048) (n : Fin 1024), i = ix3 b t n := ⟨i 0, i 1, i 2, eq_ix3 i⟩
  refine (FfnRef.out_apply x0 x1 x2 x3 x4 x5 x6 b t n).trans ?_
  simp only [FfnRef.acc_apply, FfnRef.act_apply, FfnRef.h_apply]
  rfl

theorem algebraic : Cert.algebraic_Kernel2Ideal_Reference2Ideal := by
  intro m ρ m' ρ' _ hag
  refine ⟨fun c => Gm m c, ?_, ?_⟩
  · exact (θ_run Cert.Kernel2Ideal.defs _ _).mono (fun r h c => ⟨(h c).1.trans (final m c), (h c).2⟩)
      (Cert.Kernel2Ideal.Value.run_blocks (F := Ideal) m ρ)
  · refine (θ_run Cert.Reference2Ideal.defs _ _).mono (fun r h c => ⟨(h c).1.trans ?_, (h c).2⟩)
      (Cert.Reference2Ideal.Value.run (F := Ideal) m' ρ')
    rw [Cert.Reference2Ideal.Read.val_main_v53_eq]
    obtain ⟨e0, e1, e2, e3, e4, e5, e6⟩ := hag c
    rw [e0, e1, e2, e3, e4, e5, e6]
    exact ref_eq _ _ _ _ _ _ _

end Layer.FfnClaim

end
-- ==== Proof.FirstFfnKernel.lean ====
/-
  The first feed-forward part's kernel read at one element of one block: its payloads are those of the last part, so
  only the rows of the modulation array differ.
-/
module

public import proofs.«01_k».proof.Proof.FfnKernel
public import proofs.«01_k».proof.Proof.Gen.Kernel3Ideal.Value

@[expose] public section

set_option maxRecDepth 16384

noncomputable section

open Idealize.ShloMosaic Idealize.ShloMosaic.TcCoe Idealize.SL.Sem
open Idealize.ShloMosaic.Pipeline (Dat)

namespace Layer.FirstFfnKernel

open Cert.Kernel3Ideal Cert.Kernel3Ideal.Gen Layer.FfnKernel

theorem same1 : @k0_pay1 = @Cert.Kernel2Ideal.Gen.k0_pay1 := rfl
theorem same2 : @k0_pay2 = @Cert.Kernel2Ideal.Gen.k0_pay2 := rfl
theorem same3 : @k0_pay3 = @Cert.Kernel2Ideal.Gen.k0_pay3 := rfl
theorem same4 : @k0_pay4 = @Cert.Kernel2Ideal.Gen.k0_pay4 := rfl
theorem same5 : @k0_pay5 = @Cert.Kernel2Ideal.Gen.k0_pay5 := rfl
theorem same6 : @k0_pay6 = @Cert.Kernel2Ideal.Gen.k0_pay6 := rfl
theorem same7 : @k0_pay7 = @Cert.Kernel2Ideal.Gen.k0_pay7 := rfl
theorem same8 : @k0_pay8 = @Cert.Kernel2Ideal.Gen.k0_pay8 := rfl
theorem same9 : @k0_pay9 = @Cert.Kernel2Ideal.Gen.k0_pay9 := rfl
theorem same10 : @k0_pay10 = @Cert.Kernel2Ideal.Gen.k0_pay10 := rfl
theorem same11 : @k0_pay11 = @Cert.Kernel2Ideal.Gen.k0_pay11 := rfl
theorem same12 : @k0_pay12 = @Cert.Kernel2Ideal.Gen.k0_pay12 := rfl
theorem same13 : @k0_pay13 = @Cert.Kernel2Ideal.Gen.k0_pay13 := rfl
theorem same14 : @k0_pay14 = @Cert.Kernel2Ideal.Gen.k0_pay14 := rfl
theorem same15 : @k0_pay15 = @Cert.Kernel2Ideal.Gen.k0_pay15 := rfl
theorem same16 : @k0_pay16 = @Cert.Kernel2Ideal.Gen.k0_pay16 := rfl
theorem same17 : @k0_pay17 = @Cert.Kernel2Ideal.Gen.k0_pay17 := rfl
theorem same18 : @k0_pay18 = @Cert.Kernel2Ideal.Gen.k0_pay18 := rfl
theorem same19 : @k0_pay19 = @Cert.Kernel2Ideal.Gen.k0_pay19 := rfl
theorem same20 : @k0_pay20 = @Cert.Kernel2Ideal.Gen.k0_pay20 := rfl
theorem same21 : @k0_pay21 = @Cert.Kernel2Ideal.Gen.k0_pay21 := rfl
theorem same22 : @k0_pay22 = @Cert.Kernel2Ideal.Gen.k0_pay22 := rfl
theorem same23 : @k0_pay23 = @Cert.Kernel2Ideal.Gen.k0_pay23 := rfl

theorem out_apply (c : Dev nD) (i : grid0.Coords) (arg2 : Memref sig .tc .vmem S1x512x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x2816 .bf16) (harg6 : arg6.IsWhole) (arg7 : Memref sig .tc .vmem S1024x2816 .bf16) (harg7 : arg7.IsWhole) (arg8 : Memref sig .tc .vmem S2816x1024 .bf16) (harg8 : arg8.IsWhole) (arg9 : Memref sig .tc .vmem S1x512x1024 .f32) (harg9 : arg9.IsWhole) (arg10 : Memref sig .tc .vmem S512x1024 .f32) (harg10 : arg10.IsWhole)
    (x0 : Vec Ideal S1x512x1024 .f32) (x1 : Vec Ideal S1x9x1024 .f32) (x2 : Vec Ideal S1x1024 .f32) (x3 : Vec Ideal S1x1024 .f32) (x4 : Vec Ideal S1024x2816 .bf16) (x5 : Vec Ideal S1024x2816 .bf16) (x6 : Vec Ideal S2816x1024 .bf16) (r : Fin 512) (n : Fin 1024) :
    out0_A_7 (F := Ideal) c i arg2 harg2 arg3 harg3 arg4 harg4 arg5 harg5 arg6 harg6 arg7 harg7 arg8 harg8 arg9 harg9 arg10 harg10 x0 x1 x2 x3 x4 x5 x6 (ix3 0 r n)
      = ffnRow (fun k => x0 (ix3 0 r k)) (fun k => x2 (ix2 0 k)) (fun k => x1 (ix3 0 0 k)) (fun k => x1 (ix3 0 1 k))
          (fun k => x3 (ix2 0 k)) (fun k => x1 (ix3 0 2 k)) (fun k f => x4 (ix2 k f)) (fun k f => x5 (ix2 k f)) (fun f n => x6 (ix2 f n)) n := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  rw [View.canon_unit_zero (S := S1x512x1024) hz3]
  simp only [View.readCov_full (s := S512x1024), View.readAt_eq_ld, harg2.read_unread, harg3.read_unread, harg4.read_unread, harg5.read_unread, harg6.read_unread, harg7.read_unread, harg8.read_unread, View.ld_unit_zero (S := S1x512x1024) hz3, View.ld_unit_zero (S := S1x1024) hz2]
  simp only [same1, same2, same3, same4, same5, same6, same7, same8, same9, same10, same11, same12, same13, same14, same15, same16, same17, same18, same19, same20, same21, same22, same23]
  rw [close_apply]
  simp only [pay6_apply, pay8_apply, pay9_apply, pay13_apply, pay14_apply, pay16_apply, pay17_apply, pay19_apply, pay20_apply,
    pay21_apply, pay5_apply]
  simp (disch := decide) only [part_win]
  rw [ffnRow]
  simp only [sum_eq_wins]
  pointwise [pay3_apply]

end Layer.FirstFfnKernel

end
-- ==== Proof.FirstFfnRef.lean ====
/-
  The first feed-forward part's plain program read at one element, as the row functions of Spec.lean.
-/
module

public import proofs.«01_k».proof.Proof.Spec
public import proofs.«01_k».proof.Proof.Gen.Reference3Ideal.Read
public import Idealize.ShloMosaic.Lib.Pointwise

@[expose] public section

set_option maxRecDepth 16384

noncomputable section

open Idealize.ShloMosaic

namespace Layer.FirstFfnRef

open Cert.Reference3Ideal Cert.Reference3Ideal.Read

variable (x0 : (⟨S32x2048x1024, .f32⟩ : BufTy).Contents (Elt Ideal)) (x1 : (⟨S32x9x1024, .f32⟩ : BufTy).Contents (Elt Ideal))
  (x2 x3 : (⟨S1x1024, .f32⟩ : BufTy).Contents (Elt Ideal)) (x4 x5 : (⟨S1024x2816, .f32⟩ : BufTy).Contents (Elt Ideal))
  (x6 : (⟨S2816x1024, .f32⟩ : BufTy).Contents (Elt Ideal))

/-- The modulated row the two hidden products read. -/
theorem h_apply (b : Fin 32) (t : Fin 2048) (k : Fin 1024) :
    val_main_v29 (F := Ideal) x0 x1 x2 (ix3 b t k)
      = modRow (fun k => x0 (ix3 b t k)) (fun k => x2 (ix2 0 k)) (fun k => x1 (ix3 b 0 k)) (fun k => x1 (ix3 b 1 k)) k := by
  unfold val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v6 val_main_v5 val_main_v4 val_main_v3 val_main_v2 val_main_v1 val_main_v0 val_main_cst val_main_cst_0 val_main_cst_1 val_main_cst_2
  pointwise [modRow, rmsRow, rnorm]

/-- One hidden unit of one row. -/
theorem act_apply (b : Fin 32) (t : Fin 2048) (f : Fin 2816) :
    val_main_v35 (F := Ideal) x0 x1 x2 x4 x5 (ix3 b t f)
      = actRow (fun k => val_main_v29 (F := Ideal) x0 x1 x2 (ix3 b t k)) (fun k => x4 (ix2 k f)) (fun k => x5 (ix2 k f)) := by
  unfold val_main_v35 val_main_v34 val_main_v33 val_main_call0_v5 val_main_call0_v4 val_main_call0_cst_0 val_main_call0_v3 val_main_call0_v2 val_main_call0_cst val_main_call0_v1 val_main_call0_v0 val_main_v32
  generalize val_main_v29 (F := Ideal) x0 x1 x2 = h
  pointwise [actRow]
  rfl

/-- The down product of one row. -/
theorem acc_apply (b : Fin 32) (t : Fin 2048) (n : Fin 1024) :
    val_main_v36 (F := Ideal) x0 x1 x2 x4 x5 x6 (ix3 b t n)
      = ∑ f : Fin 2816, val_main_v35 (F := Ideal) x0 x1 x2 x4 x5 (ix3 b t f) * x6 (ix2 f n) := by
  unfold val_main_v36
  generalize val_main_v35 (F := Ideal) x0 x1 x2 x4 x5 = h
  pointwise

/-- The result at one element. -/
theorem out_apply (b : Fin 32) (t : Fin 2048) (n : Fin 1024) :
    val_main_v53 (F := Ideal) x0 x1 x2 x3 x4 x5 x6 (ix3 b t n)
      = closeRow (fun k => x0 (ix3 b t k)) (fun k => val_main_v36 (F := Ideal) x0 x1 x2 x4 x5 x6 (ix3 b t k))
          (fun k => x3 (ix2 0 k)) (fun k => x1 (ix3 b 2 k)) n := by
  unfold val_main_v53 val_main_v52 val_main_v51 val_main_v50 val_main_v49 val_main_v48 val_main_v47 val_main_v46 val_main_v45 val_main_v44 val_main_v43 val_main_v42 val_main_v41 val_main_v40 val_main_v39 val_main_v38 val_main_v37 val_main_v31 val_main_v30 val_main_v9 val_main_v8 val_main_v7 val_main_v0 val_main_cst_3 val_main_cst_4 val_main_cst_5 val_main_cst_6
  generalize val_main_v36 (F := Ideal) x0 x1 x2 x4 x5 x6 = h
  pointwise [closeRow, rmsRow, rnorm]

end Layer.FirstFfnRef

end
-- ==== Proof.FirstFfnClaim.lean ====
/-
  The first feed-forward part's claim: the kernel's result array and the plain program's are the same function of the arguments.
-/
module

public import proofs.«01_k».proof.Proof.FirstFfnKernel
public import proofs.«01_k».proof.Proof.FirstFfnRef
public import proofs.«01_k».proof.Defs

@[expose] public section

set_option maxRecDepth 16384

noncomputable section

open Idealize.ShloMosaic Idealize.ShloMosaic.TcCoe Idealize.SL.Sem
open Idealize.ShloMosaic.Pipeline (Dat)

namespace Layer.FirstFfnClaim

open Cert.Kernel3Ideal Cert.Kernel3Ideal.Gen

variable (m : (ℓ : Loc nD τ sig) → Buf (Elt Ideal) ℓ) (ρ : Dev nD → PrngReg)

/-- The first feed-forward part of the layer as one function of its seven arguments. -/
def G (x : FVec Ideal S32x2048x1024 .f32) (mo : FVec Ideal S32x9x1024 .f32) (gp go : FVec Ideal S1x1024 .f32)
    (wg wu : FVec Ideal S1024x2816 .f32) (wd : FVec Ideal S2816x1024 .f32) : FVec Ideal S32x2048x1024 .f32 := fun i =>
  ffnRow (fun k => x (ix3 (i 0) (i 1) k)) (fun k => gp (ix2 0 k)) (fun k => mo (ix3 (i 0) 0 k)) (fun k => mo (ix3 (i 0) 1 k))
    (fun k => go (ix2 0 k)) (fun k => mo (ix3 (i 0) 2 k)) (fun k f => wg (ix2 k f)) (fun k f => wu (ix2 k f)) (fun f n => wd (ix2 f n)) (i 2)

/-- The function at device `c`'s argument arrays. -/
abbrev Gm (c : Dev nD) : Buf (Elt Ideal) ((c : Thread nD τ).loc main_v3) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The three weight operands are the arguments in the narrower format. -/
theorem V_v0 (c : Dev nD) : V m c main_v0 = fun i => m ((c : Thread nD τ).loc main_arg4) i := by
  simp only [V, hostOps0]; after_results_simp <;> rfl
theorem V_v1 (c : Dev nD) : V m c main_v1 = fun i => m ((c : Thread nD τ).loc main_arg5) i := by
  simp only [V, hostOps0]; after_results_simp <;> rfl
theorem V_v2 (c : Dev nD) : V m c main_v2 = fun i => m ((c : Thread nD τ).loc main_arg6) i := by
  simp only [V, hostOps0]; after_results_simp <;> rfl

theorem ix_0 : ∀ t : Fin cfg0.N, win0_0.index t 0 = t.val / 4 ∧ win0_0.index t 1 = t.val % 4 ∧ win0_0.index t 2 = 0
    ∧ win0_1.index t 0 = t.val / 4 ∧ win0_1.index t 1 = 0 ∧ win0_1.index t 2 = 0
    ∧ win0_7.index t 0 = t.val / 4 ∧ win0_7.index t 1 = t.val % 4 ∧ win0_7.index t 2 = 0 :=
  (by decide +kernel : ∀ t : Fin grid0.N, win0_0.index t 0 = t.val / 4 ∧ win0_0.index t 1 = t.val % 4 ∧ win0_0.index t 2 = 0
    ∧ win0_1.index t 0 = t.val / 4 ∧ win0_1.index t 1 = 0 ∧ win0_1.index t 2 = 0
    ∧ win0_7.index t 0 = t.val / 4 ∧ win0_7.index t 1 = t.val % 4 ∧ win0_7.index t 2 = 0)
theorem ix_w : ∀ (t : Fin cfg0.N) (a : Fin 2), win0_2.index t a = 0 ∧ win0_3.index t a = 0 ∧ win0_4.index t a = 0 ∧ win0_5.index t a = 0
    ∧ win0_6.index t a = 0 :=
  (by decide +kernel : ∀ (t : Fin grid0.N) (a : Fin 2), win0_2.index t a = 0 ∧ win0_3.index t a = 0 ∧ win0_4.index t a = 0 ∧ win0_5.index t a = 0
    ∧ win0_6.index t a = 0)

theorem tb (t : Fin cfg0.N) : t.val / 4 < 32 := by have := t.isLt; have hN : cfg0.N = 128 := N_0; omega

theorem blk0 (c : Dev nD) (t : Fin cfg0.N) (r : Fin 512) (k : Fin 1024) :
    (iblk m c 0 t : Vec Ideal S1x512x1024 .f32) (ix3 0 r k)
      = m ((c : Thread nD τ).loc main_arg0) (ix3 ⟨t.val / 4, tb t⟩ ⟨t.val % 4 * 512 + r, by omega⟩ k) := by
  unfold iblk
  rw [View.read_apply]
  show V m c main_arg0 _ = _
  rw [V_main_arg0]
  congr 1
  funext a
  apply Fin.ext
  have h := ix_0 t
  match a with
  | ⟨0, _⟩ => show win0_0.index t 0 * 1 + 1 * 0 = t.val / 4; omega
  | ⟨1, _⟩ => show win0_0.index t 1 * 512 + 1 * r.val = t.val % 4 * 512 + r.val; omega
  | ⟨2, _⟩ => show win0_0.index t 2 * 1024 + 1 * k.val = k.val; omega

theorem blk1 (c : Dev nD) (t : Fin cfg0.N) (r : Fin 9) (k : Fin 1024) :
    (iblk m c 1 t : Vec Ideal S1x9x1024 .f32) (ix3 0 r k)
      = m ((c : Thread nD τ).loc main_arg1) (ix3 ⟨t.val / 4, tb t⟩ r k) := by
  unfold iblk
  rw [View.read_apply]
  show V m c main_arg1 _ = _
  rw [V_main_arg1]
  congr 1
  funext a
  apply Fin.ext
  have h := ix_0 t
  match a with
  | ⟨0, _⟩ => show win0_1.index t 0 * 1 + 1 * 0 = t.val / 4; omega
  | ⟨1, _⟩ => show win0_1.index t 1 * 9 + 1 * r.val = r.val; omega
  | ⟨2, _⟩ => show win0_1.index t 2 * 1024 + 1 * k.val = k.val; omega

theorem blk2 (c : Dev nD) (t : Fin cfg0.N) : (iblk m c 2 t : Vec Ideal S1x1024 .f32) = m ((c : Thread nD τ).loc main_arg2) := by
  have hz : (fun a => win0_2.index t a * main_arg2.ty.shape.size a) = fun _ => 0 := funext fun a => by
    rw [(ix_w t a).1, Nat.zero_mul]
  unfold iblk
  refine (Memref.read_access_unit_zero (Elt Ideal) main_arg2 hz (fun a => by rw [congrFun hz a]; simp) _).trans ?_
  exact V_main_arg2 m c

theorem blk3 (c : Dev nD) (t : Fin cfg0.N) : (iblk m c 3 t : Vec Ideal S1x1024 .f32) = m ((c : Thread nD τ).loc main_arg3) := by
  have hz : (fun a => win0_3.index t a * main_arg3.ty.shape.size a) = fun _ => 0 := funext fun a => by
    rw [(ix_w t a).2.1, Nat.zero_mul]
  unfold iblk
  refine (Memref.read_access_unit_zero (Elt Ideal) main_arg3 hz (fun a => by rw [congrFun hz a]; simp) _).trans ?_
  exact V_main_arg3 m c

theorem blk4 (c : Dev nD) (t : Fin cfg0.N) : (iblk m c 4 t : Vec Ideal S1024x2816 .bf16) = fun i => m ((c : Thread nD τ).loc main_arg4) i := by
  have hz : (fun a => win0_4.index t a * main_v0.ty.shape.size a) = fun _ => 0 := funext fun a => by
    rw [(ix_w t a).2.2.1, Nat.zero_mul]
  unfold iblk
  refine (Memref.read_access_unit_zero (Elt Ideal) main_v0 hz (fun a => by rw [congrFun hz a]; simp) _).trans ?_
  exact V_v0 m c

theorem blk5 (c : Dev nD) (t : Fin cfg0.N) : (iblk m c 5 t : Vec Ideal S1024x2816 .bf16) = fun i => m ((c : Thread nD τ).loc main_arg5) i := by
  have hz : (fun a => win0_5.index t a * main_v1.ty.shape.size a) = fun _ => 0 := funext fun a => by
    rw [(ix_w t a).2.2.2.1, Nat.zero_mul]
  unfold iblk
  refine (Memref.read_access_unit_zero (Elt Ideal) main_v1 hz (fun a => by rw [congrFun hz a]; simp) _).trans ?_
  exact V_v1 m c

theorem blk6 (c : Dev nD) (t : Fin cfg0.N) : (iblk m c 6 t : Vec Ideal S2816x1024 .bf16) = fun i => m ((c : Thread nD τ).loc main_arg6) i := by
  have hz : (fun a => win0_6.index t a * main_v2.ty.shape.size a) = fun _ => 0 := funext fun a => by
    rw [(ix_w t a).2.2.2.2, Nat.zero_mul]
  unfold iblk
  refine (Memref.read_access_unit_zero (Elt Ideal) main_v2 hz (fun a => by rw [congrFun hz a]; simp) _).trans ?_
  exact V_v2 m c

theorem flushed_eq (c : Dev nD) (t : Fin cfg0.N) :
    (dats m 0 c).flushed 7 t = ((cfg0.win 7).blk t).view.read (Elt Ideal) (Gm m c) := by
  rw [Value.flushed7_A]
  funext j
  obtain ⟨r, n, rfl⟩ : ∃ (r : Fin 512) (n : Fin 1024), j = ix3 0 r n := ⟨j 1, j 2, by
    refine (eq_ix3 j).trans ?_
    congr 1
    exact Fin.ext (by have := (j 0).isLt; show (j 0 : ℕ) = 0; change (j 0 : ℕ) < 1 at this; omega)⟩
  refine (FirstFfnKernel.out_apply c (grid0.coords t) _ _ _ _ _ _ _ _ _ _ _ _ _ _ _ _ _ _ _ _ _ _ _ _ _ r n).trans ?_
  simp only [blk0, blk1, blk2, blk3, blk4, blk5, blk6]
  rw [View.read_apply]
  have h := ix_0 t
  have e : (((cfg0.win 7).blk t).view.emb (ix3 0 r n) : S32x2048x1024.Idx) = ix3 ⟨t.val / 4, tb t⟩ ⟨t.val % 4 * 512 + r, by omega⟩ n := by
    funext a
    apply Fin.ext
    match a with
    | ⟨0, _⟩ => show win0_7.index t 0 * 1 + 1 * 0 = t.val / 4; omega
    | ⟨1, _⟩ => show win0_7.index t 1 * 512 + 1 * r.val = t.val % 4 * 512 + r.val; omega
    | ⟨2, _⟩ => show win0_7.index t 2 * 1024 + 1 * n.val = n.val; omega
  rw [e]
  rfl

theorem cover (i : S32x2048x1024.Idx) :
    ∃ t : Fin cfg0.N, (cfg0.win 7).flush t = true ∧ i ∈ ((cfg0.win 7).blk t).view.set := by
  have h0 : (i 0 : Nat) < 32 := (i 0).isLt
  have h1 : (i 1 : Nat) < 2048 := (i 1).isLt
  have h2 : (i 2 : Nat) < 1024 := (i 2).isLt
  have hN : cfg0.N = 128 := N_0
  refine ⟨⟨(i 0 : Nat) * 4 + (i 1 : Nat) / 512, by omega⟩, flush0_7 _, ?_⟩
  generalize ht : (⟨(i 0 : Nat) * 4 + (i 1 : Nat) / 512, by omega⟩ : Fin cfg0.N) = t
  have hv : t.val = (i 0 : Nat) * 4 + (i 1 : Nat) / 512 := by rw [← ht]
  show i ∈ ((View.whole main_v3).slice (win0_7.rect t)).set
  rw [View.set_slice_whole, Rect.mem_set_unit]
  have h := ix_0 t
  intro a
  match a with
  | ⟨0, _⟩ => show win0_7.index t 0 * 1 ≤ (i 0 : Nat) ∧ (i 0 : Nat) < win0_7.index t 0 * 1 + 1; omega
  | ⟨1, _⟩ => show win0_7.index t 1 * 512 ≤ (i 1 : Nat) ∧ (i 1 : Nat) < win0_7.index t 1 * 512 + 512; omega
  | ⟨2, _⟩ => show win0_7.index t 2 * 1024 ≤ (i 2 : Nat) ∧ (i 2 : Nat) < win0_7.index t 2 * 1024 + 1024; omega

theorem final (c : Dev nD) : (dats m 0 c).arrAt 7 cfg0.N = Gm m c :=
  (dats m 0 c).arrAt_eq_of_cover 7 (Gm m c) (fun t _ => flushed_eq m c t) cover

/-- The plain program's result is the same function of its arguments. -/
theorem ref_eq (x0 : FVec Ideal S32x2048x1024 .f32) (x1 : FVec Ideal S32x9x1024 .f32) (x2 x3 : FVec Ideal S1x1024 .f32)
    (x4 x5 : FVec Ideal S1024x2816 .f32) (x6 : FVec Ideal S2816x1024 .f32) :
    Cert.Reference3Ideal.Read.val_main_v53 (F := Ideal) x0 x1 x2 x3 x4 x5 x6 = G x0 x1 x2 x3 x4 x5 x6 := by
  funext i
  obtain ⟨b, t, n, rfl⟩ : ∃ (b : Fin 32) (t : Fin 2048) (n : Fin 1024), i = ix3 b t n := ⟨i 0, i 1, i 2, eq_ix3 i⟩
  refine (FirstFfnRef.out_apply x0 x1 x2 x3 x4 x5 x6 b t n).trans ?_
  simp only [FirstFfnRef.acc_apply, FirstFfnRef.act_apply, FirstFfnRef.h_apply]
  rfl

theorem algebraic : Cert.algebraic_Kernel3Ideal_Reference3Ideal := by
  intro m ρ m' ρ' _ hag
  refine ⟨fun c => Gm m c, ?_, ?_⟩
  · exact (θ_run Cert.Kernel3Ideal.defs _ _).mono (fun r h c => ⟨(h c).1.trans (final m c), (h c).2⟩)
      (Cert.Kernel3Ideal.Value.run_blocks (F := Ideal) m ρ)
  · refine (θ_run Cert.Reference3Ideal.defs _ _).mono (fun r h c => ⟨(h c).1.trans ?_, (h c).2⟩)
      (Cert.Reference3Ideal.Value.run (F := Ideal) m' ρ')
    rw [Cert.Reference3Ideal.Read.val_main_v53_eq]
    obtain ⟨e0, e1, e2, e3, e4, e5, e6⟩ := hag c
    rw [e0, e1, e2, e3, e4, e5, e6]
    exact ref_eq _ _ _ _ _ _ _

end Layer.FirstFfnClaim

end
-- ==== Proof.InprojKernel.lean ====
/-
  The input projection's kernel read at one element of one block: the row normalized and modulated as in the
  feed-forward part, then multiplied with a column of the packed weights. The columns are stored in several pieces.
-/
module

public import proofs.«01_k».proof.Proof.Spec
public import proofs.«01_k».proof.Proof.Gen.Kernel4Ideal.Value
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Layer.InprojKernel

open Cert.Kernel4Ideal Cert.Kernel4Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- One element of the modulated row times a packed weight column. -/
def projRow (X g sh sc w : Fin 1024 → EReal) : EReal := ∑ k, modRow X g sh sc k * w k

variable (H : FVec Ideal S256x1024 .bf16) (W : Vec Ideal S1024x512 .bf16) (Z : Vec Ideal S1024x640 .bf16)

theorem pay3_apply (x0 : Vec Ideal S1x256x1024 .f32) (x2 : Vec Ideal S1x1024 .f32) (x3 x5 : Vec Ideal S1x1x1024 .f32)
    (r : Fin 256) (k : Fin 1024) :
    k0_pay3 x0 x2 x3 x5 (ix2 r k)
      = modRow (fun k => x0 (ix3 0 r k)) (fun k => x2 (ix2 0 k)) (fun k => x3 (ix3 0 0 k)) (fun k => x5 (ix3 0 0 k)) k := by
  unfold_payloads
  pointwise [modRow, rmsRow, rnorm]

theorem pay4_apply (x0 : Vec Ideal S1x256x1024 .f32) (x2 : Vec Ideal S1x1024 .f32) (x3 x5 : Vec Ideal S1x1x1024 .f32)
    (r : Fin 256) (n : Fin 512) :
    k0_pay4 x0 x2 x3 x5 W (ix3 0 r n) = ∑ k, k0_pay3 x0 x2 x3 x5 (ix2 r k) * W (ix2 k n) := by
  unfold k0_pay4
  pointwise
theorem pay5_apply (r : Fin 256) (n : Fin 512) : k0_pay5 H W (ix3 0 r n) = ∑ k, H (ix2 r k) * W (ix2 k n) := by
  unfold_payloads
  pointwise
theorem pay6_apply (r : Fin 256) (n : Fin 512) : k0_pay6 H W (ix3 0 r n) = ∑ k, H (ix2 r k) * W (ix2 k n) := by
  unfold_payloads
  pointwise
theorem pay7_apply (r : Fin 256) (n : Fin 512) : k0_pay7 H W (ix3 0 r n) = ∑ k, H (ix2 r k) * W (ix2 k n) := by
  unfold_payloads
  pointwise
theorem pay8_apply (r : Fin 256) (n : Fin 512) : k0_pay8 H W (ix3 0 r n) = ∑ k, H (ix2 r k) * W (ix2 k n) := by
  unfold_payloads
  pointwise
theorem pay10_apply (r : Fin 256) (n : Fin 512) : k0_pay10 (k0_pay9 H W) (ix3 0 r n) = ∑ k, H (ix2 r k) * W (ix2 k n) := by
  unfold_payloads
  pointwise
theorem pay11_apply (r : Fin 256) (n : Fin 512) : k0_pay11 H W (ix3 0 r n) = ∑ k, H (ix2 r k) * W (ix2 k n) := by
  unfold_payloads
  pointwise
theorem pay12_apply (r : Fin 256) (n : Fin 640) : k0_pay12 H Z (ix3 0 r n) = ∑ k, H (ix2 r k) * Z (ix2 k n) := by
  unfold_payloads
  pointwise
theorem pay13_apply (r : Fin 256) (n : Fin 640) : k0_pay13 H Z (ix3 0 r n) = ∑ k, H (ix2 r k) * Z (ix2 k n) := by
  unfold_payloads
  pointwise
theorem pay14_apply (r : Fin 256) (n : Fin 640) : k0_pay14 H Z (ix3 0 r n) = ∑ k, H (ix2 r k) * Z (ix2 k n) := by
  unfold_payloads
  pointwise
theorem pay1_apply (r : Fin 256) (n : Fin 640) : k0_pay1 H Z (ix3 0 r n) = ∑ k, H (ix2 r k) * Z (ix2 k n) := by
  unfold_payloads
  pointwise
theorem pay2_apply (r : Fin 256) (n : Fin 640) : k0_pay2 H Z (ix3 0 r n) = ∑ k, H (ix2 r k) * Z (ix2 k n) := by
  unfold_payloads
  pointwise

variable (x0 : Vec Ideal S1x256x1024 .f32) (x1 : Vec Ideal S1x9x1024 .f32) (x2 : Vec Ideal S1x1024 .f32)
  (x3 : Vec Ideal S1024x3584 .bf16) (x4 : Vec Ideal S1024x3200 .bf16)

/-- The block of window 5 as one function of its index. -/
def attBlock : Vec Ideal S1x256x3584 .bf16 := fun y => ∑ k, k0_pay15 x0 x1 x2 x3 x4 (ix2 (y 1) k) * x3 (ix2 k (y 2))
/-- The block of window 6 as one function of its index. -/
def gateBlock : Vec Ideal S1x256x3200 .f32 := fun y => ∑ k, k0_pay15 x0 x1 x2 x3 x4 (ix2 (y 1) k) * x4 (ix2 k (y 2))

theorem att_piece (P : FVec Ideal S1x256x512 .bf16) (o : ℕ) (h : o + 512 ≤ 3584) inb3 inb5
    (hP : ∀ (r : Fin 256) (n : Fin 512), P (ix3 0 r n)
      = ∑ k, k0_pay15 x0 x1 x2 x3 x4 (ix2 r k) * View.ld x3 (Rect.unit (s := S1024x3584) ![0, o] ![1024, 512] inb3) (ix2 k n))
    (x : S1x256x512.Idx) :
    P x = attBlock x0 x1 x2 x3 x4 ((Rect.unit (s := S1x256x3584) ![0, 0, o] ![1, 256, 512] inb5).emb x) := by
  obtain ⟨r, n, rfl⟩ : ∃ (r : Fin 256) (n : Fin 512), x = ix3 0 r n := ⟨x 1, x 2, by
    refine (eq_ix3 x).trans ?_
    congr 1
    exact Fin.ext (by have := (x 0).isLt; show (x 0 : ℕ) = 0; change (x 0 : ℕ) < 1 at this; omega)⟩
  rw [hP]
  unfold attBlock
  generalize k0_pay15 x0 x1 x2 x3 x4 = H
  refine Finset.sum_congr rfl fun k _ => ?_
  congr 1
  · congr 1; funext a; apply Fin.ext
    match a with
    | ⟨0, _⟩ => show (r : ℕ) = 0 + 1 * r.val; omega
    | ⟨1, _⟩ => rfl
  · show x3 _ = x3 _
    congr 1; funext a; apply Fin.ext
    match a with
    | ⟨0, _⟩ => show 0 + 1 * (k : ℕ) = k.val; omega
    | ⟨1, _⟩ => rfl

theorem gate_piece (P : FVec Ideal S1x256x640 .f32) (o : ℕ) (h : o + 640 ≤ 3200) inb4 inb6
    (hP : ∀ (r : Fin 256) (n : Fin 640), P (ix3 0 r n)
      = ∑ k, k0_pay15 x0 x1 x2 x3 x4 (ix2 r k) * View.ld x4 (Rect.unit (s := S1024x3200) ![0, o] ![1024, 640] inb4) (ix2 k n))
    (x : S1x256x640.Idx) :
    P x = gateBlock x0 x1 x2 x3 x4 ((Rect.unit (s := S1x256x3200) ![0, 0, o] ![1, 256, 640] inb6).emb x) := by
  obtain ⟨r, n, rfl⟩ : ∃ (r : Fin 256) (n : Fin 640), x = ix3 0 r n := ⟨x 1, x 2, by
    refine (eq_ix3 x).trans ?_
    congr 1
    exact Fin.ext (by have := (x 0).isLt; show (x 0 : ℕ) = 0; change (x 0 : ℕ) < 1 at this; omega)⟩
  rw [hP]
  unfold gateBlock
  generalize k0_pay15 x0 x1 x2 x3 x4 = H
  refine Finset.sum_congr rfl fun k _ => ?_
  congr 1
  · congr 1; funext a; apply Fin.ext
    match a with
    | ⟨0, _⟩ => show (r : ℕ) = 0 + 1 * r.val; omega
    | ⟨1, _⟩ => rfl
  · show x4 _ = x4 _
    congr 1; funext a; apply Fin.ext
    match a with
    | ⟨0, _⟩ => show 0 + 1 * (k : ℕ) = k.val; omega
    | ⟨1, _⟩ => rfl

theorem out5_eq : out0_5 x0 x1 x2 x3 x4 = attBlock x0 x1 x2 x3 x4 := by
  funext y
  unfold out0_5
  refine View.canon_apply_of_pieces (attBlock x0 x1 x2 x3 x4) _ ?_ y (cover0_5 _ _ _ _ _ _ _ y)
  refine List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, by simp⟩⟩⟩⟩⟩⟩⟩
  · exact att_piece x0 x1 x2 x3 x4 _ 3072 (by decide) _ inb_S1x256x3584_S1x256x512_0_0_3072 (pay11_apply _ _)
  · exact att_piece x0 x1 x2 x3 x4 _ 2560 (by decide) _ inb_S1x256x3584_S1x256x512_0_0_2560 (pay10_apply _ _)
  · exact att_piece x0 x1 x2 x3 x4 _ 2048 (by decide) _ inb_S1x256x3584_S1x256x512_0_0_2048 (pay8_apply _ _)
  · exact att_piece x0 x1 x2 x3 x4 _ 1536 (by decide) _ inb_S1x256x3584_S1x256x512_0_0_1536 (pay7_apply _ _)
  · exact att_piece x0 x1 x2 x3 x4 _ 1024 (by decide) _ inb_S1x256x3584_S1x256x512_0_0_1024 (pay6_apply _ _)
  · exact att_piece x0 x1 x2 x3 x4 _ 512 (by decide) _ inb_S1x256x3584_S1x256x512_0_0_512 (pay5_apply _ _)
  · exact att_piece x0 x1 x2 x3 x4 _ 0 (by decide) _ inb_S1x256x3584_S1x256x512_0_0_0 (pay4_apply _ _ _ _ _)

theorem out6_eq : out0_6 x0 x1 x2 x3 x4 = gateBlock x0 x1 x2 x3 x4 := by
  funext y
  unfold out0_6
  refine View.canon_apply_of_pieces (gateBlock x0 x1 x2 x3 x4) _ ?_ y (cover0_6 _ _ _ _ _ y)
  refine List.forall_mem_cons.2 ⟨?_, List.forall_mem_cons.2 ⟨?_, List.forall_mem_cons.2 ⟨?_, List.forall_mem_cons.2 ⟨?_,
    List.forall_mem_cons.2 ⟨?_, by simp⟩⟩⟩⟩⟩
  · exact gate_piece x0 x1 x2 x3 x4 _ 2560 (by decide) _ inb_S1x256x3200_S1x256x640_0_0_2560 (pay2_apply _ _)
  · exact gate_piece x0 x1 x2 x3 x4 _ 1920 (by decide) _ inb_S1x256x3200_S1x256x640_0_0_1920 (pay1_apply _ _)
  · exact gate_piece x0 x1 x2 x3 x4 _ 1280 (by decide) _ inb_S1x256x3200_S1x256x640_0_0_1280 (pay14_apply _ _)
  · exact gate_piece x0 x1 x2 x3 x4 _ 640 (by decide) _ inb_S1x256x3200_S1x256x640_0_0_640 (pay13_apply _ _)
  · exact gate_piece x0 x1 x2 x3 x4 _ 0 (by decide) _ inb_S1x256x3200_S1x256x640_0_0_0 (pay12_apply _ _)

theorem rows_apply (r : Fin 256) (k : Fin 1024) :
    k0_pay15 x0 x1 x2 x3 x4 (ix2 r k)
      = modRow (fun k => x0 (ix3 0 r k)) (fun k => x2 (ix2 0 k)) (fun k => x1 (ix3 0 3 k)) (fun k => x1 (ix3 0 4 k)) k := by
  unfold k0_pay15
  rw [View.ld_unit_zero (S := S1x256x1024) hz3, View.ld_unit_zero (S := S1x1024) hz2]
  pointwise [pay3_apply]

/-- Window 5's block at one element. -/
theorem att_apply (r : Fin 256) (n : Fin 3584) :
    out0_5 x0 x1 x2 x3 x4 (ix3 0 r n)
      = projRow (fun k => x0 (ix3 0 r k)) (fun k => x2 (ix2 0 k)) (fun k => x1 (ix3 0 3 k)) (fun k => x1 (ix3 0 4 k)) (fun k => x3 (ix2 k n)) := by
  rw [out5_eq]
  unfold attBlock projRow
  exact Finset.sum_congr rfl fun k _ => congrArg (· * x3 (ix2 k n)) (rows_apply x0 x1 x2 x3 x4 r k)

/-- Window 6's block at one element. -/
theorem gate_apply (r : Fin 256) (n : Fin 3200) :
    out0_6 x0 x1 x2 x3 x4 (ix3 0 r n)
      = projRow (fun k => x0 (ix3 0 r k)) (fun k => x2 (ix2 0 k)) (fun k => x1 (ix3 0 3 k)) (fun k => x1 (ix3 0 4 k)) (fun k => x4 (ix2 k n)) := by
  rw [out6_eq]
  unfold gateBlock projRow
  exact Finset.sum_congr rfl fun k _ => congrArg (· * x4 (ix2 k n)) (rows_apply x0 x1 x2 x3 x4 r k)

end Layer.InprojKernel

end
-- ==== Proof.InprojRef.lean ====
/-
  The input projection's plain program read at one element, as the row functions of Spec.lean.
-/
module

public import proofs.«01_k».proof.Proof.Spec
public import proofs.«01_k».proof.Proof.Gen.Reference4Ideal.Read
public import Idealize.ShloMosaic.Lib.Pointwise

@[expose] public section

set_option maxRecDepth 16384

noncomputable section

open Idealize.ShloMosaic

namespace Layer.InprojRef

open Cert.Reference4Ideal Cert.Reference4Ideal.Read

variable (x0 : (⟨S32x2048x1024, .f32⟩ : BufTy).Contents (Elt Ideal)) (x1 : (⟨S32x9x1024, .f32⟩ : BufTy).Contents (Elt Ideal))
  (x2 : (⟨S1x1024, .f32⟩ : BufTy).Contents (Elt Ideal)) (x3 : (⟨S1024x6680, .f32⟩ : BufTy).Contents (Elt Ideal))

/-- The modulated row both products read. -/
theorem rows_apply (b : Fin 32) (t : Fin 2048) (k : Fin 1024) :
    val_main_v26 (F := Ideal) x0 x1 x2 (ix3 b t k)
      = modRow (fun k => x0 (ix3 b t k)) (fun k => x2 (ix2 0 k)) (fun k => x1 (ix3 b 3 k)) (fun k => x1 (ix3 b 4 k)) k := by
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise [modRow, rmsRow, rnorm]

theorem att_apply (b : Fin 32) (t : Fin 2048) (n : Fin 3584) :
    val_main_v46 (F := Ideal) x0 x1 x2 x3 (ix3 b t n)
      = ∑ k, val_main_v26 (F := Ideal) x0 x1 x2 (ix3 b t k) * val_main_v40 (F := Ideal) x3 (ix2 k n) := by
  unfold val_main_v46 val_main_v45
  generalize val_main_v26 (F := Ideal) x0 x1 x2 = h
  generalize val_main_v40 (F := Ideal) x3 = w
  pointwise

theorem gate_apply (b : Fin 32) (t : Fin 2048) (n : Fin 3200) :
    val_main_v47 (F := Ideal) x0 x1 x2 x3 (ix3 b t n)
      = ∑ k, val_main_v26 (F := Ideal) x0 x1 x2 (ix3 b t k) * val_main_v44 (F := Ideal) x3 (ix2 k n) := by
  unfold val_main_v47
  generalize val_main_v26 (F := Ideal) x0 x1 x2 = h
  generalize val_main_v44 (F := Ideal) x3 = w
  pointwise

end Layer.InprojRef

end
-- ==== Proof.InprojClaim.lean ====
/-
  The input projection's claim: the kernel's two result arrays and the plain program's are the same functions of the arguments.
-/
module

public import proofs.«01_k».proof.Proof.InprojKernel
public import proofs.«01_k».proof.Proof.InprojRef
public import proofs.«01_k».proof.Defs

@[expose] public section

set_option maxRecDepth 16384

noncomputable section

open Idealize.ShloMosaic Idealize.ShloMosaic.TcCoe Idealize.SL.Sem
open Idealize.ShloMosaic.Pipeline (Dat)

namespace Layer.InprojClaim

open Cert.Kernel4Ideal Cert.Kernel4Ideal.Gen
open Cert.Reference4Ideal.Read (val_main_v40 val_main_v44 val_main_v46 val_main_v47)

variable (m : (ℓ : Loc nD τ sig) → Buf (Elt Ideal) ℓ) (ρ : Dev nD → PrngReg)

/-- The packed projections at device `c`'s argument arrays. -/
abbrev Att (c : Dev nD) : Buf (Elt Ideal) ((c : Thread nD τ).loc main_v20_0) :=
  val_main_v46 (F := Ideal) (m ((c : Thread nD τ).loc main_arg0)) (m ((c : Thread nD τ).loc main_arg1)) (m ((c : Thread nD τ).loc main_arg2))
    (m ((c : Thread nD τ).loc main_arg3))
/-- The gate projections at device `c`'s argument arrays. -/
abbrev Gates (c : Dev nD) : Buf (Elt Ideal) ((c : Thread nD τ).loc main_v20_1) :=
  val_main_v47 (F := Ideal) (m ((c : Thread nD τ).loc main_arg0)) (m ((c : Thread nD τ).loc main_arg1)) (m ((c : Thread nD τ).loc main_arg2))
    (m ((c : Thread nD τ).loc main_arg3))

/-- The two weight operands are the packed columns the plain program multiplies with. -/
theorem V_v14 (c : Dev nD) : (V m c main_v14 : FVec Ideal S1024x3584 .bf16) = val_main_v40 (F := Ideal) (m ((c : Thread nD τ).loc main_arg3)) := by
  simp only [V, hostOps0]
  after_results_simp <;> (try dsimp only [Matrix.cons_val]) <;> (try after_results_simp) <;> rfl
theorem V_v19 (c : Dev nD) : (V m c main_v19 : FVec Ideal S1024x3200 .bf16) = val_main_v44 (F := Ideal) (m ((c : Thread nD τ).loc main_arg3)) := by
  simp only [V, hostOps0]
  after_results_simp <;> (try dsimp only [Matrix.cons_val]) <;> (try after_results_simp) <;> rfl

theorem ix_0 : ∀ t : Fin cfg0.N, win0_0.index t 0 = t.val / 8 ∧ win0_0.index t 1 = t.val % 8 ∧ win0_0.index t 2 = 0 ∧ win0_1.index t 0 = t.val / 8 ∧ win0_1.index t 1 = 0 ∧ win0_1.index t 2 = 0 ∧ win0_5.index t 0 = t.val / 8 ∧ win0_5.index t 1 = t.val % 8 ∧ win0_5.index t 2 = 0 ∧ win0_6.index t 0 = t.val / 8 ∧ win0_6.index t 1 = t.val % 8 ∧ win0_6.index t 2 = 0 :=
  (by decide +kernel : ∀ t : Fin grid0.N, win0_0.index t 0 = t.val / 8 ∧ win0_0.index t 1 = t.val % 8 ∧ win0_0.index t 2 = 0 ∧ win0_1.index t 0 = t.val / 8 ∧ win0_1.index t 1 = 0 ∧ win0_1.index t 2 = 0 ∧ win0_5.index t 0 = t.val / 8 ∧ win0_5.index t 1 = t.val % 8 ∧ win0_5.index t 2 = 0 ∧ win0_6.index t 0 = t.val / 8 ∧ win0_6.index t 1 = t.val % 8 ∧ win0_6.index t 2 = 0)
theorem ix_w : ∀ (t : Fin cfg0.N) (a : Fin 2), win0_2.index t a = 0 ∧ win0_3.index t a = 0 ∧ win0_4.index t a = 0 :=
  (by decide +kernel : ∀ (t : Fin grid0.N) (a : Fin 2), win0_2.index t a = 0 ∧ win0_3.index t a = 0 ∧ win0_4.index t a = 0)

theorem tb (t : Fin cfg0.N) : t.val / 8 < 32 := by have := t.isLt; have hN : cfg0.N = 256 := N_0; omega

theorem blk0 (c : Dev nD) (t : Fin cfg0.N) (r : Fin 256) (k : Fin 1024) :
    (iblk m c 0 t : Vec Ideal S1x256x1024 .f32) (ix3 0 r k)
      = m ((c : Thread nD τ).loc main_arg0) (ix3 ⟨t.val / 8, tb t⟩ ⟨t.val % 8 * 256 + r, by omega⟩ k) := by
  unfold iblk
  rw [View.read_apply]
  show V m c main_arg0 _ = _
  rw [V_main_arg0]
  congr 1
  funext a
  apply Fin.ext
  have h := ix_0 t
  match a with
  | ⟨0, _⟩ => show win0_0.index t 0 * 1 + 1 * 0 = t.val / 8; omega
  | ⟨1, _⟩ => show win0_0.index t 1 * 256 + 1 * r.val = t.val % 8 * 256 + r.val; omega
  | ⟨2, _⟩ => show win0_0.index t 2 * 1024 + 1 * k.val = k.val; omega

theorem blk1 (c : Dev nD) (t : Fin cfg0.N) (r : Fin 9) (k : Fin 1024) :
    (iblk m c 1 t : Vec Ideal S1x9x1024 .f32) (ix3 0 r k)
      = m ((c : Thread nD τ).loc main_arg1) (ix3 ⟨t.val / 8, tb t⟩ r k) := by
  unfold iblk
  rw [View.read_apply]
  show V m c main_arg1 _ = _
  rw [V_main_arg1]
  congr 1
  funext a
  apply Fin.ext
  have h := ix_0 t
  match a with
  | ⟨0, _⟩ => show win0_1.index t 0 * 1 + 1 * 0 = t.val / 8; omega
  | ⟨1, _⟩ => show win0_1.index t 1 * 9 + 1 * r.val = r.val; omega
  | ⟨2, _⟩ => show win0_1.index t 2 * 1024 + 1 * k.val = k.val; omega

theorem blk2 (c : Dev nD) (t : Fin cfg0.N) : (iblk m c 2 t : Vec Ideal S1x1024 .f32) = m ((c : Thread nD τ).loc main_arg2) := by
  have hz : (fun a => win0_2.index t a * main_arg2.ty.shape.size a) = fun _ => 0 := funext fun a => by
    rw [(ix_w t a).1, Nat.zero_mul]
  unfold iblk
  refine (Memref.read_access_unit_zero (Elt Ideal) main_arg2 hz (fun a => by rw [congrFun hz a]; simp) _).trans ?_
  exact V_main_arg2 m c

theorem blk3 (c : Dev nD) (t : Fin cfg0.N) :
    (iblk m c 3 t : Vec Ideal S1024x3584 .bf16) = val_main_v40 (F := Ideal) (m ((c : Thread nD τ).loc main_arg3)) := by
  have hz : (fun a => win0_3.index t a * main_v14.ty.shape.size a) = fun _ => 0 := funext fun a => by
    rw [(ix_w t a).2.1, Nat.zero_mul]
  unfold iblk
  refine (Memref.read_access_unit_zero (Elt Ideal) main_v14 hz (fun a => by rw [congrFun hz a]; simp) _).trans ?_
  exact V_v14 m c

theorem blk4 (c : Dev nD) (t : Fin cfg0.N) :
    (iblk m c 4 t : Vec Ideal S1024x3200 .bf16) = val_main_v44 (F := Ideal) (m ((c : Thread nD τ).loc main_arg3)) := by
  have hz : (fun a => win0_4.index t a * main_v19.ty.shape.size a) = fun _ => 0 := funext fun a => by
    rw [(ix_w t a).2.2, Nat.zero_mul]
  unfold iblk
  refine (Memref.read_access_unit_zero (Elt Ideal) main_v19 hz (fun a => by rw [congrFun hz a]; simp) _).trans ?_
  exact V_v19 m c

theorem flushed5_eq (c : Dev nD) (t : Fin cfg0.N) :
    (dats m 0 c).flushed 5 t = ((cfg0.win 5).blk t).view.read (Elt Ideal) (Att m c) := by
  rw [Value.flushed5]
  funext j
  obtain ⟨r, n, rfl⟩ : ∃ (r : Fin 256) (n : Fin 3584), j = ix3 0 r n := ⟨j 1, j 2, by
    refine (eq_ix3 j).trans ?_
    congr 1
    exact Fin.ext (by have := (j 0).isLt; show (j 0 : ℕ) = 0; change (j 0 : ℕ) < 1 at this; omega)⟩
  refine (InprojKernel.att_apply _ _ _ _ _ r n).trans ?_
  simp only [blk0, blk1, blk2, blk3, blk4]
  rw [View.read_apply]
  have h := ix_0 t
  have e : (((cfg0.win 5).blk t).view.emb (ix3 0 r n) : S32x2048x3584.Idx) = ix3 ⟨t.val / 8, tb t⟩ ⟨t.val % 8 * 256 + r, by omega⟩ n := by
    funext a
    apply Fin.ext
    match a with
    | ⟨0, _⟩ => show win0_5.index t 0 * 1 + 1 * 0 = t.val / 8; omega
    | ⟨1, _⟩ => show win0_5.index t 1 * 256 + 1 * r.val = t.val % 8 * 256 + r.val; omega
    | ⟨2, _⟩ => show win0_5.index t 2 * 3584 + 1 * n.val = n.val; omega
  rw [e]
  refine Eq.symm ((InprojRef.att_apply _ _ _ _ _ _ n).trans ?_)
  simp only [InprojRef.rows_apply]
  rfl

theorem cover5 (i : S32x2048x3584.Idx) :
    ∃ t : Fin cfg0.N, (cfg0.win 5).flush t = true ∧ i ∈ ((cfg0.win 5).blk t).view.set := by
  have h0 : (i 0 : Nat) < 32 := (i 0).isLt
  have h1 : (i 1 : Nat) < 2048 := (i 1).isLt
  have h2 : (i 2 : Nat) < 3584 := (i 2).isLt
  have hN : cfg0.N = 256 := N_0
  refine ⟨⟨(i 0 : Nat) * 8 + (i 1 : Nat) / 256, by omega⟩, flush0_5 _, ?_⟩
  generalize ht : (⟨(i 0 : Nat) * 8 + (i 1 : Nat) / 256, by omega⟩ : Fin cfg0.N) = t
  have hv : t.val = (i 0 : Nat) * 8 + (i 1 : Nat) / 256 := by rw [← ht]
  show i ∈ ((View.whole main_v20_0).slice (win0_5.rect t)).set
  rw [View.set_slice_whole, Rect.mem_set_unit]
  have h := ix_0 t
  intro a
  match a with
  | ⟨0, _⟩ => show win0_5.index t 0 * 1 ≤ (i 0 : Nat) ∧ (i 0 : Nat) < win0_5.index t 0 * 1 + 1; omega
  | ⟨1, _⟩ => show win0_5.index t 1 * 256 ≤ (i 1 : Nat) ∧ (i 1 : Nat) < win0_5.index t 1 * 256 + 256; omega
  | ⟨2, _⟩ => show win0_5.index t 2 * 3584 ≤ (i 2 : Nat) ∧ (i 2 : Nat) < win0_5.index t 2 * 3584 + 3584; omega

theorem final5 (c : Dev nD) : (dats m 0 c).arrAt 5 cfg0.N = Att m c :=
  (dats m 0 c).arrAt_eq_of_cover 5 (Att m c) (fun t _ => flushed5_eq m c t) cover5

theorem flushed6_eq (c : Dev nD) (t : Fin cfg0.N) :
    (dats m 0 c).flushed 6 t = ((cfg0.win 6).blk t).view.read (Elt Ideal) (Gates m c) := by
  rw [Value.flushed6]
  funext j
  obtain ⟨r, n, rfl⟩ : ∃ (r : Fin 256) (n : Fin 3200), j = ix3 0 r n := ⟨j 1, j 2, by
    refine (eq_ix3 j).trans ?_
    congr 1
    exact Fin.ext (by have := (j 0).isLt; show (j 0 : ℕ) = 0; change (j 0 : ℕ) < 1 at this; omega)⟩
  refine (InprojKernel.gate_apply _ _ _ _ _ r n).trans ?_
  simp only [blk0, blk1, blk2, blk3, blk4]
  rw [View.read_apply]
  have h := ix_0 t
  have e : (((cfg0.win 6).blk t).view.emb (ix3 0 r n) : S32x2048x3200.Idx) = ix3 ⟨t.val / 8, tb t⟩ ⟨t.val % 8 * 256 + r, by omega⟩ n := by
    funext a
    apply Fin.ext
    match a with
    | ⟨0, _⟩ => show win0_6.index t 0 * 1 + 1 * 0 = t.val / 8; omega
    | ⟨1, _⟩ => show win0_6.index t 1 * 256 + 1 * r.val = t.val % 8 * 256 + r.val; omega
    | ⟨2, _⟩ => show win0_6.index t 2 * 3200 + 1 * n.val = n.val; omega
  rw [e]
  refine Eq.symm ((InprojRef.gate_apply _ _ _ _ _ _ n).trans ?_)
  simp only [InprojRef.rows_apply]
  rfl

theorem cover6 (i : S32x2048x3200.Idx) :
    ∃ t : Fin cfg0.N, (cfg0.win 6).flush t = true ∧ i ∈ ((cfg0.win 6).blk t).view.set := by
  have h0 : (i 0 : Nat) < 32 := (i 0).isLt
  have h1 : (i 1 : Nat) < 2048 := (i 1).isLt
  have h2 : (i 2 : Nat) < 3200 := (i 2).isLt
  have hN : cfg0.N = 256 := N_0
  refine ⟨⟨(i 0 : Nat) * 8 + (i 1 : Nat) / 256, by omega⟩, flush0_6 _, ?_⟩
  generalize ht : (⟨(i 0 : Nat) * 8 + (i 1 : Nat) / 256, by omega⟩ : Fin cfg0.N) = t
  have hv : t.val = (i 0 : Nat) * 8 + (i 1 : Nat) / 256 := by rw [← ht]
  show i ∈ ((View.whole main_v20_1).slice (win0_6.rect t)).set
  rw [View.set_slice_whole, Rect.mem_set_unit]
  have h := ix_0 t
  intro a
  match a with
  | ⟨0, _⟩ => show win0_6.index t 0 * 1 ≤ (i 0 : Nat) ∧ (i 0 : Nat) < win0_6.index t 0 * 1 + 1; omega
  | ⟨1, _⟩ => show win0_6.index t 1 * 256 ≤ (i 1 : Nat) ∧ (i 1 : Nat) < win0_6.index t 1 * 256 + 256; omega
  | ⟨2, _⟩ => show win0_6.index t 2 * 3200 ≤ (i 2 : Nat) ∧ (i 2 : Nat) < win0_6.index t 2 * 3200 + 3200; omega

theorem final6 (c : Dev nD) : (dats m 0 c).arrAt 6 cfg0.N = Gates m c :=
  (dats m 0 c).arrAt_eq_of_cover 6 (Gates m c) (fun t _ => flushed6_eq m c t) cover6

theorem algebraic : Cert.algebraic_Kernel4Ideal_Reference4Ideal := by
  intro m ρ m' ρ' _ hag
  refine ⟨fun c => Att m c, fun c => Gates m c, ?_, ?_⟩
  · exact (θ_run Cert.Kernel4Ideal.defs _ _).mono (fun r h c => ⟨(h c).1.trans (final5 m c), (h c).2.1.trans (final6 m c), (h c).2.2⟩)
      (Cert.Kernel4Ideal.Value.run_blocks (F := Ideal) m ρ)
  · refine (θ_run Cert.Reference4Ideal.defs _ _).mono (fun r h c => ⟨(h c).1.trans ?_, (h c).2.1.trans ?_, (h c).2.2⟩)
      (Cert.Reference4Ideal.Value.run (F := Ideal) m' ρ')
    · rw [Cert.Reference4Ideal.Read.val_main_v46_eq]
      obtain ⟨e0, e1, e2, e3⟩ := hag c
      rw [e0, e1, e2, e3]
    · refine (Cert.Reference4Ideal.Read.val_main_v47_eq (F := Ideal) _ _ _ _).trans ?_
      obtain ⟨e0, e1, e2, e3⟩ := hag c
      rw [e0, e1, e2, e3]

end Layer.InprojClaim

end
-- ==== Proof.MergeSpec.lean ====
/-
  The merge as functions of rows: the three branch outputs of mixer B weighted by their head gates, the three mixers
  weighted by their gates and projected, and the sandwich around the output projection.
-/
module

public import proofs.«01_k».proof.Proof.Spec

@[expose] public section

noncomputable section

open Idealize.ShloMosaic

namespace Layer

/-- Mixer B at one column: each branch output times the gate of the column's head. -/
def headsRow (g : Fin 24 → EReal) (O0 O1 O2 : Fin 512 → EReal) (l : Fin 512) : EReal :=
  Ideal.logistic (g ⟨l.val / 64, by omega⟩) * O0 l + Ideal.logistic (g ⟨8 + l.val / 64, by omega⟩) * O1 l
    + Ideal.logistic (g ⟨16 + l.val / 64, by omega⟩) * O2 l

/-- The three mixers' products at one column, each under its gate. -/
def mergedRow (g : Fin 3072 → EReal) (A B C : Fin 512 → EReal) (W : Fin 3 → Fin 512 → Fin 1024 → EReal) (n : Fin 1024) : EReal :=
  Ideal.logistic (g ⟨n.val, by omega⟩) * (∑ l, A l * W 0 l n) + Ideal.logistic (g ⟨1024 + n.val, by omega⟩) * (∑ l, B l * W 1 l n)
    + Ideal.logistic (g ⟨2048 + n.val, by omega⟩) * ∑ l, C l * W 2 l n

/-- The row plus its gate times the normalized output projection of a merged row. -/
def outRow (X M gp gate : Fin 1024 → EReal) (wo : Fin 1024 → Fin 1024 → EReal) (n : Fin 1024) : EReal :=
  X n + gate n * rmsRow (fun n => ∑ k, M k * wo k n) gp n

end Layer

end
-- ==== Proof.MergeKernel.lean ====
/-
  The merge's kernel read at one element of one block. The head gates reach the columns through products with matrices
  of zeros and ones, in three parts whose second and third are differences of equal numbers.
-/
module

public import proofs.«01_k».proof.Proof.MergeSpec
public import proofs.«01_k».proof.Proof.Gen.Kernel5Ideal.Value
public import Idealize.ShloMosaic.Lib.Pointwise
public import Idealize.ShloMosaic.Lib.VecWindow

@[expose] public section

set_option maxRecDepth 16384

noncomputable section

open Idealize.ShloMosaic Idealize.ShloMosaic.TcCoe Idealize.SL.Sem

namespace Layer.MergeKernel

open Cert.Kernel5Ideal Cert.Kernel5Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The logistic function has real values only, so it minus itself is zero. -/
theorem logistic_sub_self (x : EReal) : Ideal.logistic x - Ideal.logistic x = 0 := by
  have h : ∃ r : ℝ, Ideal.logistic x = (r : EReal) := by
    induction x with
    | bot => exact ⟨0, by rw [Ideal.logistic_bot]; rfl⟩
    | coe r => exact ⟨(1 + Real.exp (-r))⁻¹, by simp⟩
    | top => exact ⟨1, by rw [Ideal.logistic_top]; rfl⟩
  obtain ⟨r, hr⟩ := h
  rw [hr, ← EReal.coe_sub, sub_self, EReal.coe_zero]

/-- The head of a column, as a word. -/
theorem head_word (c : Fin 128) (l : Fin 512) : k0_pay3 (ix2 c l) = BitVec.ofNat 32 (l.val / 64) := by
  unfold_payloads
  pointwise []
  revert l
  decide +kernel

theorem row_word (c : Fin 128) (l : Fin 512) :
    (iota .tc S128x512 32 [0] iota_S128x512_d0_w32) (ix2 c l) = BitVec.ofNat 32 c.val := by
  pointwise []

theorem word_eq_iff (b : ℕ) (hb : b < 64) (c : Fin 128) (l : Fin 512) :
    BitVec.ofNat 32 c.val = BitVec.ofNat 32 b + BitVec.ofNat 32 (l.val / 64) ↔ c.val = b + l.val / 64 := by
  have hc := c.isLt
  have hl := l.isLt
  rw [← BitVec.toNat_inj, BitVec.toNat_add, BitVec.toNat_ofNat, BitVec.toNat_ofNat, BitVec.toNat_ofNat]
  omega

theorem select_eq (x y : BitVec 32) (a b : EReal) : Scalar.select (IntOp.cmpi .eq x y) a b = if x = y then a else b := by
  by_cases h : x = y
  · simp [Scalar.select, IntOp.cmpi, h]
  · have hb : (x == y) = false := by simpa using h
    simp [Scalar.select, IntOp.cmpi, h, hb]

theorem select_same (c : BitVec 1) (a : EReal) : Scalar.select c a a = a := by simp [Scalar.select]

/-- A sum in which only the row of a column's head counts. -/
theorem pick (f : Fin 128 → EReal) (b : ℕ) (hb : b < 64) (l : Fin 512) :
    (∑ x : Fin 128, Scalar.select (IntOp.cmpi .eq (BitVec.ofNat 32 x.val) (IntOp.addi (BitVec.ofNat 32 b) (BitVec.ofNat 32 (l.val / 64)))) (f x) 0)
      = f ⟨b + l.val / 64, by omega⟩ := by
  rw [Finset.sum_eq_single (⟨b + l.val / 64, by omega⟩ : Fin 128)]
  · rw [select_eq]
    exact if_pos ((word_eq_iff b hb _ l).2 rfl)
  · intro x _ hx
    rw [select_eq]
    exact if_neg fun h => hx (Fin.ext ((word_eq_iff b hb x l).1 h))
  · intro h
    exact absurd (Finset.mem_univ _) h

theorem pay2_apply (v0 : Vec Ideal S1x256x128 .f32) (r : Fin 256) (c : Fin 128) :
    k0_pay2 v0 (ix2 r c) = Ideal.logistic (v0 (ix3 0 r c)) := by
  unfold_payloads
  pointwise []

/-- The first two branches. -/
theorem two_apply (v0 : Vec Ideal S1x256x128 .f32) (v49 v73 : Vec Ideal S1x256x512 .bf16) (r : Fin 256) (l : Fin 512) :
    k0_pay10 (k0_pay2 v0) (iota .tc S128x512 32 [0] iota_S128x512_d0_w32) k0_pay3 k0_pay4 k0_pay5 (k0_pay6 v0) (k0_pay8 v0) (k0_pay9 v0) v49 v73 (ix2 r l)
      = Ideal.logistic (v0 (ix3 0 r ⟨l.val / 64, by omega⟩)) * v49 (ix3 0 r l)
        + Ideal.logistic (v0 (ix3 0 r ⟨8 + l.val / 64, by omega⟩)) * v73 (ix3 0 r l) := by
  unfold k0_pay10 k0_pay9 k0_pay8 k0_pay7 k0_pay6 k0_pay5 k0_pay4
  have h3 := head_word
  have h2 := pay2_apply v0
  generalize (k0_pay3 : IVec S128x512 32) = H at *
  generalize k0_pay2 v0 = G at *
  pointwise [h3, h2]
  have p0 := pick (fun x => Ideal.logistic (v0 (ix3 0 r x))) 0 (by decide) l
  have p1 := pick (fun x => Ideal.logistic (v0 (ix3 0 r x))) 8 (by decide) l
  simp only [Nat.zero_add] at p0
  simp only [logistic_sub_self, sub_zero, select_same, Finset.sum_const_zero, add_zero, p0, p1]

/-- The third branch beside the sum of the first two. -/
theorem third_apply (v0 : Vec Ideal S1x256x128 .f32) (v77 : FVec Ideal S256x512 .f32) (v97 : Vec Ideal S1x256x512 .bf16) (r : Fin 256) (l : Fin 512) :
    k0_pay13 (k0_pay2 v0) v77 (k0_pay11 (iota .tc S128x512 32 [0] iota_S128x512_d0_w32) k0_pay3) (k0_pay12 (k0_pay2 v0)) v97 (ix2 r l)
      = v77 (ix2 r l) + Ideal.logistic (v0 (ix3 0 r ⟨16 + l.val / 64, by omega⟩)) * v97 (ix3 0 r l) := by
  unfold k0_pay13 k0_pay12 k0_pay11
  have h3 := head_word
  have h2 := pay2_apply v0
  generalize (k0_pay3 : IVec S128x512 32) = H at *
  generalize k0_pay2 v0 = G at *
  pointwise [h3, h2]
  have p2 := pick (fun x => Ideal.logistic (v0 (ix3 0 r x))) 16 (by decide) l
  simp only [logistic_sub_self, sub_zero, select_same, Finset.sum_const_zero, add_zero, p2]

theorem first_apply (v103 : Vec Ideal S1x256x512 .bf16) (v108 : Vec Ideal S1x256x1024 .f32) (v111 : Vec Ideal S1x512x1024 .bf16)
    (r : Fin 256) (n : Fin 1024) :
    k0_pay15 v103 v108 v111 (ix2 r n) = Ideal.logistic (v108 (ix3 0 r n)) * ∑ l, v103 (ix3 0 r l) * v111 (ix3 0 l n) := by
  unfold_payloads
  pointwise []

theorem last_apply (v105 : FVec Ideal S256x512 .bf16) (v106 : Vec Ideal S1x256x512 .bf16) (v115 : FVec Ideal S256x1024 .f32)
    (v116 : Vec Ideal S1x256x1024 .f32) (v119 : Vec Ideal S1x512x1024 .bf16) (v124 : Vec Ideal S1x256x1024 .f32)
    (v127 : Vec Ideal S1x512x1024 .bf16) (v133 : Vec Ideal S1024x1024 .bf16) (v136 : Vec Ideal S1x1x1024 .f32)
    (v138 : Vec Ideal S1x256x1024 .f32) (v140 : Vec Ideal S1x1024 .f32) (r : Fin 256) (n : Fin 1024) :
    k0_pay1 (k0_pay17 v105 (k0_pay14 v106) v115 (k0_pay16 v116) v119 v124 v127 v133 v136 v138 v140) (ix3 0 r n)
      = outRow (fun n => v138 (ix3 0 r n))
          (fun k => v115 (ix2 r k) + Ideal.logistic (v116 (ix3 0 r k)) * (∑ l, v105 (ix2 r l) * v119 (ix3 0 l k))
            + Ideal.logistic (v124 (ix3 0 r k)) * ∑ l, v106 (ix3 0 r l) * v127 (ix3 0 l k))
          (fun n => v140 (ix2 0 n)) (fun n => v136 (ix3 0 0 n)) (fun k n => v133 (ix2 k n)) n := by
  unfold k0_pay1 k0_pay17 k0_pay16 k0_pay14
  pointwise [outRow, rmsRow, rnorm]

theorem out_apply (c : Dev nD) (i : grid0.Coords) (arg2 : Memref sig .tc .vmem S1x256x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x3072 .f32) (harg10 : arg10.IsWhole) (arg11 : Memref sig .tc .vmem S1x256x128 .f32) (harg11 : arg11.IsWhole) (arg12 : Memref sig .tc .vmem S3x512x1024 .bf16) (harg12 : arg12.IsWhole) (arg13 : Memref sig .tc .vmem S1024x1024 .bf16) (harg13 : arg13.IsWhole) (arg14 : Memref sig .tc .vmem S1x256x1024 .f32) (harg14 : arg14.IsWhole)
    (x0 : Vec Ideal S1x256x1024 .f32) (x1 : Vec Ideal S1x9x1024 .f32) (x2 : Vec Ideal S1x1024 .f32) (x3 : Vec Ideal S1x256x512 .bf16) (x4 : Vec Ideal S1x256x512 .bf16) (x5 : Vec Ideal S1x256x512 .bf16) (x6 : Vec Ideal S1x256x512 .bf16) (x7 : Vec Ideal S1x256x512 .bf16) (x8 : Vec Ideal S1x256x3072 .f32) (x9 : Vec Ideal S1x256x128 .f32) (x10 : Vec Ideal S3x512x1024 .bf16) (x11 : Vec Ideal S1024x1024 .bf16) (r : Fin 256) (n : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 (ix3 0 r n)
      = outRow (fun k => x0 (ix3 0 r k))
          (mergedRow (fun k => x8 (ix3 0 r k)) (fun l => x3 (ix3 0 r l))
            (headsRow (fun h => x9 (ix3 0 r ⟨h.val, by omega⟩)) (fun l => x4 (ix3 0 r l)) (fun l => x5 (ix3 0 r l)) (fun l => x6 (ix3 0 r l)))
            (fun l => x7 (ix3 0 r l)) (fun p l n => x10 (ix3 p l n)))
          (fun k => x2 (ix2 0 k)) (fun k => x1 (ix3 0 5 k)) (fun k n => x11 (ix2 k n)) n := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11)]
  unfold kernelRun0_A
  dsimp only
  sl_unfold_words
  rw [View.canon_unit_zero (S := S1x256x1024) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S1x256x1024) hz3, View.ld_unit_zero (S := S1x256x512) hz3, View.ld_unit_zero (S := S1x256x128) hz3,
    View.ld_unit_zero (S := S1x1024) hz2, View.ld_unit_zero (S := S1024x1024) hz2]
  rw [last_apply]
  simp only [first_apply]
  have e : ∀ l : Fin 512, k0_pay13 (k0_pay2 x9) (k0_pay10 (k0_pay2 x9) (iota .tc S128x512 32 [0] iota_S128x512_d0_w32) k0_pay3 k0_pay4 k0_pay5
      (k0_pay6 x9) (k0_pay8 x9) (k0_pay9 x9) x4 x5) (k0_pay11 (iota .tc S128x512 32 [0] iota_S128x512_d0_w32) k0_pay3) (k0_pay12 (k0_pay2 x9)) x6
      (ix2 r l) = headsRow (fun h => x9 (ix3 0 r ⟨h.val, by omega⟩)) (fun l => x4 (ix3 0 r l)) (fun l => x5 (ix3 0 r l)) (fun l => x6 (ix3 0 r l)) l :=
    fun l => (third_apply x9 _ x6 r l).trans (by rw [two_apply]; rfl)
  simp only [e]
  generalize headsRow _ _ _ _ = hb
  pointwise []
  rfl

end Layer.MergeKernel

end
-- ==== Proof.MergeRef.lean ====
/-
  The merge's plain program read at one element, as the row functions of MergeSpec.lean.
-/
module

public import proofs.«01_k».proof.Proof.MergeSpec
public import proofs.«01_k».proof.Proof.Gen.Reference5Ideal.Read
public import Idealize.ShloMosaic.Lib.Pointwise

@[expose] public section

set_option maxRecDepth 16384

noncomputable section

open Idealize.ShloMosaic

namespace Layer.MergeRef

open Cert.Reference5Ideal Cert.Reference5Ideal.Read

variable (x0 : (⟨S32x2048x1024, .f32⟩ : BufTy).Contents (Elt Ideal)) (x1 : (⟨S32x9x1024, .f32⟩ : BufTy).Contents (Elt Ideal))
  (x2 : (⟨S1x1024, .f32⟩ : BufTy).Contents (Elt Ideal)) (x3 x4 x5 x6 x7 : (⟨S32x2048x512, .bf16⟩ : BufTy).Contents (Elt Ideal))
  (x8 : (⟨S32x2048x3200, .f32⟩ : BufTy).Contents (Elt Ideal)) (x9 : (⟨S3x512x1024, .f32⟩ : BufTy).Contents (Elt Ideal))
  (x10 : (⟨S1024x1024, .f32⟩ : BufTy).Contents (Elt Ideal))

/-- The head gates of one row. -/
abbrev headGates (b : Fin 32) (t : Fin 2048) : Fin 24 → EReal := fun h => x8 (ix3 b t ⟨3072 + h.val, by omega⟩)
/-- The mixers' gates of one row. -/
abbrev mixGates (b : Fin 32) (t : Fin 2048) : Fin 3072 → EReal := fun h => x8 (ix3 b t ⟨h.val, by omega⟩)

theorem gate24_apply (b : Fin 32) (t : Fin 2048) (h : Fin 24) :
    val_main_v6 (F := Ideal) x8 (ix3 b t h) = Ideal.logistic (headGates x8 b t h) := by
  unfold val_main_v6 val_main_v5 val_main_v4 val_main_v3 val_main_v2 val_main_v1 val_main_v0 val_main_cst_0 val_main_cst
  pointwise []
  rfl

theorem heads_apply (b : Fin 32) (t : Fin 2048) (l : Fin 512) :
    val_main_v31 (F := Ideal) x4 x5 x6 x8 (ix3 b t l)
      = headsRow (headGates x8 b t) (fun l => x4 (ix3 b t l)) (fun l => x5 (ix3 b t l)) (fun l => x6 (ix3 b t l)) l := by
  unfold val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7
  have hg := gate24_apply x8 b t
  generalize val_main_v6 (F := Ideal) x8 = z at *
  pointwise [hg, headsRow]

theorem gate_apply (b : Fin 32) (t : Fin 2048) (h : Fin 3072) :
    val_main_v38 (F := Ideal) x8 (ix3 b t h) = Ideal.logistic (mixGates x8 b t h) := by
  unfold val_main_v38 val_main_v37 val_main_v36 val_main_v35 val_main_v34 val_main_v33 val_main_v32 val_main_cst_2 val_main_cst_1
  pointwise []
  rfl

theorem merged_apply (b : Fin 32) (t : Fin 2048) (n : Fin 1024) :
    val_main_v61 (F := Ideal) x3 x4 x5 x6 x7 x8 x9 (ix3 b t n)
      = mergedRow (mixGates x8 b t) (fun l => x3 (ix3 b t l))
          (headsRow (headGates x8 b t) (fun l => x4 (ix3 b t l)) (fun l => x5 (ix3 b t l)) (fun l => x6 (ix3 b t l)))
          (fun l => x7 (ix3 b t l)) (fun p l n => x9 (ix3 p l n)) n := by
  unfold val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39
  have hg := gate_apply x8 b t
  have hh := heads_apply x4 x5 x6 x8 b t
  generalize val_main_v38 (F := Ideal) x8 = z at *
  generalize val_main_v31 (F := Ideal) x4 x5 x6 x8 = y at *
  pointwise [hg, hh, mergedRow]

theorem out_apply (b : Fin 32) (t : Fin 2048) (n : Fin 1024) :
    val_main_v83 (F := Ideal) x0 x1 x2 x3 x4 x5 x6 x7 x8 x9 x10 (ix3 b t n)
      = outRow (fun k => x0 (ix3 b t k)) (fun k => val_main_v61 (F := Ideal) x3 x4 x5 x6 x7 x8 x9 (ix3 b t k))
          (fun k => x2 (ix2 0 k)) (fun k => x1 (ix3 b 5 k)) (fun k n => x10 (ix2 k n)) n := by
  unfold val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_cst_5 val_main_cst_4 val_main_cst_3
  generalize val_main_v61 (F := Ideal) x3 x4 x5 x6 x7 x8 x9 = z at *
  pointwise [outRow, rmsRow, rnorm]

end Layer.MergeRef

end
-- ==== Proof.MergeClaim.lean ====
/-
  The merge's claim: the kernel's result array and the plain program's are the same function of the arguments.
-/
module

public import proofs.«01_k».proof.Proof.MergeKernel
public import proofs.«01_k».proof.Proof.MergeRef
public import proofs.«01_k».proof.Defs

@[expose] public section

set_option maxRecDepth 16384

noncomputable section

open Idealize.ShloMosaic Idealize.ShloMosaic.TcCoe Idealize.SL.Sem
open Idealize.ShloMosaic.Pipeline (Dat)

namespace Layer.MergeClaim

open Cert.Kernel5Ideal Cert.Kernel5Ideal.Gen
open Cert.Reference5Ideal.Read (val_main_v83)

variable (m : (ℓ : Loc nD τ sig) → Buf (Elt Ideal) ℓ) (ρ : Dev nD → PrngReg)

/-- The result at device `c`'s argument arrays. -/
abbrev Merged (c : Dev nD) : Buf (Elt Ideal) ((c : Thread nD τ).loc main_v2) :=
  val_main_v83 (F := Ideal) (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))

/-- The branch weights and the output weights, rounded, are themselves. -/
theorem V_v0 (c : Dev nD) : (V m c main_v0 : FVec Ideal S3x512x1024 .bf16) = m ((c : Thread nD τ).loc main_arg9) := by
  simp only [V, hostOps0]
  after_results_simp <;> (try dsimp only [Matrix.cons_val]) <;> (try after_results_simp) <;> rfl
theorem V_v1 (c : Dev nD) : (V m c main_v1 : FVec Ideal S1024x1024 .bf16) = m ((c : Thread nD τ).loc main_arg10) := by
  simp only [V, hostOps0]
  after_results_simp <;> (try dsimp only [Matrix.cons_val]) <;> (try after_results_simp) <;> rfl

theorem ix_0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem ix_3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)
theorem ix_4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)
theorem ix_5 : ∀ t : Fin cfg0.N, win0_5.index t 0 = t.val / 8 ∧ win0_5.index t 1 = t.val % 8 ∧ win0_5.index t 2 = 0 :=
  (by decide +kernel : ∀ t : Fin grid0.N, win0_5.index t 0 = t.val / 8 ∧ win0_5.index t 1 = t.val % 8 ∧ win0_5.index t 2 = 0)
theorem ix_6 : ∀ t : Fin cfg0.N, win0_6.index t 0 = t.val / 8 ∧ win0_6.index t 1 = t.val % 8 ∧ win0_6.index t 2 = 0 :=
  (by decide +kernel : ∀ t : Fin grid0.N, win0_6.index t 0 = t.val / 8 ∧ win0_6.index t 1 = t.val % 8 ∧ win0_6.index t 2 = 0)
theorem ix_7 : ∀ t : Fin cfg0.N, win0_7.index t 0 = t.val / 8 ∧ win0_7.index t 1 = t.val % 8 ∧ win0_7.index t 2 = 0 :=
  (by decide +kernel : ∀ t : Fin grid0.N, win0_7.index t 0 = t.val / 8 ∧ win0_7.index t 1 = t.val % 8 ∧ win0_7.index t 2 = 0)
theorem ix_8 : ∀ t : Fin cfg0.N, win0_8.index t 0 = t.val / 8 ∧ win0_8.index t 1 = t.val % 8 ∧ win0_8.index t 2 = 0 :=
  (by decide +kernel : ∀ t : Fin grid0.N, win0_8.index t 0 = t.val / 8 ∧ win0_8.index t 1 = t.val % 8 ∧ win0_8.index t 2 = 0)
theorem ix_12 : ∀ t : Fin cfg0.N, win0_12.index t 0 = t.val / 8 ∧ win0_12.index t 1 = t.val % 8 ∧ win0_12.index t 2 = 0 :=
  (by decide +kernel : ∀ t : Fin grid0.N, win0_12.index t 0 = t.val / 8 ∧ win0_12.index t 1 = t.val % 8 ∧ win0_12.index t 2 = 0)
theorem ix_9 : ∀ t : Fin cfg0.N, win0_9.index t 0 = t.val / 8 ∧ win0_9.index t 1 = t.val % 8 ∧ win0_9.index t 2 = 24 ∧ win0_1.index t 0 = t.val / 8 ∧ win0_1.index t 1 = 0 ∧ win0_1.index t 2 = 0 :=
  (by decide +kernel : ∀ t : Fin grid0.N, win0_9.index t 0 = t.val / 8 ∧ win0_9.index t 1 = t.val % 8 ∧ win0_9.index t 2 = 24 ∧ win0_1.index t 0 = t.val / 8 ∧ win0_1.index t 1 = 0 ∧ win0_1.index t 2 = 0)
theorem ix_w : ∀ (t : Fin cfg0.N) (a : Fin 2), win0_2.index t a = 0 ∧ win0_11.index t a = 0 :=
  (by decide +kernel : ∀ (t : Fin grid0.N) (a : Fin 2), win0_2.index t a = 0 ∧ win0_11.index t a = 0)
theorem ix_10 : ∀ (t : Fin cfg0.N) (a : Fin 3), win0_10.index t a = 0 :=
  (by decide +kernel : ∀ (t : Fin grid0.N) (a : Fin 3), win0_10.index t a = 0)

theorem tb (t : Fin cfg0.N) : t.val / 8 < 32 := by have := t.isLt; have hN : cfg0.N = 256 := N_0; omega

theorem blk0 (c : Dev nD) (t : Fin cfg0.N) (r : Fin 256) (k : Fin 1024) :
    (iblk m c 0 t : Vec Ideal S1x256x1024 .f32) (ix3 0 r k)
      = m ((c : Thread nD τ).loc main_arg0) (ix3 ⟨t.val / 8, tb t⟩ ⟨t.val % 8 * 256 + r, by omega⟩ k) := by
  unfold iblk
  rw [View.read_apply]
  show V m c main_arg0 _ = _
  rw [V_main_arg0]
  congr 1
  funext a
  apply Fin.ext
  have h := ix_0 t
  match a with
  | ⟨0, _⟩ => show win0_0.index t 0 * 1 + 1 * 0 = t.val / 8; omega
  | ⟨1, _⟩ => show win0_0.index t 1 * 256 + 1 * r.val = t.val % 8 * 256 + r.val; omega
  | ⟨2, _⟩ => show win0_0.index t 2 * 1024 + 1 * k.val = k.val; omega

theorem blk1 (c : Dev nD) (t : Fin cfg0.N) (r : Fin 9) (k : Fin 1024) :
    (iblk m c 1 t : Vec Ideal S1x9x1024 .f32) (ix3 0 r k)
      = m ((c : Thread nD τ).loc main_arg1) (ix3 ⟨t.val / 8, tb t⟩ r k) := by
  unfold iblk
  rw [View.read_apply]
  show V m c main_arg1 _ = _
  rw [V_main_arg1]
  congr 1
  funext a
  apply Fin.ext
  have h := ix_9 t
  match a with
  | ⟨0, _⟩ => show win0_1.index t 0 * 1 + 1 * 0 = t.val / 8; omega
  | ⟨1, _⟩ => show win0_1.index t 1 * 9 + 1 * r.val = r.val; omega
  | ⟨2, _⟩ => show win0_1.index t 2 * 1024 + 1 * k.val = k.val; omega

theorem blk3 (c : Dev nD) (t : Fin cfg0.N) (r : Fin 256) (k : Fin 512) :
    (iblk m c 3 t : Vec Ideal S1x256x512 .bf16) (ix3 0 r k)
      = m ((c : Thread nD τ).loc main_arg3) (ix3 ⟨t.val / 8, tb t⟩ ⟨t.val % 8 * 256 + r, by omega⟩ k) := by
  unfold iblk
  rw [View.read_apply]
  show V m c main_arg3 _ = _
  rw [V_main_arg3]
  congr 1
  funext a
  apply Fin.ext
  have h := ix_3 t
  match a with
  | ⟨0, _⟩ => show win0_3.index t 0 * 1 + 1 * 0 = t.val / 8; omega
  | ⟨1, _⟩ => show win0_3.index t 1 * 256 + 1 * r.val = t.val % 8 * 256 + r.val; omega
  | ⟨2, _⟩ => show win0_3.index t 2 * 512 + 1 * k.val = k.val; omega

theorem blk4 (c : Dev nD) (t : Fin cfg0.N) (r : Fin 256) (k : Fin 512) :
    (iblk m c 4 t : Vec Ideal S1x256x512 .bf16) (ix3 0 r k)
      = m ((c : Thread nD τ).loc main_arg4) (ix3 ⟨t.val / 8, tb t⟩ ⟨t.val % 8 * 256 + r, by omega⟩ k) := by
  unfold iblk
  rw [View.read_apply]
  show V m c main_arg4 _ = _
  rw [V_main_arg4]
  congr 1
  funext a
  apply Fin.ext
  have h := ix_4 t
  match a with
  | ⟨0, _⟩ => show win0_4.index t 0 * 1 + 1 * 0 = t.val / 8; omega
  | ⟨1, _⟩ => show win0_4.index t 1 * 256 + 1 * r.val = t.val % 8 * 256 + r.val; omega
  | ⟨2, _⟩ => show win0_4.index t 2 * 512 + 1 * k.val = k.val; omega

theorem blk5 (c : Dev nD) (t : Fin cfg0.N) (r : Fin 256) (k : Fin 512) :
    (iblk m c 5 t : Vec Ideal S1x256x512 .bf16) (ix3 0 r k)
      = m ((c : Thread nD τ).loc main_arg5) (ix3 ⟨t.val / 8, tb t⟩ ⟨t.val % 8 * 256 + r, by omega⟩ k) := by
  unfold iblk
  rw [View.read_apply]
  show V m c main_arg5 _ = _
  rw [V_main_arg5]
  congr 1
  funext a
  apply Fin.ext
  have h := ix_5 t
  match a with
  | ⟨0, _⟩ => show win0_5.index t 0 * 1 + 1 * 0 = t.val / 8; omega
  | ⟨1, _⟩ => show win0_5.index t 1 * 256 + 1 * r.val = t.val % 8 * 256 + r.val; omega
  | ⟨2, _⟩ => show win0_5.index t 2 * 512 + 1 * k.val = k.val; omega

theorem blk6 (c : Dev nD) (t : Fin cfg0.N) (r : Fin 256) (k : Fin 512) :
    (iblk m c 6 t : Vec Ideal S1x256x512 .bf16) (ix3 0 r k)
      = m ((c : Thread nD τ).loc main_arg6) (ix3 ⟨t.val / 8, tb t⟩ ⟨t.val % 8 * 256 + r, by omega⟩ k) := by
  unfold iblk
  rw [View.read_apply]
  show V m c main_arg6 _ = _
  rw [V_main_arg6]
  congr 1
  funext a
  apply Fin.ext
  have h := ix_6 t
  match a with
  | ⟨0, _⟩ => show win0_6.index t 0 * 1 + 1 * 0 = t.val / 8; omega
  | ⟨1, _⟩ => show win0_6.index t 1 * 256 + 1 * r.val = t.val % 8 * 256 + r.val; omega
  | ⟨2, _⟩ => show win0_6.index t 2 * 512 + 1 * k.val = k.val; omega

theorem blk7 (c : Dev nD) (t : Fin cfg0.N) (r : Fin 256) (k : Fin 512) :
    (iblk m c 7 t : Vec Ideal S1x256x512 .bf16) (ix3 0 r k)
      = m ((c : Thread nD τ).loc main_arg7) (ix3 ⟨t.val / 8, tb t⟩ ⟨t.val % 8 * 256 + r, by omega⟩ k) := by
  unfold iblk
  rw [View.read_apply]
  show V m c main_arg7 _ = _
  rw [V_main_arg7]
  congr 1
  funext a
  apply Fin.ext
  have h := ix_7 t
  match a with
  | ⟨0, _⟩ => show win0_7.index t 0 * 1 + 1 * 0 = t.val / 8; omega
  | ⟨1, _⟩ => show win0_7.index t 1 * 256 + 1 * r.val = t.val % 8 * 256 + r.val; omega
  | ⟨2, _⟩ => show win0_7.index t 2 * 512 + 1 * k.val = k.val; omega

theorem blk8 (c : Dev nD) (t : Fin cfg0.N) (r : Fin 256) (k : Fin 3072) :
    (X0_8 m c t : Vec Ideal S1x256x3072 .f32) (ix3 0 r k)
      = m ((c : Thread nD τ).loc main_arg8) (ix3 ⟨t.val / 8, tb t⟩ ⟨t.val % 8 * 256 + r, by omega⟩ ⟨k.val, by omega⟩) := by
  unfold X0_8 Pipeline.Window.fill
  rw [dif_pos (moved0_8 t _)]
  unfold iblk
  rw [View.read_apply]
  show V m c main_arg8 _ = _
  rw [V_main_arg8]
  congr 1
  funext a
  apply Fin.ext
  have h := ix_8 t
  match a with
  | ⟨0, _⟩ => show win0_8.index t 0 * 1 + 1 * 0 = t.val / 8; omega
  | ⟨1, _⟩ => show win0_8.index t 1 * 256 + 1 * r.val = t.val % 8 * 256 + r.val; omega
  | ⟨2, _⟩ => show win0_8.index t 2 * 3072 + 1 * k.val = k.val; omega

theorem blk9 (c : Dev nD) (t : Fin cfg0.N) (r : Fin 256) (k : Fin 128) :
    (iblk m c 9 t : Vec Ideal S1x256x128 .f32) (ix3 0 r k)
      = m ((c : Thread nD τ).loc main_arg8) (ix3 ⟨t.val / 8, tb t⟩ ⟨t.val % 8 * 256 + r, by omega⟩ ⟨3072 + k.val, by omega⟩) := by
  unfold iblk
  rw [View.read_apply]
  show V m c main_arg8 _ = _
  rw [V_main_arg8]
  congr 1
  funext a
  apply Fin.ext
  have h := ix_9 t
  match a with
  | ⟨0, _⟩ => show win0_9.index t 0 * 1 + 1 * 0 = t.val / 8; omega
  | ⟨1, _⟩ => show win0_9.index t 1 * 256 + 1 * r.val = t.val % 8 * 256 + r.val; omega
  | ⟨2, _⟩ => show win0_9.index t 2 * 128 + 1 * k.val = 3072 + k.val; omega

theorem blk2 (c : Dev nD) (t : Fin cfg0.N) : (iblk m c 2 t : Vec Ideal S1x1024 .f32) = m ((c : Thread nD τ).loc main_arg2) := by
  have hz : (fun a => win0_2.index t a * main_arg2.ty.shape.size a) = fun _ => 0 := funext fun a => by
    rw [(ix_w t a).1, Nat.zero_mul]
  unfold iblk
  refine (Memref.read_access_unit_zero (Elt Ideal) main_arg2 hz (fun a => by rw [congrFun hz a]; simp) _).trans ?_
  exact V_main_arg2 m c

theorem blk10 (c : Dev nD) (t : Fin cfg0.N) : (iblk m c 10 t : Vec Ideal S3x512x1024 .bf16) = m ((c : Thread nD τ).loc main_arg9) := by
  have hz : (fun a => win0_10.index t a * main_v0.ty.shape.size a) = fun _ => 0 := funext fun a => by
    rw [ix_10 t a, Nat.zero_mul]
  unfold iblk
  refine (Memref.read_access_unit_zero (Elt Ideal) main_v0 hz (fun a => by rw [congrFun hz a]; simp) _).trans ?_
  exact V_v0 m c

theorem blk11 (c : Dev nD) (t : Fin cfg0.N) : (iblk m c 11 t : Vec Ideal S1024x1024 .bf16) = m ((c : Thread nD τ).loc main_arg10) := by
  have hz : (fun a => win0_11.index t a * main_v1.ty.shape.size a) = fun _ => 0 := funext fun a => by
    rw [(ix_w t a).2, Nat.zero_mul]
  unfold iblk
  refine (Memref.read_access_unit_zero (Elt Ideal) main_v1 hz (fun a => by rw [congrFun hz a]; simp) _).trans ?_
  exact V_v1 m c

theorem flushed_eq (c : Dev nD) (t : Fin cfg0.N) :
    (dats m 0 c).flushed 12 t = ((cfg0.win 12).blk t).view.read (Elt Ideal) (Merged m c) := by
  rw [Value.flushed12_A]
  funext j
  obtain ⟨r, n, rfl⟩ : ∃ (r : Fin 256) (n : Fin 1024), j = ix3 0 r n := ⟨j 1, j 2, by
    refine (eq_ix3 j).trans ?_
    congr 1
    exact Fin.ext (by have := (j 0).isLt; show (j 0 : ℕ) = 0; change (j 0 : ℕ) < 1 at this; omega)⟩
  refine (MergeKernel.out_apply _ _ _ _ _ _ _ _ _ _ _ _ _ _ _ _ _ _ _ _ _ _ _ _ _ _ _ _ _ _ _ _ _ _ _ _ _ _ _ _ r n).trans ?_
  simp only [blk0, blk1, blk2, blk3, blk4, blk5, blk6, blk7, blk8, blk9, blk10, blk11]
  rw [View.read_apply]
  have h := ix_12 t
  have e : (((cfg0.win 12).blk t).view.emb (ix3 0 r n) : S32x2048x1024.Idx) = ix3 ⟨t.val / 8, tb t⟩ ⟨t.val % 8 * 256 + r, by omega⟩ n := by
    funext a
    apply Fin.ext
    match a with
    | ⟨0, _⟩ => show win0_12.index t 0 * 1 + 1 * 0 = t.val / 8; omega
    | ⟨1, _⟩ => show win0_12.index t 1 * 256 + 1 * r.val = t.val % 8 * 256 + r.val; omega
    | ⟨2, _⟩ => show win0_12.index t 2 * 1024 + 1 * n.val = n.val; omega
  rw [e]
  refine Eq.symm ((MergeRef.out_apply _ _ _ _ _ _ _ _ _ _ _ _ _ n).trans ?_)
  simp only [MergeRef.merged_apply]

theorem cover (i : S32x2048x1024.Idx) :
    ∃ t : Fin cfg0.N, (cfg0.win 12).flush t = true ∧ i ∈ ((cfg0.win 12).blk t).view.set := by
  have h0 : (i 0 : Nat) < 32 := (i 0).isLt
  have h1 : (i 1 : Nat) < 2048 := (i 1).isLt
  have h2 : (i 2 : Nat) < 1024 := (i 2).isLt
  have hN : cfg0.N = 256 := N_0
  refine ⟨⟨(i 0 : Nat) * 8 + (i 1 : Nat) / 256, by omega⟩, flush0_12 _, ?_⟩
  generalize ht : (⟨(i 0 : Nat) * 8 + (i 1 : Nat) / 256, by omega⟩ : Fin cfg0.N) = t
  have hv : t.val = (i 0 : Nat) * 8 + (i 1 : Nat) / 256 := by rw [← ht]
  show i ∈ ((View.whole main_v2).slice (win0_12.rect t)).set
  rw [View.set_slice_whole, Rect.mem_set_unit]
  have h := ix_12 t
  intro a
  match a with
  | ⟨0, _⟩ => show win0_12.index t 0 * 1 ≤ (i 0 : Nat) ∧ (i 0 : Nat) < win0_12.index t 0 * 1 + 1; omega
  | ⟨1, _⟩ => show win0_12.index t 1 * 256 ≤ (i 1 : Nat) ∧ (i 1 : Nat) < win0_12.index t 1 * 256 + 256; omega
  | ⟨2, _⟩ => show win0_12.index t 2 * 1024 ≤ (i 2 : Nat) ∧ (i 2 : Nat) < win0_12.index t 2 * 1024 + 1024; omega

theorem final (c : Dev nD) : (dats m 0 c).arrAt 12 cfg0.N = Merged m c :=
  (dats m 0 c).arrAt_eq_of_cover 12 (Merged m c) (fun t _ => flushed_eq m c t) cover

theorem algebraic : Cert.algebraic_Kernel5Ideal_Reference5Ideal := by
  intro m ρ m' ρ' _ hag
  refine ⟨fun c => Merged m c, ?_, ?_⟩
  · exact (θ_run Cert.Kernel5Ideal.defs _ _).mono (fun r h c => ⟨(h c).1.trans (final m c), (h c).2⟩)
      (Cert.Kernel5Ideal.Value.run_blocks (F := Ideal) m ρ)
  · refine (θ_run Cert.Reference5Ideal.defs _ _).mono (fun r h c => ⟨(h c).1.trans ?_, (h c).2⟩)
      (Cert.Reference5Ideal.Value.run (F := Ideal) m' ρ')
    rw [Cert.Reference5Ideal.Read.val_main_v83_eq]
    obtain ⟨e0, e1, e2, e3, e4, e5, e6, e7, e8, e9, e10⟩ := hag c
    rw [e0, e1, e2, e3, e4, e5, e6, e7, e8, e9, e10]

end Layer.MergeClaim

end
-- ==== Proof.SwaSpec.lean ====
/-
  A softmax row with a sink, as the attention programs write it.
-/
module

public import Idealize.ShloMosaic.Lib.Pointwise

@[expose] public section

noncomputable section

open Idealize.ShloMosaic

namespace Layer

/-- One output element of softmax attention with a sink: the logits of one query against all keys, the sink,
    and one column of the values. -/
def attnRow {n : ℕ} (L : Fin n → EReal) (sk : EReal) (V : Fin n → EReal) : EReal :=
  ∑ x, Ideal.div (Ideal.exp (L x - max (Finset.fold max (Ideal.ofBits .f32 0xFF800000#32) (fun x => L x) Finset.univ) sk))
      (∑ x, Ideal.exp (L x - max (Finset.fold max (Ideal.ofBits .f32 0xFF800000#32) (fun x => L x) Finset.univ) sk)
        + Ideal.exp (sk - max (Finset.fold max (Ideal.ofBits .f32 0xFF800000#32) (fun x => L x) Finset.univ) sk)) * V x

/-- Two reads of a rank-2 array at places with the same numbers. -/
theorem read2 {α : Type} {n m : ℕ} (f : (⟨2, ![n, m]⟩ : Shape).Idx → α) {a a' : Fin n} {b b' : Fin m}
    (ha : (a : ℕ) = a') (hb : (b : ℕ) = b') : f (ix2 a b) = f (ix2 a' b') := by
  rw [Fin.ext ha, Fin.ext hb]

/-- The distance from key `s` to query `t`, as a word. -/
def distWord {m n : ℕ} (t : Fin m) (s : Fin n) : BitVec 32 := IntOp.subi (BitVec.ofNat 32 t) (BitVec.ofNat 32 s)

/-- The logarithmic part of a distance's bucket before it is rounded. -/
def farWord (D : BitVec 32) : EReal :=
  Ideal.div (Ideal.log (Ideal.div (FloatOps.sitofp (F := Ideal) .f32 (IntOp.maxsi D 1#32)) (Ideal.ofBits .f32 0x41800000#32))) (Ideal.ofBits .f32 0x40051592#32)
    * Ideal.ofBits .f32 0x41800000#32

/-- A distance's bucket. -/
def bucketWord (D : BitVec 32) : BitVec 32 :=
  Scalar.select (IntOp.cmpi .slt D 16#32) D (IntOp.minsi (IntOp.addi 16#32 (FloatOps.fptosi (F := Ideal) (φ := .f32) 32 (farWord D))) 31#32)

/-- The table row a distance reads, a negative bucket counted from the end. -/
def rowWord (D : BitVec 32) : BitVec 32 :=
  Scalar.select (IntOp.cmpi .slt (bucketWord (IntOp.maxsi D 0#32)) 0#32) (IntOp.addi (bucketWord (IntOp.maxsi D 0#32)) 32#32)
    (bucketWord (IntOp.maxsi D 0#32))

/-- The table row as a number. -/
def tableRow (D : BitVec 32) : Fin 32 := ⟨min (rowWord D).toInt.toNat (32 - 1), by omega⟩

/-- Whether a distance lies in the band of width `w`. -/
def bandWord (w D : BitVec 32) : BitVec 1 := IntOp.andi (IntOp.cmpi .sge D 0#32) (IntOp.cmpi .slt D w)

/-- The dimension numbers of `table[index]` for a table `[N, H]` and an index array `[R, C]`. -/
abbrev headDims (N H R C : ℕ)
    (wf : GatherDims.WF ⟨2, ![N, H]⟩ ⟨3, ![R, C, 1]⟩ ⟨3, ![R, C, H]⟩ [2] [0] [] [0] [] 2 ![1, H]) :
    GatherDims ⟨2, ![N, H]⟩ ⟨3, ![R, C, 1]⟩ ⟨3, ![R, C, H]⟩ where
  offsetDims := [2]
  collapsedSliceDims := [0]
  operandBatchingDims := []
  startIndicesBatchingDims := []
  startIndexMap := [0]
  indexVectorDim := 2
  sliceSizes := ![1, H]
  wf := wf

/-- `table[index]` at one place: the row the index names, read signed and kept inside the table. -/
theorem gather_heads_apply {α : Type} {N H R C : ℕ} (hN : 0 < N)
    (wf : GatherDims.WF ⟨2, ![N, H]⟩ ⟨3, ![R, C, 1]⟩ ⟨3, ![R, C, H]⟩ [2] [0] [] [0] [] 2 ![1, H])
    (x : (⟨2, ![N, H]⟩ : Shape).Idx → α) (idx : IVec ⟨3, ![R, C, 1]⟩ 32) (r : Fin R) (c : Fin C) (h : Fin H) :
    Host.gather (headDims N H R C wf) x idx (ix3 r c h)
      = x (ix2 ⟨min (idx (ix3 r c 0)).toInt.toNat (N - 1), by omega⟩ h) := by
  unfold Host.gather
  congr 1
  funext a
  refine Fin.ext ?_
  show (headDims N H R C wf).start (ix3 r c h) idx a + (headDims N H R C wf).batchCoord (ix3 r c h) a
    + (headDims N H R C wf).offCoord (ix3 r c h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (headDims N H R C wf).startIndexMap from List.mem_singleton.mpr rfl)]
    have hsi : (headDims N H R C wf).siIdx (ix3 r c h) ⟨List.idxOf (0 : Fin 2) (headDims N H R C wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    have hs : (headDims N H R C wf).start (ix3 r c h) idx 1 = 0 := by
      unfold GatherDims.start
      rw [dif_neg (fun h => by simp at h)]
    rw [hs]
    simp only [Nat.zero_add, Nat.add_zero]
    rfl

end Layer
-- ==== Proof.SwaBridge.lean ====
/-
  A softmax row over all keys against the same row over the keys of one span: a masked key has weight zero.
-/
module

public import proofs.«01_k».proof.Proof.SwaSpec

@[expose] public section

noncomputable section

open Idealize.ShloMosaic

namespace Layer

theorem negInf : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee, -EReal.coe_mul]; norm_num

/-- The largest logit is the supremum. -/
theorem fold_max_eq {n : ℕ} (f : Fin n → EReal) :
    Finset.fold max (Ideal.ofBits .f32 0xFF800000#32) f Finset.univ = Finset.univ.sup f := by rw [negInf]; rfl

/-- The maximum over all keys and over the span: every key off the span is masked. -/
theorem sup_span {N n : ℕ} (L : Fin N → EReal) (L' : Fin n → EReal) (ok : Fin n → Prop) (key : Fin n → Fin N)
    (hin : ∀ c, ok c → L' c = L (key c)) (hout : ∀ c, ¬ ok c → L' c = ⊥) (hall : ∀ s, L s ≠ ⊥ → ∃ c, ok c ∧ key c = s) :
    Finset.univ.sup L = Finset.univ.sup L' := by
  refine le_antisymm (Finset.sup_le fun s _ => ?_) (Finset.sup_le fun c _ => ?_)
  · by_cases h : L s = ⊥
    · rw [h]; exact bot_le
    · obtain ⟨c, hc, rfl⟩ := hall s h
      rw [← hin c hc]
      exact Finset.le_sup (f := L') (Finset.mem_univ c)
  · by_cases h : ok c
    · rw [hin c h]
      exact Finset.le_sup (f := L) (Finset.mem_univ _)
    · rw [hout c h]; exact bot_le

/-- A sum over all keys is the sum over the span when the terms off the span are zero. -/
theorem sum_span {N n : ℕ} (f : Fin N → EReal) (f' : Fin n → EReal) (ok : Fin n → Prop) (key : Fin n → Fin N)
    (hinj : ∀ c d, ok c → ok d → key c = key d → c = d)
    (hin : ∀ c, ok c → f' c = f (key c)) (hout : ∀ c, ¬ ok c → f' c = 0) (hall : ∀ s, f s ≠ 0 → ∃ c, ok c ∧ key c = s) :
    ∑ s, f s = ∑ c, f' c := by
  have hok : ∀ c, f' c ≠ 0 → ok c := fun c h => by
    by_contra hc
    exact h (hout c hc)
  refine (Finset.sum_bij_ne_zero (fun c _ _ => key c) (fun _ _ _ => Finset.mem_univ _)
    (fun c _ hc d _ hd e => hinj c d (hok c hc) (hok d hd) e) (fun s _ hs => ?_) (fun c _ hc => hin c (hok c hc))).symm
  obtain ⟨c, hc, rfl⟩ := hall s hs
  exact ⟨c, Finset.mem_univ _, by rw [hin c hc]; exact hs, rfl⟩

theorem exp_nonneg (x : EReal) : 0 ≤ Ideal.exp x := by
  induction x with
  | bot => simp
  | top => simp
  | coe r => rw [Ideal.exp_coe]; exact_mod_cast (Real.exp_pos r).le

theorem exp_pos {x : EReal} (h : x ≠ ⊥) : 0 < Ideal.exp x := by
  induction x with
  | bot => exact absurd rfl h
  | top => simp
  | coe r => rw [Ideal.exp_coe]; exact_mod_cast Real.exp_pos r

theorem exp_masked (m : EReal) : Ideal.exp (⊥ - m) = 0 := by
  rw [sub_eq_add_neg, EReal.bot_add, Ideal.exp_bot]

/-- The row over all keys equals the row over the span; some weight has to be positive. -/
theorem attnRow_span {N n : ℕ} (L V : Fin N → EReal) (L' V' : Fin n → EReal) (sk : EReal) (ok : Fin n → Prop) (key : Fin n → Fin N)
    (hinj : ∀ c d, ok c → ok d → key c = key d → c = d)
    (hin : ∀ c, ok c → L' c = L (key c)) (hval : ∀ c, ok c → V' c = V (key c)) (hout : ∀ c, ¬ ok c → L' c = ⊥)
    (hall : ∀ s, L s ≠ ⊥ → ∃ c, ok c ∧ key c = s) (htop : ∀ s, L s ≠ ⊤) (hsk : sk ≠ ⊤) (hpos : sk ≠ ⊥ ∨ ∃ s, L s ≠ ⊥) :
    attnRow L sk V = attnRow L' sk V' := by
  unfold attnRow
  simp only [fold_max_eq]
  rw [← sup_span L L' ok key hin hout hall]
  have hm : max (Finset.univ.sup L) sk ≠ ⊤ := by
    rcases max_choice (Finset.univ.sup L) sk with h | h <;> rw [h]
    · exact ((Finset.sup_lt_iff bot_lt_top).2 fun s _ => lt_top_iff_ne_top.2 (htop s)).ne
    · exact hsk
  generalize max (Finset.univ.sup L) sk = m at hm ⊢
  have hz : ∀ s, Ideal.exp (L s - m) ≠ 0 → L s ≠ ⊥ := fun s h e => h (by rw [e, exp_masked])
  have hsum := sum_span (fun s => Ideal.exp (L s - m)) (fun c => Ideal.exp (L' c - m)) ok key hinj
    (fun c hc => by rw [hin c hc]) (fun c hc => by rw [hout c hc, exp_masked]) (fun s hs => hall s (hz s hs))
  rw [← hsum]
  have hd : (∑ s, Ideal.exp (L s - m) + Ideal.exp (sk - m)) ≠ 0 := by
    have hsub : ∀ x : EReal, x ≠ ⊥ → x - m ≠ ⊥ := fun x hx e => by
      rw [sub_eq_add_neg] at e
      rcases EReal.add_eq_bot_iff.1 e with e | e
      · exact hx e
      · exact hm (by rw [← neg_neg m, e]; rfl)
    have hsum : 0 ≤ ∑ s, Ideal.exp (L s - m) := Finset.sum_nonneg fun s _ => exp_nonneg _
    rcases hpos with h | ⟨s, h⟩
    · exact (lt_of_lt_of_le (exp_pos (hsub sk h)) (le_add_of_nonneg_left hsum)).ne'
    · refine (lt_of_lt_of_le (exp_pos (hsub (L s) h)) (le_trans ?_ (le_add_of_nonneg_right (exp_nonneg _)))).ne'
      exact Finset.single_le_sum (f := fun s => Ideal.exp (L s - m)) (fun s _ => exp_nonneg _) (Finset.mem_univ s)
  generalize (∑ s, Ideal.exp (L s - m) + Ideal.exp (sk - m)) = D at hd ⊢
  refine sum_span _ _ ok key hinj (fun c hc => by rw [hin c hc, hval c hc]) (fun c hc => ?_) (fun s hs => hall s fun e => hs ?_)
  · rw [hout c hc, exp_masked, Ideal.div, if_neg hd, zero_mul, zero_mul]
  · rw [e, exp_masked, Ideal.div, if_neg hd, zero_mul, zero_mul]

/-- A sum of reals read in the extended reals. -/
theorem coe_sum_real {n : ℕ} (f : Fin n → ℝ) : ((∑ d, f d : ℝ) : EReal) = ∑ d, (f d : EReal) := by
  induction (Finset.univ : Finset (Fin n)) using Finset.cons_induction with
  | empty => simp
  | cons a s ha ih => rw [Finset.sum_cons, Finset.sum_cons, EReal.coe_add, ih]

/-- An extended real that is a real. -/
def Fine (x : EReal) : Prop := ∃ r : ℝ, x = r

/-- A scaled product of real vectors: the scale may be applied to one factor or to the sum, and the result is real. -/
theorem scaled_dot {n : ℕ} (q k : Fin n → EReal) (hq : ∀ d, Fine (q d)) (hk : ∀ d, Fine (k d)) (a : ℝ) :
    ∑ d, q d * (a : EReal) * k d = (∑ d, q d * k d) * (a : EReal) ∧ Fine ((∑ d, q d * k d) * (a : EReal)) := by
  choose u hu using hq
  choose v hv using hk
  simp only [hu, hv, ← EReal.coe_mul, ← coe_sum_real]
  refine ⟨?_, _, rfl⟩
  congr 1
  rw [Finset.sum_mul]
  exact Finset.sum_congr rfl fun d _ => by ring

/-- When a distance lies in the band. -/
theorem bandWord_iff {m n : ℕ} (t : Fin m) (s : Fin n) (ht : m ≤ 2048) (hs : n ≤ 2048) (w : ℕ) (hw : w ≤ 2048) :
    bandWord (BitVec.ofNat 32 w) (distWord t s) = 1#1 ↔ (s : ℕ) ≤ t ∧ (t : ℕ) < s + w := by
  have ht' := t.isLt
  have hs' := s.isLt
  have e : (IntOp.subi (BitVec.ofNat 32 t) (BitVec.ofNat 32 s)).toInt = (t : ℤ) - s := by
    unfold IntOp.subi
    rw [BitVec.toInt_sub, BitVec.toInt_ofNat', BitVec.toInt_ofNat']
    simp only [Int.bmod]
    omega
  have e' : (BitVec.ofNat 32 w).toInt = (w : ℤ) := by
    rw [BitVec.toInt_ofNat']
    simp only [Int.bmod]
    omega
  unfold bandWord distWord
  generalize IntOp.subi (BitVec.ofNat 32 t) (BitVec.ofNat 32 s) = D at e ⊢
  generalize BitVec.ofNat 32 w = W at e' ⊢
  have h1 : (0#32).sle D = decide ((0 : ℤ) ≤ (t : ℤ) - s) := by rw [BitVec.sle, e]; rfl
  have h2 : D.slt W = decide ((t : ℤ) - s < w) := by rw [BitVec.slt, e, e']
  simp only [IntOp.cmpi, IntOp.andi, h1, h2]
  have h3 : (s : ℕ) ≤ t ∧ (t : ℕ) < s + w ↔ (0 : ℤ) ≤ (t : ℤ) - s ∧ (t : ℤ) - s < w := by omega
  rw [h3]
  generalize (t : ℤ) - s = z
  by_cases a : (0 : ℤ) ≤ z <;> by_cases b : z < w <;> simp [a, b]

/-- The distance from a span position to a query of the block, counted inside the block. -/
theorem dist_span (w i r c t s : ℕ) (ht : t = 128 * i + r) (hs : s + w = 128 * i + c) :
    IntOp.subi (BitVec.ofNat 32 t) (BitVec.ofNat 32 s)
      = IntOp.subi (IntOp.addi (BitVec.ofNat 32 w) (BitVec.ofNat 32 r)) (BitVec.ofNat 32 c) := by
  have h : t + c = w + r + s := by omega
  have h' : BitVec.ofNat 32 t + BitVec.ofNat 32 c = BitVec.ofNat 32 w + BitVec.ofNat 32 r + BitVec.ofNat 32 s := by
    rw [← BitVec.ofNat_add, h, BitVec.ofNat_add, BitVec.ofNat_add]
  unfold IntOp.subi IntOp.addi
  generalize BitVec.ofNat 32 w = W at h' ⊢
  generalize BitVec.ofNat 32 t = T at h' ⊢
  generalize BitVec.ofNat 32 s = S at h' ⊢
  generalize BitVec.ofNat 32 r = R at h' ⊢
  generalize BitVec.ofNat 32 c = C at h' ⊢
  have := congrArg BitVec.toNat h'
  apply BitVec.eq_of_toNat_eq
  simp only [BitVec.toNat_sub, BitVec.toNat_add, BitVec.toNat_ofNat] at this ⊢
  omega

end Layer

end
-- ==== Proof.SwaHost.lean ====
/-
  The two arrays the host prepares for the attention kernel, read at an index: the position bias of a query row inside
  its block against a position of the span, and the sink of every row.
-/
module

public import proofs.«01_k».proof.Proof.SwaSpec
public import proofs.«01_k».proof.Proof.Gen.KernelIdeal.Value
public import Idealize.ShloMosaic.Lib.StableHlo.RunRead
public import Idealize.ShloMosaic.Lib.Pointwise

@[expose] public section

set_option maxRecDepth 16384

noncomputable section

open Idealize.ShloMosaic Idealize.ShloMosaic.TcCoe

namespace Layer.SwaHost

open Cert.KernelIdeal Cert.KernelIdeal.Gen

/-- The distance from position `c` of the span to row `r` of the block, as a word. -/
def inBlock (r : Fin 128) (c : Fin 256) : BitVec 32 :=
  IntOp.subi (IntOp.addi 128#32 (BitVec.ofNat 32 r)) (BitVec.ofNat 32 c)

def distArr : IVec S128x256 32 :=
  subi (broadcastInDim S128x256 ![0, 1] bcast_S128x1_S128x256_0_1
      (addi (broadcastInDim S128x1 ![] bcast_S_S128x1 (constantI S_ 32 128#32)) (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))

/-- The same word at every place. -/
abbrev wordArr (w : BitVec 32) : IVec S128x256 32 := broadcastInDim S128x256 ![] bcast_S_S128x256 (constantI S_ 32 w)
/-- The same number at every place. -/
abbrev litArr (w : BitVec 32) : FVec Ideal S128x256 .f32 := broadcastInDim S128x256 ![] bcast_S_S128x256 (constant S_ .f32 w)

def nearArr : IVec S128x256 32 := maxsi distArr (wordArr 0#32)

def farArr : FVec Ideal S128x256 .f32 :=
  mulf (Host.divf (Host.log (Host.divf (sitofp .f32 (maxsi nearArr (wordArr 1#32))) (litArr 0x41800000#32))) (litArr 0x40051592#32)) (litArr 0x41800000#32)

def bucketArr : IVec S128x256 32 :=
  select (cmpi .slt nearArr (wordArr 16#32)) nearArr (minsi (addi (wordArr 16#32) (fptosi 32 farArr)) (wordArr 31#32))

def rowArr : IVec S128x256x1 32 :=
  broadcastInDim S128x256x1 ![0, 1] bcast_S128x256_S128x256x1_0_1
    (select (cmpi .slt bucketArr (wordArr 0#32)) (addi bucketArr (wordArr 32#32)) bucketArr)

def headArr (x : FVec Ideal S32x16 .f32) : FVec Ideal S128x256x8 .f32 :=
  Host.gather gather_S32x8_S128x256x1_S128x256x8_2_0_n_n_0_2_18 (extractStridedSlice S32x8 ![0, 0] x slices_S32x16_S32x8_0_0) rowArr

def maskArr : IVec S1x128x256 1 :=
  broadcastInDim S1x128x256 ![1, 2] bcast_S128x256_S1x128x256_1_2 (andi (cmpi .sge distArr (wordArr 0#32)) (cmpi .slt distArr (wordArr 128#32)))

def biasArr (x : FVec Ideal S32x16 .f32) : FVec Ideal S2x512x256 .f32 :=
  shapeCast S2x512x256 (select (broadcastInDim S8x128x256 ![0, 1, 2] bcast_S1x128x256_S8x128x256_0_1_2 maskArr)
    (transpose S8x128x256 [2, 0, 1] (headArr x) transposes_S128x256x8_S8x128x256_2_0_1)
    (broadcastInDim S8x128x256 ![] bcast_S_S8x128x256 (constant S_ .f32 0xFF800000#32))) shapeCasts_S8x128x256_S2x512x256

def sinkArr (x : FVec Ideal S8 .f32) : FVec Ideal S2x512x1 .f32 :=
  shapeCast S2x512x1 (shapeCast S1024 (broadcastInDim S8x128 ![0] bcast_S8_S8x128_0 x) shapeCasts_S8x128_S1024) shapeCasts_S1024_S2x512x1

theorem dist_apply (r : Fin 128) (c : Fin 256) : distArr (ix2 r c) = inBlock r c := by
  unfold distArr
  pointwise [inBlock]

theorem near_apply (r : Fin 128) (c : Fin 256) : nearArr (ix2 r c) = IntOp.maxsi (inBlock r c) 0#32 := by
  unfold nearArr
  have h := dist_apply r c
  generalize distArr = z at h ⊢
  pointwise [h]

theorem far_apply (r : Fin 128) (c : Fin 256) : farArr (ix2 r c) = farWord (IntOp.maxsi (inBlock r c) 0#32) := by
  unfold farArr
  have h := near_apply r c
  generalize nearArr = z at h ⊢
  pointwise [h, farWord]

theorem bucket_apply (r : Fin 128) (c : Fin 256) : bucketArr (ix2 r c) = bucketWord (IntOp.maxsi (inBlock r c) 0#32) := by
  unfold bucketArr
  have h := near_apply r c
  have h' := far_apply r c
  generalize farArr = y at h' ⊢
  generalize nearArr = z at h ⊢
  pointwise [h, h', bucketWord]

theorem row_apply (r : Fin 128) (c : Fin 256) : rowArr (ix3 r c 0) = rowWord (inBlock r c) := by
  unfold rowArr
  have h := bucket_apply r c
  generalize bucketArr = z at h ⊢
  pointwise [h, rowWord]

theorem head_apply (x : FVec Ideal S32x16 .f32) (r : Fin 128) (c : Fin 256) (h : Fin 8) :
    headArr x (ix3 r c h) = x (ix2 (tableRow (inBlock r c)) ⟨h, by omega⟩) := by
  unfold headArr
  have e := row_apply r c
  generalize rowArr = z at e ⊢
  have e' := gather_heads_apply (by decide) gather_S32x8_S128x256x1_S128x256x8_2_0_n_n_0_2_18.wf
    (extractStridedSlice S32x8 ![0, 0] x slices_S32x16_S32x8_0_0) z r c h
  change Host.gather gather_S32x8_S128x256x1_S128x256x8_2_0_n_n_0_2_18 _ z _ = _ at e'
  rw [e']
  pointwise
  simp only [e]
  rfl

theorem mask_apply (r : Fin 128) (c : Fin 256) : maskArr (ix3 0 r c) = bandWord 128#32 (inBlock r c) := by
  unfold maskArr
  have h := dist_apply r c
  generalize distArr = z at h ⊢
  pointwise [h, bandWord]

theorem bias_apply (x : FVec Ideal S32x16 .f32) (g : Fin 2) (p : Fin 4) (r : Fin 128) (c : Fin 256) :
    biasArr x (ix3 g ⟨128 * p + r, by omega⟩ c)
      = Scalar.select (bandWord 128#32 (inBlock r c)) (x (ix2 (tableRow (inBlock r c)) ⟨g * 4 + p, by omega⟩)) (Ideal.ofBits .f32 0xFF800000#32) := by
  unfold biasArr
  have h := mask_apply r c
  have h' := head_apply x r c ⟨g * 4 + p, by omega⟩
  generalize maskArr = z at h ⊢
  generalize headArr x = y at h' ⊢
  have e : (128 * (p : ℕ) + r) / 128 = p := by omega
  pointwise [h, h']
  simp only [e]
  rw [h']

theorem sinkArr_apply (x : FVec Ideal S8 .f32) (g : Fin 2) (p : Fin 4) (r : Fin 128) :
    sinkArr x (ix3 g ⟨128 * p + r, by omega⟩ 0) = x (ix1 ⟨g * 4 + p, by omega⟩) := by
  have e : (128 * (p : ℕ) + r) / 128 = p := by omega
  unfold sinkArr
  pointwise
  simp only [e]

variable (m : (ℓ : Loc nD τ sig) → Buf (Elt Ideal) ℓ)

/-- The kernel's bias operand. -/
theorem V_v45 (c : Dev nD) : V m c main_v45 = biasArr (m ((c : Thread nD τ).loc main_arg1)) := by
  simp only [V, hostOps0, hostOps0_1, hostOps0_2, hostOps0_3, hostOps0_4, List.flatten_cons, List.flatten_nil, List.cons_append, List.nil_append, List.append_nil]
  after_reads_simp
  rfl

/-- The kernel's sink operand. -/
theorem V_v48 (c : Dev nD) : V m c main_v48 = sinkArr (m ((c : Thread nD τ).loc main_arg2)) := by
  simp only [V, hostOps0, hostOps0_1, hostOps0_2, hostOps0_3, hostOps0_4, List.flatten_cons, List.flatten_nil, List.cons_append, List.nil_append, List.append_nil]
  after_reads_simp
  rfl

end Layer.SwaHost

end
-- ==== Proof.SwaKernel.lean ====
/-
  The window-128 attention kernel with sinks read at one element of one block, as the softmax row of SwaSpec.lean.
-/
module

public import proofs.«01_k».proof.Proof.SwaSpec
public import proofs.«01_k».proof.Proof.Gen.KernelIdeal.Value
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Layer.SwaKernel

open Cert.KernelIdeal Cert.KernelIdeal.Gen

theorem hz3 : (![0, 0, 0] : Fin 3 → Nat) = fun _ => 0 := funext fun a => by fin_cases a <;> rfl

/-- The word that says which half of the 128 lanes a lane lies in. -/
abbrev halfWord (l : Fin 128) : BitVec 32 := if (l : ℕ) < 64 then 0#32 else 1#32

theorem half6 (r l : Fin 128) : k0_pay6 (iota .tc S128x128 32 [1] iota_S128x128_d1_w32) 128#32 0#32 (ix2 r l) = halfWord l := by
  unfold_payloads
  pointwise []
  revert l
  decide +kernel

theorem half15 (r l : Fin 128) : k0_pay15 (ix2 r l) = halfWord l := by
  unfold_payloads
  pointwise []
  revert l
  decide +kernel

theorem lane19 (r l : Fin 128) : k0_pay19 (ix2 r l) = BitVec.ofNat 32 l := by
  unfold_payloads
  pointwise []
  revert l
  decide +kernel

theorem div20 (r l : Fin 128) : k0_pay20 (ix2 r l) = halfWord l := by
  unfold k0_pay20
  pointwise [lane19]
  revert l
  decide +kernel

theorem sign21 (r l : Fin 128) : k0_pay21 (ix2 r l) = if (l : ℕ) = 0 then 1#1 else 0#1 := by
  unfold k0_pay21
  pointwise [lane19]
  revert l
  decide +kernel

theorem half1 (l : Fin 128) :
    Scalar.select (IntOp.andi (if (l : ℕ) = 0 then 1#1 else 0#1) (IntOp.cmpi .ne (IntOp.remsi .vector (BitVec.ofNat 32 l) 64#32) 0#32))
      (IntOp.subi (halfWord l) 1#32) (halfWord l) = halfWord l := by
  revert l
  decide +kernel

/-- A lane's number, as a word. -/
def laneWord (l : Fin 128) : BitVec 32 := BitVec.ofNat 32 l

/-- A lane number's sign, as a word. -/
def signWord (l : Fin 128) : BitVec 32 := if (l : ℕ) = 0 then 0#32 else 1#32

theorem lane25 (r l : Fin 128) : k0_pay25 (ix2 r l) = laneWord l := by
  unfold_payloads
  pointwise []
  revert l
  decide +kernel

theorem div26 (r l : Fin 128) : k0_pay26 (ix2 r l) = halfWord l := by
  unfold k0_pay26
  pointwise [lane25]
  revert l
  decide +kernel

theorem sign27 (r l : Fin 128) : k0_pay27 (ix2 r l) = signWord l := by
  unfold k0_pay27
  pointwise [lane25]
  revert l
  decide +kernel

theorem half2 (l : Fin 128) :
    Scalar.select (IntOp.andi (IntOp.cmpi .ne (signWord l)
          (Scalar.subi (Scalar.extui (Scalar.cmpi .sgt 64#32 0#32)) (Scalar.extui (Scalar.cmpi .slt 64#32 0#32))))
        (IntOp.cmpi .ne (IntOp.remsi .vector (laneWord l) 64#32) 0#32))
      (IntOp.subi (halfWord l) 1#32) (halfWord l) = halfWord l := by
  revert l
  decide +kernel

theorem sel_half0 (l : Fin 128) (a b : EReal) :
    Scalar.select (IntOp.cmpi .eq (halfWord l) 0#32) a b = if (l : ℕ) < 64 then a else b := by
  by_cases h : (l : ℕ) < 64 <;> simp [halfWord, h, Scalar.select, IntOp.cmpi]

theorem sel_half1 (l : Fin 128) (a b : EReal) :
    Scalar.select (IntOp.cmpi .eq (halfWord l) 1#32) a b = if (l : ℕ) < 64 then b else a := by
  by_cases h : (l : ℕ) < 64 <;> simp [halfWord, h, Scalar.select, IntOp.cmpi]

variable (v16 : FVec Ideal S256x128 .bf16) (v28 : FVec Ideal S128x512 .f32) (v33 : IVec S1x256 1) (v102 : Vec Ideal S1x512x256 .f32) (v111 : Vec Ideal S1x512x1 .f32)

abbrev half0 : IVec S128x128 32 := k0_pay6 (iota .tc S128x128 32 [1] iota_S128x128_d1_w32) 128#32 0#32
abbrev tile0 : FVec Ideal S128x128 .f32 := k0_pay7 v28 (iota .tc S128x128 32 [1] iota_S128x128_d1_w32) 128#32 0#32

theorem tile0_apply (r l : Fin 128) : tile0 v28 (ix2 r l) = if (l : ℕ) < 64 then v28 (ix2 r ⟨l, by omega⟩) else 0 := by
  unfold tile0 k0_pay7
  generalize hz : k0_pay6 (iota .tc S128x128 32 [1] iota_S128x128_d1_w32) 128#32 0#32 = z
  pointwise []
  subst hz
  rw [half6, sel_half0]

theorem pay8_apply (r l : Fin 128) : k0_pay8 v28 (ix2 r l) = v28 (ix2 r ⟨l, by omega⟩) := by
  unfold k0_pay8
  pointwise

/-- The masked logits of the first group of heads. -/
theorem logits0 (p : Fin 4) (r : Fin 128) (c : Fin 256) :
    k0_pay9 v16 v28 v33 half0 (tile0 v28) (k0_pay8 v28) 64#32 v102 (ix2 ⟨128 * p + r, by omega⟩ c)
      = Scalar.select (v33 (ix2 0 c))
          (∑ d : Fin 64, v28 (ix2 r ⟨64 * p + d, by omega⟩) * Ideal.ofBits .f32 0x3E000000#32 * v16 (ix2 c ⟨d, by omega⟩)
            + v102 (ix3 0 ⟨128 * p + r, by omega⟩ c)) ⊥ := by
  unfold k0_pay9
  pointwise [half6, sel_half0, tile0_apply, pay8_apply]
  congr 2
  refine (congrArg₂ (· + ·) ?_ (Finset.sum_eq_zero fun x _ => ?_)).trans (add_zero _)
  · refine Finset.sum_congr rfl fun x _ => ?_
    congr 2
    split_ifs <;> exact read2 v28 (by dsimp only <;> omega) (by dsimp only <;> omega)
  · split_ifs <;> simp

/-- The masked logits of the second group of heads. -/
theorem logits1 (p : Fin 4) (r : Fin 128) (c : Fin 256) :
    k0_pay23 v16 v28 v33 k0_pay19 k0_pay20 k0_pay21 k0_pay22 v102 (ix2 ⟨128 * p + r, by omega⟩ c)
      = Scalar.select (v33 (ix2 0 c))
          (∑ d : Fin 64, v28 (ix2 r ⟨256 + 64 * p + d, by omega⟩) * Ideal.ofBits .f32 0x3E000000#32 * v16 (ix2 c ⟨64 + d, by omega⟩)
            + v102 (ix3 0 ⟨128 * p + r, by omega⟩ c)) ⊥ := by
  unfold k0_pay23 k0_pay22
  pointwise [lane19, div20, sign21, half1, sel_half1]
  congr 2
  refine (congrArg₂ (· + ·) (Finset.sum_eq_zero fun x _ => ?_) ?_).trans (zero_add _)
  · split_ifs <;> simp
  · refine Finset.sum_congr rfl fun x _ => ?_
    congr 2
    split_ifs <;> exact read2 v28 (by dsimp only <;> omega) (by dsimp only <;> omega)

variable (v25 : FVec Ideal S256x128 .bf16)

theorem attn0 (v74 : IVec S128x128 32) (v79 v80 : FVec Ideal S128x128 .f32) (r : Fin 512) (d : Fin 128) :
    k0_pay14 v25 (k0_pay12 v16 v28 v33 v74 v79 v80 64#32 v102 v111) (k0_pay13 v16 v28 v33 v74 v79 v80 64#32 v102 v111) (ix2 r d)
      = attnRow (fun c => k0_pay9 v16 v28 v33 v74 v79 v80 64#32 v102 (ix2 r c)) (v111 (ix3 0 r 0)) (fun c => v25 (ix2 c d)) := by
  unfold k0_pay14 k0_pay13 k0_pay12 k0_pay11 k0_pay10
  generalize k0_pay9 v16 v28 v33 v74 v79 v80 64#32 v102 = z
  pointwise [attnRow]

theorem attn1 (v254 : FVec Ideal S512x256 .f32) (r : Fin 512) (d : Fin 128) :
    k0_pay24 v25 v254 v111 (ix2 r d) = attnRow (fun c => v254 (ix2 r c)) (v111 (ix3 0 r 0)) (fun c => v25 (ix2 c d)) := by
  unfold k0_pay24
  pointwise [attnRow]

/-- The first group's heads laid side by side. -/
theorem heads0 (v116 v122 : FVec Ideal S512x256 .f32) (p : Fin 4) (r : Fin 128) (d : Fin 64) :
    k0_pay18 (k0_pay14 v25 v116 v122) k0_pay15 (k0_pay16 v25 v116 v122) (k0_pay17 v25 v116 v122) (ix2 r ⟨64 * p + d, by omega⟩)
      = k0_pay14 v25 v116 v122 (ix2 ⟨128 * p + r, by omega⟩ ⟨d, by omega⟩) := by
  unfold k0_pay18 k0_pay16 k0_pay17
  generalize k0_pay14 v25 v116 v122 = z
  pointwise [half15, sel_half0]
  split_ifs <;> exact read2 z (by dsimp only <;> omega) (by dsimp only <;> omega)

/-- Both groups' heads laid side by side, read in the first group. -/
theorem close0_cmp (A : FVec Ideal S128x256 .f32) (B : FVec Ideal S512x128 .f32) (r : Fin 128) (n : Fin 256) :
    k0_pay1 A B k0_pay25 64#32 k0_pay26 k0_pay27 (Scalar.extui (Scalar.cmpi .sgt 64#32 0#32)) (ix3 0 r ⟨n, by omega⟩) = A (ix2 r n) := by
  unfold k0_pay1
  pointwise

/-- Both groups' heads laid side by side, read in the second group. -/
theorem close1_cmp (A : FVec Ideal S128x256 .f32) (B : FVec Ideal S512x128 .f32) (p : Fin 4) (r : Fin 128) (d : Fin 64) :
    k0_pay1 A B k0_pay25 64#32 k0_pay26 k0_pay27 (Scalar.extui (Scalar.cmpi .sgt 64#32 0#32)) (ix3 0 r ⟨256 + 64 * p + d, by omega⟩)
      = B (ix2 ⟨128 * p + r, by omega⟩ ⟨64 + d, by omega⟩) := by
  unfold k0_pay1
  pointwise [lane25, div26, sign27, half2, sel_half0]
  split_ifs <;> first | omega | exact read2 B (by dsimp only <;> omega) (by dsimp only <;> omega)

theorem close0 (A : FVec Ideal S128x256 .f32) (B : FVec Ideal S512x128 .f32) (p : Fin 4) (r : Fin 128) (d : Fin 64) :
    k0_pay1 A B k0_pay25 64#32 k0_pay26 k0_pay27 1#32 (ix3 0 r ⟨64 * p + d, by omega⟩) = A (ix2 r ⟨64 * p + d, by omega⟩) :=
  close0_cmp A B r ⟨64 * p + d, by omega⟩

theorem close1 (A : FVec Ideal S128x256 .f32) (B : FVec Ideal S512x128 .f32) (p : Fin 4) (r : Fin 128) (d : Fin 64) :
    k0_pay1 A B k0_pay25 64#32 k0_pay26 k0_pay27 1#32 (ix3 0 r ⟨256 + 64 * p + d, by omega⟩)
      = B (ix2 ⟨128 * p + r, by omega⟩ ⟨64 + d, by omega⟩) := close1_cmp A B p r d

/-- The key row that position `c` of the span of query block `i` reads. -/
def spanRow (i : ℕ) (hi : i < 16) (c : Fin 256) : Fin 2048 :=
  ⟨if (c : ℕ) < 128 then 128 * (i - 1) + c else 128 * i + (c - 128), by split_ifs <;> omega⟩

theorem point_lt (i : grid0.Coords) : (i 1 : ℕ) < 16 := (i 1).isLt

theorem off0 (i : grid0.Coords) : k0_off1 i 0#32 = ![0, 128 * ((i 1 : ℕ) - 1), 0] := by
  have h : ∀ j : Fin 16, BitVec.toNat (Scalar.indexCast (Scalar.muli (Scalar.maxsi (Scalar.addi (Scalar.subi (BitVec.ofNat 32 j) 1#32) 0#32) 0#32) 128#32))
      = 128 * (j - 1) := by decide +kernel
  show ![0, BitVec.toNat (Scalar.indexCast (Scalar.muli (Scalar.maxsi (Scalar.addi (Scalar.subi (BitVec.ofNat 32 (i 1)) 1#32) 0#32) 0#32) 128#32)), 0] = _
  rw [h (i 1)]

theorem off1 (i : grid0.Coords) : k0_off1 i 1#32 = ![0, 128 * (i 1 : ℕ), 0] := by
  have h : ∀ j : Fin 16, BitVec.toNat (Scalar.indexCast (Scalar.muli (Scalar.maxsi (Scalar.addi (Scalar.subi (BitVec.ofNat 32 j) 1#32) 1#32) 0#32) 128#32))
      = 128 * j := by decide +kernel
  show ![0, BitVec.toNat (Scalar.indexCast (Scalar.muli (Scalar.maxsi (Scalar.addi (Scalar.subi (BitVec.ofNat 32 (i 1)) 1#32) 1#32) 0#32) 128#32)), 0] = _
  rw [h (i 1)]

theorem seq5 (i : grid0.Coords) (c : Fin 256) : k0_pay5 i (ix2 0 c) = if 128 ≤ 128 * (i 1 : ℕ) + c then 1#1 else 0#1 := by
  unfold_payloads
  pointwise []
  generalize (i 1) = j
  revert j c
  decide +kernel

theorem spanK (x : Vec Ideal S1x2048x128 .bf16) (i : grid0.Coords) (inb inb') (c : Fin 256) (l : Fin 128) :
    k0_pay2 (View.ld x (Rect.unit (s := S1x2048x128) (k0_off1 i 0#32) S1x128x128.size inb))
      (View.ld x (Rect.unit (s := S1x2048x128) (k0_off1 i 1#32) S1x128x128.size inb')) (ix2 c l) = x (ix3 0 (spanRow (i 1 : ℕ) (point_lt i) c) l) := by
  have e0 := off0 i
  have e1 := off1 i
  generalize k0_off1 i 0#32 = a at e0 inb ⊢
  generalize k0_off1 i 1#32 = b at e1 inb' ⊢
  subst e0 e1
  unfold_payloads
  pointwise [spanRow]
  by_cases h : (c : ℕ) < 128 <;> simp [h]

theorem spanV (x : Vec Ideal S1x2048x128 .bf16) (i : grid0.Coords) (inb inb') (c : Fin 256) (l : Fin 128) :
    k0_pay3 (View.ld x (Rect.unit (s := S1x2048x128) (k0_off1 i 0#32) S1x128x128.size inb))
      (View.ld x (Rect.unit (s := S1x2048x128) (k0_off1 i 1#32) S1x128x128.size inb')) (ix2 c l) = x (ix3 0 (spanRow (i 1 : ℕ) (point_lt i) c) l) := by
  have e0 := off0 i
  have e1 := off1 i
  generalize k0_off1 i 0#32 = a at e0 inb ⊢
  generalize k0_off1 i 1#32 = b at e1 inb' ⊢
  subst e0 e1
  unfold_payloads
  pointwise [spanRow]
  by_cases h : (c : ℕ) < 128 <;> simp [h]

theorem pay4_apply (x : Vec Ideal S1x128x512 .bf16) (r : Fin 128) (n : Fin 512) : k0_pay4 x (ix2 r n) = x (ix3 0 r n) := by
  unfold_payloads
  pointwise

/-- The logit of one query row of one head at position `c` of the span: the scaled product plus the bias, −∞ before the
    sequence's first key. -/
def spanLogit (i : ℕ) (q : Fin 64 → EReal) (k : Fin 256 → Fin 64 → EReal) (bias : Fin 256 → EReal) (c : Fin 256) : EReal :=
  if 128 ≤ 128 * i + c then ∑ d, q d * Ideal.ofBits .f32 0x3E000000#32 * k c d + bias c else ⊥

theorem sel_seq (P : Prop) [Decidable P] (a b : EReal) : Scalar.select (if P then 1#1 else 0#1) a b = if P then a else b := by
  by_cases h : P <;> simp [h, Scalar.select]

/-- One element of the block the kernel writes. -/
theorem out_apply (c : Dev nD) (i : grid0.Coords) (arg2 : Memref sig .tc .vmem S1x128x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S2x512x256 .f32) (harg5 : arg5.IsWhole) (arg6 : Memref sig .tc .vmem S2x512x1 .f32) (harg6 : arg6.IsWhole) (arg7 : Memref sig .tc .vmem S1x128x512 .bf16) (harg7 : arg7.IsWhole)
    (x0 : Vec Ideal S1x128x512 .bf16) (x1 : Vec Ideal S1x2048x128 .bf16) (x2 : Vec Ideal S1x2048x128 .bf16) (x3 : Vec Ideal S2x512x256 .f32) (x4 : Vec Ideal S2x512x1 .f32) (g : Fin 2) (p : Fin 4) (r : Fin 128) (d : Fin 64) :
    out0_A_5 (F := Ideal) c i arg2 harg2 arg3 harg3 arg4 harg4 arg5 harg5 arg6 harg6 arg7 harg7 x0 x1 x2 x3 x4 (ix3 0 r ⟨256 * g + 64 * p + d, by omega⟩)
      = attnRow (spanLogit (i 1 : ℕ) (fun d => x0 (ix3 0 r ⟨256 * g + 64 * p + d, by omega⟩))
            (fun c d => x1 (ix3 0 (spanRow (i 1 : ℕ) (point_lt i) c) ⟨64 * g + d, by omega⟩))
            (fun c => x3 (ix3 g ⟨128 * p + r, by omega⟩ c)))
          (x4 (ix3 g ⟨128 * p + r, by omega⟩ 0)) (fun c => x2 (ix3 0 (spanRow (i 1 : ℕ) (point_lt i) c) ⟨64 * g + d, by omega⟩)) := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  rw [View.canon_unit_zero (S := S1x128x512) hz3]
  simp only [kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.v34]
  simp only [View.readAt_eq_ld, harg2.read_unread, harg3.read_unread, harg4.read_unread, harg5.read_unread, harg6.read_unread,
    View.ld_unit_zero (S := S1x128x512) hz3]
  obtain ⟨g, hg⟩ := g
  obtain rfl | rfl : g = 0 ∨ g = 1 := by omega
  · have e : (⟨256 * (0 : ℕ) + 64 * p + d, by omega⟩ : Fin 512) = ⟨64 * p + d, by omega⟩ := Fin.ext (by simp)
    simp only [e]
    rw [close0, heads0, attn0]
    refine (congrArg₂ (fun L V => attnRow L _ V) (funext fun c => logits0 _ _ _ _ p r c) rfl).trans ?_
    simp only [spanV, spanK, pay4_apply, seq5, sel_seq]
    unfold spanLogit
    pointwise
    done
  · have e : (⟨256 * (1 : ℕ) + 64 * p + d, by omega⟩ : Fin 512) = ⟨256 + 64 * p + d, by omega⟩ := Fin.ext (by simp)
    simp only [e]
    rw [close1, attn1]
    simp only [logits1, spanV, spanK, pay4_apply, seq5, sel_seq]
    unfold spanLogit
    pointwise
    done

end Layer.SwaKernel
-- ==== Proof.SwaRef.lean ====
/-
  The plain window attention read at one element, as the softmax row of SwaSpec.lean.
-/
module

public import proofs.«01_k».proof.Proof.SwaSpec
public import proofs.«01_k».proof.Proof.Gen.ReferenceIdeal.Read
public import Idealize.ShloMosaic.Lib.Pointwise

@[expose] public section

set_option maxRecDepth 16384

noncomputable section

open Idealize.ShloMosaic

namespace Layer.SwaRef

open Cert.ReferenceIdeal Cert.ReferenceIdeal.Read

variable (x0 : (⟨S32x2048x3584, .bf16⟩ : BufTy).Contents (Elt Ideal)) (x1 : (⟨S32x16, .f32⟩ : BufTy).Contents (Elt Ideal))
  (x2 : (⟨S8, .f32⟩ : BufTy).Contents (Elt Ideal))

theorem dist_apply (t s : Fin 2048) :
    val_main_v19 (F := Ideal) (ix2 t s) = distWord t s := by
  unfold val_main_v19 val_main_v18 val_main_v17 val_main_v16 val_main_v15 val_main_v14 val_main_v13
  pointwise [distWord]

theorem near_apply (t s : Fin 2048) : val_main_v26 (F := Ideal) (ix2 t s) = IntOp.maxsi (distWord t s) 0#32 := by
  unfold val_main_v26 val_main_v25 val_main_c_1
  have h := dist_apply t s
  generalize val_main_v19 (F := Ideal) = z at h ⊢
  pointwise [h]

theorem far_apply (t s : Fin 2048) : val_main_v36 (F := Ideal) (ix2 t s) = farWord (IntOp.maxsi (distWord t s) 0#32) := by
  unfold val_main_v36 val_main_v35 val_main_v34 val_main_v33 val_main_v32 val_main_v31 val_main_v30 val_main_v29 val_main_v28 val_main_v27 val_main_c_2 val_main_cst val_main_cst_3 val_main_cst_4
  have h := near_apply t s
  generalize val_main_v26 (F := Ideal) = z at h ⊢
  pointwise [h, farWord]

theorem bucket_apply (t s : Fin 2048) : val_main_v44 (F := Ideal) (ix2 t s) = bucketWord (IntOp.maxsi (distWord t s) 0#32) := by
  unfold val_main_v44 val_main_v43 val_main_v42 val_main_v41 val_main_v40 val_main_v39 val_main_v38 val_main_v37 val_main_c_5 val_main_c_6 val_main_c_7
  have h := near_apply t s
  have h' := far_apply t s
  generalize val_main_v36 (F := Ideal) = y at h' ⊢
  generalize val_main_v26 (F := Ideal) = z at h ⊢
  pointwise [h, h', bucketWord]

theorem row_apply (t s : Fin 2048) : val_main_v50 (F := Ideal) (ix3 t s 0) = rowWord (distWord t s) := by
  unfold val_main_v50 val_main_v49 val_main_v48 val_main_v47 val_main_v46 val_main_v45 val_main_c_8 val_main_c_9
  have h := bucket_apply t s
  generalize val_main_v44 (F := Ideal) = z at h ⊢
  pointwise [h, rowWord]

theorem bias_apply (g : Fin 2) (p : Fin 4) (t s : Fin 2048) :
    val_main_v53 (F := Ideal) x1 (ix4 g p t s) = x1 (ix2 (tableRow (distWord t s)) ⟨g * 4 + p, by omega⟩) := by
  unfold val_main_v53 val_main_v52 val_main_v51 val_main_v6
  have h := row_apply t s
  generalize val_main_v50 (F := Ideal) = z at h ⊢
  have e := gather_heads_apply (by decide) gather_S32x8_S2048x2048x1_S2048x2048x8_2_0_n_n_0_2_18.wf
    (extractStridedSlice S32x8 ![0, 0] x1 Gen.slices_S32x16_S32x8_0_0) z t s ⟨g * 4 + p, by omega⟩
  change Host.gather gather_S32x8_S2048x2048x1_S2048x2048x8_2_0_n_n_0_2_18 _ z _ = _ at e
  generalize Host.gather gather_S32x8_S2048x2048x1_S2048x2048x8_2_0_n_n_0_2_18
    (extractStridedSlice S32x8 ![0, 0] x1 Gen.slices_S32x16_S32x8_0_0) z = Y at e ⊢
  pointwise [e]
  simp only [h]
  rfl

theorem logit_apply (b : Fin 32) (g : Fin 2) (p : Fin 4) (t s : Fin 2048) :
    val_main_v60 (F := Ideal) x0 x1 (ix5 b g p t s)
      = Scalar.select (bandWord 128#32 (distWord t s))
          ((∑ d : Fin 64, x0 (ix3 b t ⟨g * 256 + p * 64 + d, by omega⟩) * x0 (ix3 b s ⟨2560 + (g * 64 + d), by omega⟩)) * Ideal.ofBits .f32 0x3E000000#32
            + x1 (ix2 (tableRow (distWord t s)) ⟨g * 4 + p, by omega⟩)) (Ideal.ofBits .f32 0xFF800000#32) := by
  unfold val_main_v60 val_main_call1_v2 val_main_call1_v1 val_main_call1_v0 val_main_v59 val_main_v58 val_main_v57 val_main_v56 val_main_v55 val_main_v54 val_main_v24 val_main_v23 val_main_v22 val_main_v21 val_main_v20 val_main_c val_main_c_0 val_main_cst_10 val_main_cst_11 val_main_v10 val_main_v9 val_main_v8 val_main_v7 val_main_v3 val_main_v2 val_main_v1 val_main_v0
  have h := bias_apply x1 g p t s
  have h' := dist_apply t s
  generalize val_main_v53 (F := Ideal) x1 = z at h ⊢
  generalize val_main_v19 (F := Ideal) = y at h' ⊢
  pointwise [h, h', bandWord]
  rfl

variable (b : Fin 32) (g : Fin 2) (p : Fin 4) (t : Fin 2048)

theorem max_apply : val_main_v63 (F := Ideal) x0 x1 (ix4 b g p t)
    = Finset.fold max (Ideal.ofBits .f32 0xFF800000#32) (fun s => val_main_v60 (F := Ideal) x0 x1 (ix5 b g p t s)) Finset.univ := by
  unfold val_main_v63 val_main_cst_12
  generalize val_main_v60 (F := Ideal) x0 x1 = z
  pointwise

theorem sink_apply : val_main_v65 (F := Ideal) x2 (ix5 b g p t 0) = x2 (ix1 ⟨g * 4 + p, by omega⟩) := by
  unfold val_main_v65 val_main_v62 val_main_v61
  pointwise

theorem keep_apply : val_main_v64 (F := Ideal) x0 x1 (ix5 b g p t 0) = val_main_v63 (F := Ideal) x0 x1 (ix4 b g p t) := by
  unfold val_main_v64
  generalize val_main_v63 (F := Ideal) x0 x1 = z
  pointwise

theorem peak_apply : val_main_v66 (F := Ideal) x0 x1 x2 (ix5 b g p t 0)
    = @max EReal _ (val_main_v63 (F := Ideal) x0 x1 (ix4 b g p t)) (x2 (ix1 ⟨g * 4 + p, by omega⟩)) :=
  (val_main_v66_apply x0 x1 x2 _).trans (congrArg₂ (@max EReal _) (keep_apply x0 x1 b g p t) (sink_apply x2 b g p t))

theorem exp_apply (s : Fin 2048) : val_main_v69 (F := Ideal) x0 x1 x2 (ix5 b g p t s)
    = Ideal.exp (val_main_v60 (F := Ideal) x0 x1 (ix5 b g p t s) - val_main_v66 (F := Ideal) x0 x1 x2 (ix5 b g p t 0)) := by
  unfold val_main_v69 val_main_v68 val_main_v67
  generalize val_main_v66 (F := Ideal) x0 x1 x2 = y
  generalize val_main_v60 (F := Ideal) x0 x1 = z
  pointwise

theorem sum_apply : val_main_v70 (F := Ideal) x0 x1 x2 (ix4 b g p t) = ∑ s, val_main_v69 (F := Ideal) x0 x1 x2 (ix5 b g p t s) := by
  unfold val_main_v70 val_main_cst_13
  generalize val_main_v69 (F := Ideal) x0 x1 x2 = z
  pointwise

theorem den_apply : val_main_v75 (F := Ideal) x0 x1 x2 (ix5 b g p t 0)
    = val_main_v70 (F := Ideal) x0 x1 x2 (ix4 b g p t) + Ideal.exp (x2 (ix1 ⟨g * 4 + p, by omega⟩) - val_main_v66 (F := Ideal) x0 x1 x2 (ix5 b g p t 0)) := by
  unfold val_main_v75 val_main_v74 val_main_v73 val_main_v72 val_main_v71 val_main_v62 val_main_v61
  generalize val_main_v70 (F := Ideal) x0 x1 x2 = z
  generalize val_main_v66 (F := Ideal) x0 x1 x2 = y
  pointwise

theorem weight_apply (s : Fin 2048) : val_main_v77 (F := Ideal) x0 x1 x2 (ix5 b g p t s)
    = Ideal.div (val_main_v69 (F := Ideal) x0 x1 x2 (ix5 b g p t s)) (val_main_v75 (F := Ideal) x0 x1 x2 (ix5 b g p t 0)) := by
  unfold val_main_v77 val_main_v76
  generalize val_main_v75 (F := Ideal) x0 x1 x2 = z
  generalize val_main_v69 (F := Ideal) x0 x1 x2 = y
  pointwise

theorem mix_apply (d : Fin 64) : val_main_v78 (F := Ideal) x0 x1 x2 (ix5 b g p t d)
    = ∑ s, val_main_v77 (F := Ideal) x0 x1 x2 (ix5 b g p t s) * x0 (ix3 b s ⟨2688 + (g * 64 + d), by omega⟩) := by
  unfold val_main_v78 val_main_v12 val_main_v11 val_main_v5 val_main_v4
  generalize val_main_v77 (F := Ideal) x0 x1 x2 = z
  pointwise

theorem close_apply (d : Fin 64) : val_main_v81 (F := Ideal) x0 x1 x2 (ix3 b t ⟨g * 256 + p * 64 + d, by omega⟩)
    = val_main_v78 (F := Ideal) x0 x1 x2 (ix5 b g p t d) := by
  unfold val_main_v81 val_main_v80 val_main_v79
  generalize val_main_v78 (F := Ideal) x0 x1 x2 = z
  pointwise

/-- The result at one element. -/
theorem out_apply (d : Fin 64) :
    val_main_v81 (F := Ideal) x0 x1 x2 (ix3 b t ⟨g * 256 + p * 64 + d, by omega⟩)
      = attnRow (fun s => val_main_v60 (F := Ideal) x0 x1 (ix5 b g p t s)) (x2 (ix1 ⟨g * 4 + p, by omega⟩))
          (fun s => x0 (ix3 b s ⟨2688 + (g * 64 + d), by omega⟩)) := by
  rw [close_apply, mix_apply]
  simp only [weight_apply, den_apply, sum_apply, exp_apply, peak_apply, max_apply]
  rfl

end Layer.SwaRef
-- ==== Proof.SwaRow.lean ====
/-
  One attention row: the plain program's softmax over the whole sequence is the kernel's softmax over the span.
-/
module

public import proofs.«01_k».proof.Proof.SwaBridge
public import proofs.«01_k».proof.Proof.SwaHost
public import proofs.«01_k».proof.Proof.SwaKernel
public import proofs.«01_k».proof.Proof.SwaRef
public import proofs.«01_k».proof.Defs

@[expose] public section

set_option maxRecDepth 16384

noncomputable section

open Idealize.ShloMosaic

namespace Layer.SwaRow

open Cert.KernelIdeal

/-- A number of absolute value below +∞ is real. -/
theorem fine_of_lt {x : EReal} (h : FloatOps.cmpf (F := Ideal) (φ := .f32) .olt (FloatOps.absf (F := Ideal) (φ := .f32) x) (Ideal.ofBits .f32 0x7F800000#32) = 1#1) : Fine x := by
  have e : Ideal.ofBits .f32 0x7F800000#32 = ⊤ := by simp [Ideal.ofBits, Ideal.ieee]
  rw [e] at h
  change Ideal.cmp .olt (max x (-x)) ⊤ = 1#1 at h
  induction x with
  | bot => simp [Ideal.cmp] at h
  | top => simp [Ideal.cmp] at h
  | coe r => exact ⟨r, rfl⟩

/-- What the precondition says of the three argument arrays. -/
theorem fine_args [Cert.Pre_finite.Facts] (x0 : FVec Ideal S32x2048x3584 .bf16) (x1 : FVec Ideal S32x16 .f32) (x2 : FVec Ideal S8 .f32)
    (h : (Cert.Pre_finite.fn (F := Ideal) x0 x1 x2).1 = (fun _ => 1#1) ∧ (Cert.Pre_finite.fn (F := Ideal) x0 x1 x2).2.1 = (fun _ => 1#1)
      ∧ (Cert.Pre_finite.fn (F := Ideal) x0 x1 x2).2.2 = (fun _ => 1#1)) :
    (∀ i, Fine (x0 i)) ∧ (∀ i, Fine (x1 i)) ∧ (∀ i, Fine (x2 i)) :=
  ⟨fun i => fine_of_lt (congrFun h.1 i), fun i => fine_of_lt (congrFun h.2.1 i), fun i => fine_of_lt (congrFun h.2.2 i)⟩

/-- A span position at or after the sequence's first key is that key. -/
theorem span_key (i : ℕ) (hi : i < 16) (c : Fin 256) (h : 128 ≤ 128 * i + c) : (SwaKernel.spanRow i hi c : ℕ) + 128 = 128 * i + c := by
  unfold SwaKernel.spanRow
  dsimp only
  split_ifs <;> omega

theorem select_bit (x : BitVec 1) (P : Prop) [Decidable P] (h : x = 1#1 ↔ P) (a b : EReal) : Scalar.select x a b = if P then a else b := by
  show (if x = 1#1 then a else b) = _
  by_cases hp : P
  · rw [if_pos (h.2 hp), if_pos hp]
  · rw [if_neg fun e => hp (h.1 e), if_neg hp]

theorem row_eq (x0 : FVec Ideal S32x2048x3584 .bf16) (x1 : FVec Ideal S32x16 .f32) (x2 : FVec Ideal S8 .f32)
    (h0 : ∀ i, Fine (x0 i)) (h1 : ∀ i, Fine (x1 i)) (h2 : ∀ i, Fine (x2 i)) (b : Fin 32) (i : ℕ) (hi : i < 16) (g : Fin 2) (p : Fin 4) (r : Fin 128) (d : Fin 64) :
    attnRow (fun s => Cert.ReferenceIdeal.Read.val_main_v60 (F := Ideal) x0 x1 (ix5 b g p ⟨128 * i + r, by omega⟩ s)) (x2 (ix1 ⟨g * 4 + p, by omega⟩))
        (fun s => x0 (ix3 b s ⟨2688 + (g * 64 + d), by omega⟩))
      = attnRow (SwaKernel.spanLogit i (fun d => x0 (ix3 b ⟨128 * i + r, by omega⟩ ⟨g * 256 + p * 64 + d, by omega⟩))
            (fun c d => x0 (ix3 b (SwaKernel.spanRow i hi c) ⟨2560 + (g * 64 + d), by omega⟩))
            (fun c => SwaHost.biasArr x1 (ix3 g ⟨128 * p + r, by omega⟩ c)))
          (SwaHost.sinkArr x2 (ix3 g ⟨128 * p + r, by omega⟩ 0)) (fun c => x0 (ix3 b (SwaKernel.spanRow i hi c) ⟨2688 + (g * 64 + d), by omega⟩)) := by
  rw [SwaHost.sinkArr_apply]
  have hsc := fun s : Fin 2048 => scaled_dot (fun d : Fin 64 => x0 (ix3 b (⟨128 * i + r, by omega⟩ : Fin 2048) ⟨g * 256 + p * 64 + d, by omega⟩))
    (fun d => x0 (ix3 b s ⟨2560 + (g * 64 + d), by omega⟩)) (fun _ => h0 _) (fun _ => h0 _) (1 / 8)
  have hL : ∀ s : Fin 2048, Cert.ReferenceIdeal.Read.val_main_v60 (F := Ideal) x0 x1 (ix5 b g p ⟨128 * i + r, by omega⟩ s)
      = if (s : ℕ) ≤ 128 * i + r ∧ 128 * i + r < (s : ℕ) + 128 then
          (∑ d : Fin 64, x0 (ix3 b (⟨128 * i + r, by omega⟩ : Fin 2048) ⟨g * 256 + p * 64 + d, by omega⟩) * x0 (ix3 b s ⟨2560 + (g * 64 + d), by omega⟩)) * ((1 / 8 : ℝ) : EReal)
            + x1 (ix2 (tableRow (distWord (⟨128 * i + r, by omega⟩ : Fin 2048) s)) ⟨g * 4 + p, by omega⟩)
        else ⊥ := fun s => by
    rw [SwaRef.logit_apply, negInf, eighth]
    exact select_bit _ _ (bandWord_iff (⟨128 * i + r, by omega⟩ : Fin 2048) s le_rfl le_rfl 128 (by omega)) _ _
  have hdist : ∀ c : Fin 256, 128 ≤ 128 * i + c →
      distWord (⟨128 * i + r, by omega⟩ : Fin 2048) (SwaKernel.spanRow i hi c) = SwaHost.inBlock r c := fun c hc =>
    dist_span 128 i r c (128 * i + r) (SwaKernel.spanRow i hi c) rfl (span_key i hi c hc)
  have hB : ∀ c : Fin 256, (hc : 128 ≤ 128 * i + c) → SwaHost.biasArr x1 (ix3 g ⟨128 * p + r, by omega⟩ c)
      = if (SwaKernel.spanRow i hi c : ℕ) ≤ 128 * i + r ∧ 128 * i + r < (SwaKernel.spanRow i hi c : ℕ) + 128 then
          x1 (ix2 (tableRow (distWord (⟨128 * i + r, by omega⟩ : Fin 2048) (SwaKernel.spanRow i hi c))) ⟨g * 4 + p, by omega⟩) else ⊥ := fun c hc => by
    rw [SwaHost.bias_apply, negInf, ← hdist c hc]
    exact select_bit _ _ (bandWord_iff (⟨128 * i + r, by omega⟩ : Fin 2048) (SwaKernel.spanRow i hi c) le_rfl le_rfl 128 (by omega)) _ _
  refine attnRow_span _ _ _ _ _ (fun c => 128 ≤ 128 * i + (c : ℕ)) (SwaKernel.spanRow i hi) (fun c d hc hd e => ?_) (fun c hc => ?_) (fun c _ => rfl)
    (fun c hc => if_neg hc) (fun s hs => ?_) (fun s => ?_) ?_ ?_
  · have := span_key i hi c hc
    have := span_key i hi d hd
    rw [e] at *
    exact Fin.ext (by omega)
  · rw [hL]
    unfold SwaKernel.spanLogit
    dsimp only
    rw [if_pos hc, hB c hc, eighth, (hsc _).1]
    split_ifs
    · rfl
    · exact EReal.add_bot _
  · rw [hL] at hs
    split_ifs at hs with h
    · obtain ⟨ha, hb⟩ := h
      have hr := r.isLt
      refine ⟨⟨s + 128 - 128 * i, by omega⟩, ?_, ?_⟩
      · show 128 ≤ 128 * i + (s + 128 - 128 * i)
        omega
      · have := span_key i hi ⟨s + 128 - 128 * i, by omega⟩ (by show 128 ≤ 128 * i + (s + 128 - 128 * i); omega)
        refine Fin.ext ?_
        dsimp only at this
        omega
    · exact absurd rfl hs
  · rw [hL]
    split_ifs
    · obtain ⟨u, hu⟩ := (hsc s).2
      obtain ⟨v, hv⟩ := h1 (ix2 (tableRow (distWord (⟨128 * i + r, by omega⟩ : Fin 2048) s)) ⟨g * 4 + p, by omega⟩)
      rw [hu, hv, ← EReal.coe_add]
      exact EReal.coe_ne_top _
    · exact bot_ne_top
  · obtain ⟨u, hu⟩ := h2 (ix1 ⟨g * 4 + p, by omega⟩)
    rw [hu]; exact EReal.coe_ne_top _
  · obtain ⟨u, hu⟩ := h2 (ix1 ⟨g * 4 + p, by omega⟩)
    refine Or.inl ?_
    rw [hu]; exact EReal.coe_ne_bot _

end Layer.SwaRow

end
-- ==== Proof.SwaClaim.lean ====
/-
  The attention claim: on real arguments the kernel's result array is the plain program's.
-/
module

public import proofs.«01_k».proof.Proof.SwaRow
public import proofs.«01_k».proof.Proof.Gen.Pre_finite

@[expose] public section

set_option maxRecDepth 16384

noncomputable section

open Idealize.ShloMosaic Idealize.ShloMosaic.TcCoe Idealize.SL.Sem
open Idealize.ShloMosaic.Pipeline (Dat)

namespace Layer.SwaClaim

open Cert.KernelIdeal Cert.KernelIdeal.Gen

variable (m : (ℓ : Loc nD τ sig) → Buf (Elt Ideal) ℓ) (ρ : Dev nD → PrngReg)

/-- The packed projections, the bias table and the sinks of a device. -/
abbrev att (c : Dev nD) : FVec Ideal S32x2048x3584 .bf16 := m ((c : Thread nD τ).loc main_arg0)
abbrev tab (c : Dev nD) : FVec Ideal S32x16 .f32 := m ((c : Thread nD τ).loc main_arg1)
abbrev snk (c : Dev nD) : FVec Ideal S8 .f32 := m ((c : Thread nD τ).loc main_arg2)

/-- The plain program's result of the device's arguments. -/
abbrev Gm (c : Dev nD) : Buf (Elt Ideal) ((c : Thread nD τ).loc main_v49) :=
  Cert.ReferenceIdeal.Read.val_main_v81 (F := Ideal) (att m c) (tab m c) (snk m c)

theorem ix_0 : ∀ t : Fin cfg0.N, win0_0.index t 0 = t.val / 16 ∧ win0_0.index t 1 = t.val % 16 ∧ win0_0.index t 2 = 0
    ∧ win0_5.index t 0 = t.val / 16 ∧ win0_5.index t 1 = t.val % 16 ∧ win0_5.index t 2 = 0 ∧ (grid0.coords t 1 : ℕ) = t.val % 16 :=
  (by decide +kernel : ∀ t : Fin grid0.N, win0_0.index t 0 = t.val / 16 ∧ win0_0.index t 1 = t.val % 16 ∧ win0_0.index t 2 = 0
    ∧ win0_5.index t 0 = t.val / 16 ∧ win0_5.index t 1 = t.val % 16 ∧ win0_5.index t 2 = 0 ∧ (grid0.coords t 1 : ℕ) = t.val % 16)
theorem ix_kv : ∀ t : Fin cfg0.N, win0_1.index t 0 = t.val / 16 ∧ win0_1.index t 1 = 0 ∧ win0_1.index t 2 = 20
    ∧ win0_2.index t 0 = t.val / 16 ∧ win0_2.index t 1 = 0 ∧ win0_2.index t 2 = 21 :=
  (by decide +kernel : ∀ t : Fin grid0.N, win0_1.index t 0 = t.val / 16 ∧ win0_1.index t 1 = 0 ∧ win0_1.index t 2 = 20
    ∧ win0_2.index t 0 = t.val / 16 ∧ win0_2.index t 1 = 0 ∧ win0_2.index t 2 = 21)
theorem ix_w : ∀ (t : Fin cfg0.N) (a : Fin 3), win0_3.index t a = 0 ∧ win0_4.index t a = 0 :=
  (by decide +kernel : ∀ (t : Fin grid0.N) (a : Fin 3), win0_3.index t a = 0 ∧ win0_4.index t a = 0)

theorem tb (t : Fin cfg0.N) : t.val / 16 < 32 := by have := t.isLt; have hN : cfg0.N = 512 := N_0; omega

theorem blk0 (c : Dev nD) (t : Fin cfg0.N) (r : Fin 128) (k : Fin 512) :
    (iblk m c 0 t : Vec Ideal S1x128x512 .bf16) (ix3 0 r k) = att m c (ix3 ⟨t.val / 16, tb t⟩ ⟨128 * (t.val % 16) + r, by omega⟩ ⟨k, by omega⟩) := by
  unfold iblk
  rw [View.read_apply]
  show V m c main_arg0 _ = _
  rw [V_main_arg0]
  congr 1
  funext a
  apply Fin.ext
  have h := ix_0 t
  match a with
  | ⟨0, _⟩ => show win0_0.index t 0 * 1 + 1 * 0 = t.val / 16; omega
  | ⟨1, _⟩ => show win0_0.index t 1 * 128 + 1 * r.val = 128 * (t.val % 16) + r.val; omega
  | ⟨2, _⟩ => show win0_0.index t 2 * 512 + 1 * k.val = k.val; omega

theorem blk1 (c : Dev nD) (t : Fin cfg0.N) (s : Fin 2048) (l : Fin 128) :
    (iblk m c 1 t : Vec Ideal S1x2048x128 .bf16) (ix3 0 s l) = att m c (ix3 ⟨t.val / 16, tb t⟩ s ⟨2560 + l, by omega⟩) := by
  unfold iblk
  rw [View.read_apply]
  show V m c main_arg0 _ = _
  rw [V_main_arg0]
  congr 1
  funext a
  apply Fin.ext
  have h := ix_kv t
  match a with
  | ⟨0, _⟩ => show win0_1.index t 0 * 1 + 1 * 0 = t.val / 16; omega
  | ⟨1, _⟩ => show win0_1.index t 1 * 2048 + 1 * s.val = s.val; omega
  | ⟨2, _⟩ => show win0_1.index t 2 * 128 + 1 * l.val = 2560 + l.val; omega

theorem blk2 (c : Dev nD) (t : Fin cfg0.N) (s : Fin 2048) (l : Fin 128) :
    (iblk m c 2 t : Vec Ideal S1x2048x128 .bf16) (ix3 0 s l) = att m c (ix3 ⟨t.val / 16, tb t⟩ s ⟨2688 + l, by omega⟩) := by
  unfold iblk
  rw [View.read_apply]
  show V m c main_arg0 _ = _
  rw [V_main_arg0]
  congr 1
  funext a
  apply Fin.ext
  have h := ix_kv t
  match a with
  | ⟨0, _⟩ => show win0_2.index t 0 * 1 + 1 * 0 = t.val / 16; omega
  | ⟨1, _⟩ => show win0_2.index t 1 * 2048 + 1 * s.val = s.val; omega
  | ⟨2, _⟩ => show win0_2.index t 2 * 128 + 1 * l.val = 2688 + l.val; omega

theorem blk3 (c : Dev nD) (t : Fin cfg0.N) : (iblk m c 3 t : Vec Ideal S2x512x256 .f32) = SwaHost.biasArr (tab m c) := by
  have hz : (fun a => win0_3.index t a * main_v45.ty.shape.size a) = fun _ => 0 := funext fun a => by
    rw [(ix_w t a).1, Nat.zero_mul]
  unfold iblk
  refine (Memref.read_access_unit_zero (Elt Ideal) main_v45 hz (fun a => by rw [congrFun hz a]; simp) _).trans ?_
  exact SwaHost.V_v45 m c

theorem blk4 (c : Dev nD) (t : Fin cfg0.N) : (iblk m c 4 t : Vec Ideal S2x512x1 .f32) = SwaHost.sinkArr (snk m c) := by
  have hz : (fun a => win0_4.index t a * main_v48.ty.shape.size a) = fun _ => 0 := funext fun a => by
    rw [(ix_w t a).2, Nat.zero_mul]
  unfold iblk
  refine (Memref.read_access_unit_zero (Elt Ideal) main_v48 hz (fun a => by rw [congrFun hz a]; simp) _).trans ?_
  exact SwaHost.V_v48 m c

variable (hfin : ∀ c, (∀ i, Fine (att m c i)) ∧ (∀ i, Fine (tab m c i)) ∧ (∀ i, Fine (snk m c i)))

include hfin in
theorem flushed_eq (c : Dev nD) (t : Fin cfg0.N) :
    (dats m 0 c).flushed 5 t = ((cfg0.win 5).blk t).view.read (Elt Ideal) (Gm m c) := by
  rw [Value.flushed5_A]
  funext j
  obtain ⟨r, g, p, d, rfl⟩ : ∃ (r : Fin 128) (g : Fin 2) (p : Fin 4) (d : Fin 64), j = ix3 0 r ⟨256 * g + 64 * p + d, by omega⟩ := by
    have h2 : (j 2 : ℕ) < 512 := (j 2).isLt
    refine ⟨j 1, ⟨(j 2 : ℕ) / 256, by omega⟩, ⟨(j 2 : ℕ) % 256 / 64, by omega⟩, ⟨(j 2 : ℕ) % 64, by omega⟩, ?_⟩
    funext a
    apply Fin.ext
    match a with
    | ⟨0, _⟩ => have := (j 0).isLt; show (j 0 : ℕ) = 0; change (j 0 : ℕ) < 1 at this; omega
    | ⟨1, _⟩ => rfl
    | ⟨2, _⟩ => show (j 2 : ℕ) = 256 * ((j 2 : ℕ) / 256) + 64 * ((j 2 : ℕ) % 256 / 64) + (j 2 : ℕ) % 64; omega
  refine (SwaKernel.out_apply c (grid0.coords t) _ _ _ _ _ _ _ _ _ _ _ _ _ _ _ _ _ g p r d).trans ?_
  have h := ix_0 t
  rw [blk3, blk4]
  simp only [blk0, blk1, blk2]
  rw [View.read_apply]
  have e : (((cfg0.win 5).blk t).view.emb (ix3 0 r ⟨256 * g + 64 * p + d, by omega⟩) : S32x2048x512.Idx)
      = ix3 ⟨t.val / 16, tb t⟩ ⟨128 * (t.val % 16) + r, by omega⟩ ⟨g * 256 + p * 64 + d, by omega⟩ := by
    funext a
    apply Fin.ext
    match a with
    | ⟨0, _⟩ => show win0_5.index t 0 * 1 + 1 * 0 = t.val / 16; omega
    | ⟨1, _⟩ => show win0_5.index t 1 * 128 + 1 * r.val = 128 * (t.val % 16) + r.val; omega
    | ⟨2, _⟩ => show win0_5.index t 2 * 512 + 1 * (256 * g.val + 64 * p.val + d.val) = g.val * 256 + p.val * 64 + d.val; omega
  rw [e]
  obtain ⟨f0, f1, f2⟩ := hfin c
  refine Eq.trans ?_ ((SwaRef.out_apply (att m c) (tab m c) (snk m c) ⟨t.val / 16, tb t⟩ g p ⟨128 * (t.val % 16) + r, by omega⟩ d).trans
    (SwaRow.row_eq (att m c) (tab m c) (snk m c) f0 f1 f2 ⟨t.val / 16, tb t⟩ (t.val % 16) (by omega) g p r d)).symm
  have hg : (grid0.coords t 1 : ℕ) = t.val % 16 := h.2.2.2.2.2.2
  generalize hi : SwaKernel.point_lt (grid0.coords t) = hlt
  clear hi
  revert hlt
  rw [hg]
  intro hlt
  have a1 : (256 * (g : ℕ) + 64 * p + d) = g * 256 + p * 64 + d := by omega
  have a2 : ∀ d : Fin 64, (256 * (g : ℕ) + 64 * p + d) = g * 256 + p * 64 + d := fun d => by omega
  have a3 : ∀ d : Fin 64, (64 * (g : ℕ) + d) = g * 64 + d := fun d => by omega
  simp only [a2, a3]

theorem cover (i : S32x2048x512.Idx) :
    ∃ t : Fin cfg0.N, (cfg0.win 5).flush t = true ∧ i ∈ ((cfg0.win 5).blk t).view.set := by
  have h0 : (i 0 : Nat) < 32 := (i 0).isLt
  have h1 : (i 1 : Nat) < 2048 := (i 1).isLt
  have h2 : (i 2 : Nat) < 512 := (i 2).isLt
  have hN : cfg0.N = 512 := N_0
  refine ⟨⟨(i 0 : Nat) * 16 + (i 1 : Nat) / 128, by omega⟩, flush0_5 _, ?_⟩
  generalize ht : (⟨(i 0 : Nat) * 16 + (i 1 : Nat) / 128, by omega⟩ : Fin cfg0.N) = t
  have hv : t.val = (i 0 : Nat) * 16 + (i 1 : Nat) / 128 := by rw [← ht]
  show i ∈ ((View.whole main_v49).slice (win0_5.rect t)).set
  rw [View.set_slice_whole, Rect.mem_set_unit]
  have h := ix_0 t
  intro a
  match a with
  | ⟨0, _⟩ => show win0_5.index t 0 * 1 ≤ (i 0 : Nat) ∧ (i 0 : Nat) < win0_5.index t 0 * 1 + 1; omega
  | ⟨1, _⟩ => show win0_5.index t 1 * 128 ≤ (i 1 : Nat) ∧ (i 1 : Nat) < win0_5.index t 1 * 128 + 128; omega
  | ⟨2, _⟩ => show win0_5.index t 2 * 512 ≤ (i 2 : Nat) ∧ (i 2 : Nat) < win0_5.index t 2 * 512 + 512; omega

include hfin in
theorem final (c : Dev nD) : (dats m 0 c).arrAt 5 cfg0.N = Gm m c :=
  (dats m 0 c).arrAt_eq_of_cover 5 (Gm m c) (fun t _ => flushed_eq m hfin c t) cover

theorem algebraic : Cert.algebraic_KernelIdeal_ReferenceIdeal_pre_finite := by
  intro m ρ m' ρ' hpre hag
  have hfin : ∀ c, (∀ i, Fine (att m c i)) ∧ (∀ i, Fine (tab m c i)) ∧ (∀ i, Fine (snk m c i)) := fun c =>
    SwaRow.fine_args (att m c) (tab m c) (snk m c) (hpre c)
  refine ⟨fun c => Gm m c, ?_, ?_⟩
  · exact (θ_run Cert.KernelIdeal.defs _ _).mono (fun r h c => ⟨(h c).1.trans (final m hfin c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v81_eq]
    obtain ⟨e0, e1, e2⟩ := hag c
    rw [e0, e1, e2]

end Layer.SwaClaim

end
-- ==== Proof.BandHost.lean ====
/-
  The position bias the host prepares for the window-512 kernel, read at an index: a query row inside its block against
  a position of the span.
-/
module

public import proofs.«01_k».proof.Proof.SwaSpec
public import proofs.«01_k».proof.Proof.Gen.Kernel6Ideal.Value
public import Idealize.ShloMosaic.Lib.StableHlo.RunRead
public import Idealize.ShloMosaic.Lib.Pointwise

@[expose] public section

set_option maxRecDepth 16384

noncomputable section

open Idealize.ShloMosaic Idealize.ShloMosaic.TcCoe

namespace Layer.BandHost

open Cert.Kernel6Ideal Cert.Kernel6Ideal.Gen

/-- The distance from position `c` of the span to row `r` of the block, as a word. -/
def inBlock (r : Fin 128) (c : Fin 640) : BitVec 32 :=
  IntOp.subi (IntOp.addi 512#32 (BitVec.ofNat 32 r)) (BitVec.ofNat 32 c)

def distArr : IVec S128x640 32 :=
  subi (broadcastInDim S128x640 ![0, 1] bcast_S128x1_S128x640_0_1
      (addi (broadcastInDim S128x1 ![] bcast_S_S128x1 (constantI S_ 32 512#32)) (broadcastInDim S128x1 ![0] bcast_S128_S128x1_0 (iotaInDim S128 32 0))))
    (broadcastInDim S128x640 ![0, 1] bcast_S1x640_S128x640_0_1 (broadcastInDim S1x640 ![1] bcast_S640_S1x640_1 (iotaInDim S640 32 0)))

/-- The same word at every place. -/
abbrev wordArr (w : BitVec 32) : IVec S128x640 32 := broadcastInDim S128x640 ![] bcast_S_S128x640 (constantI S_ 32 w)
/-- The same number at every place. -/
abbrev litArr (w : BitVec 32) : FVec Ideal S128x640 .f32 := broadcastInDim S128x640 ![] bcast_S_S128x640 (constant S_ .f32 w)

def nearArr : IVec S128x640 32 := maxsi distArr (wordArr 0#32)

def farArr : FVec Ideal S128x640 .f32 :=
  mulf (Host.divf (Host.log (Host.divf (sitofp .f32 (maxsi nearArr (wordArr 1#32))) (litArr 0x41800000#32))) (litArr 0x40051592#32)) (litArr 0x41800000#32)

def bucketArr : IVec S128x640 32 :=
  select (cmpi .slt nearArr (wordArr 16#32)) nearArr (minsi (addi (wordArr 16#32) (fptosi 32 farArr)) (wordArr 31#32))

def rowArr : IVec S128x640x1 32 :=
  broadcastInDim S128x640x1 ![0, 1] bcast_S128x640_S128x640x1_0_1
    (select (cmpi .slt bucketArr (wordArr 0#32)) (addi bucketArr (wordArr 32#32)) bucketArr)

def headArr (x : FVec Ideal S32x16 .f32) : FVec Ideal S128x640x8 .f32 :=
  Host.gather gather_S32x8_S128x640x1_S128x640x8_2_0_n_n_0_2_18 (extractStridedSlice S32x8 ![0, 8] x slices_S32x16_S32x8_0_8) rowArr

def maskArr : IVec S1x128x640 1 :=
  broadcastInDim S1x128x640 ![1, 2] bcast_S128x640_S1x128x640_1_2 (andi (cmpi .sge distArr (wordArr 0#32)) (cmpi .slt distArr (wordArr 512#32)))

def biasArr (x : FVec Ideal S32x16 .f32) : FVec Ideal S2x512x640 .f32 :=
  shapeCast S2x512x640 (select (broadcastInDim S8x128x640 ![0, 1, 2] bcast_S1x128x640_S8x128x640_0_1_2 maskArr)
    (transpose S8x128x640 [2, 0, 1] (headArr x) transposes_S128x640x8_S8x128x640_2_0_1)
    (broadcastInDim S8x128x640 ![] bcast_S_S8x128x640 (constant S_ .f32 0xFF800000#32))) shapeCasts_S8x128x640_S2x512x640

theorem dist_apply (r : Fin 128) (c : Fin 640) : distArr (ix2 r c) = inBlock r c := by
  unfold distArr
  pointwise [inBlock]

theorem near_apply (r : Fin 128) (c : Fin 640) : nearArr (ix2 r c) = IntOp.maxsi (inBlock r c) 0#32 := by
  unfold nearArr
  have h := dist_apply r c
  generalize distArr = z at h ⊢
  pointwise [h]

theorem far_apply (r : Fin 128) (c : Fin 640) : farArr (ix2 r c) = farWord (IntOp.maxsi (inBlock r c) 0#32) := by
  unfold farArr
  have h := near_apply r c
  generalize nearArr = z at h ⊢
  pointwise [h, farWord]

theorem bucket_apply (r : Fin 128) (c : Fin 640) : bucketArr (ix2 r c) = bucketWord (IntOp.maxsi (inBlock r c) 0#32) := by
  unfold bucketArr
  have h := near_apply r c
  have h' := far_apply r c
  generalize farArr = y at h' ⊢
  generalize nearArr = z at h ⊢
  pointwise [h, h', bucketWord]

theorem row_apply (r : Fin 128) (c : Fin 640) : rowArr (ix3 r c 0) = rowWord (inBlock r c) := by
  unfold rowArr
  have h := bucket_apply r c
  generalize bucketArr = z at h ⊢
  pointwise [h, rowWord]

theorem head_apply (x : FVec Ideal S32x16 .f32) (r : Fin 128) (c : Fin 640) (h : Fin 8) :
    headArr x (ix3 r c h) = x (ix2 (tableRow (inBlock r c)) ⟨8 + h, by omega⟩) := by
  unfold headArr
  have e := row_apply r c
  generalize rowArr = z at e ⊢
  have e' := gather_heads_apply (by decide) gather_S32x8_S128x640x1_S128x640x8_2_0_n_n_0_2_18.wf
    (extractStridedSlice S32x8 ![0, 8] x slices_S32x16_S32x8_0_8) z r c h
  change Host.gather gather_S32x8_S128x640x1_S128x640x8_2_0_n_n_0_2_18 _ z _ = _ at e'
  rw [e']
  pointwise
  simp only [e]
  rfl

theorem mask_apply (r : Fin 128) (c : Fin 640) : maskArr (ix3 0 r c) = bandWord 512#32 (inBlock r c) := by
  unfold maskArr
  have h := dist_apply r c
  generalize distArr = z at h ⊢
  pointwise [h, bandWord]

theorem bias_apply (x : FVec Ideal S32x16 .f32) (g : Fin 2) (p : Fin 4) (r : Fin 128) (c : Fin 640) :
    biasArr x (ix3 g ⟨128 * p + r, by omega⟩ c)
      = Scalar.select (bandWord 512#32 (inBlock r c)) (x (ix2 (tableRow (inBlock r c)) ⟨8 + (g * 4 + p), by omega⟩)) (Ideal.ofBits .f32 0xFF800000#32) := by
  unfold biasArr
  have h := mask_apply r c
  have h' := head_apply x r c ⟨g * 4 + p, by omega⟩
  generalize maskArr = z at h ⊢
  generalize headArr x = y at h' ⊢
  have e : (128 * (p : ℕ) + r) / 128 = p := by omega
  pointwise [h, h']
  simp only [e]
  rw [h']

variable (m : (ℓ : Loc nD τ sig) → Buf (Elt Ideal) ℓ)

/-- The kernel's bias operand. -/
theorem V_v45 (c : Dev nD) : V m c main_v45 = biasArr (m ((c : Thread nD τ).loc main_arg1)) := by
  simp only [V, hostOps0, hostOps0_1, hostOps0_2, hostOps0_3, hostOps0_4, List.flatten_cons, List.flatten_nil, List.cons_append, List.nil_append, List.append_nil]
  after_reads_simp
  rfl

end Layer.BandHost

end
-- ==== Proof.BandSpec.lean ====
/-
  A softmax row without a sink, as the band attention writes it: the row of SwaSpec.lean with a sink of −∞.
-/
module

public import proofs.«01_k».proof.Proof.SwaBridge

@[expose] public section

noncomputable section

open Idealize.ShloMosaic

namespace Layer

/-- One output element of softmax attention: the logits of one query against all keys and one column of the values. -/
def softRow {n : ℕ} (L : Fin n → EReal) (V : Fin n → EReal) : EReal :=
  ∑ x, Ideal.div (Ideal.exp (L x - Finset.fold max (Ideal.ofBits .f32 0xFF800000#32) (fun x => L x) Finset.univ))
      (∑ x, Ideal.exp (L x - Finset.fold max (Ideal.ofBits .f32 0xFF800000#32) (fun x => L x) Finset.univ)) * V x

/-- A sink of −∞ weighs nothing. -/
theorem softRow_eq {n : ℕ} (L : Fin n → EReal) (V : Fin n → EReal) : softRow L V = attnRow L ⊥ V := by
  unfold softRow attnRow
  rw [max_bot_right, exp_masked, add_zero]

end Layer

end
-- ==== Proof.BandKernel.lean ====
/-
  The window-512 attention kernel read at one element of one block, as the softmax row of BandSpec.lean.
-/
module

public import proofs.«01_k».proof.Proof.BandSpec
public import proofs.«01_k».proof.Proof.SwaKernel
public import proofs.«01_k».proof.Proof.Gen.Kernel6Ideal.Value

@[expose] public section

set_option maxRecDepth 16384

noncomputable section

open Idealize.ShloMosaic Idealize.ShloMosaic.TcCoe Idealize.SL.Sem
open Idealize.ShloMosaic.Pipeline (Dat)

namespace Layer.BandKernel

open Cert.Kernel6Ideal Cert.Kernel6Ideal.Gen
open Layer.SwaKernel (halfWord sel_half0 sel_half1 sel_seq hz3)

/-- The half of the 128 lanes every lane lies in, as the kernel computes it the first time. -/
abbrev half0 : IVec S128x128 32 := k0_pay9 (iota .tc S128x128 32 [1] iota_S128x128_d1_w32) 128#32 0#32

theorem half9 (r l : Fin 128) : half0 (ix2 r l) = halfWord l := by
  unfold half0
  unfold_payloads
  pointwise []
  revert l
  decide +kernel

/-- The same, computed a second time. -/
abbrev half1 : IVec S128x128 32 := k0_pay13 (iota .tc S128x128 32 [1] iota_S128x128_d1_w32) 128#32 (Scalar.cmpi .eq 128#32 0#32) 1#32

theorem half13 (r l : Fin 128) : half1 (ix2 r l) = halfWord l := by
  unfold half1
  unfold_payloads
  pointwise []
  revert l
  decide +kernel

theorem half18 (r l : Fin 128) : k0_pay18 (ix2 r l) = halfWord l := by
  unfold_payloads
  pointwise []
  revert l
  decide +kernel

theorem half22 (r l : Fin 128) : k0_pay22 (ix2 r l) = halfWord l := by
  unfold_payloads
  pointwise []
  revert l
  decide +kernel

variable (v40 v61 : FVec Ideal S640x128 .bf16) (v64 : FVec Ideal S128x512 .f32) (v69 : IVec S1x640 1) (bias : Vec Ideal S1x512x640 .f32)

/-- The lanes of one half, zero elsewhere. -/
def keep (h : IVec S128x128 32) (w : BitVec 32) (x : FVec Ideal S128x128 .f32) : FVec Ideal S128x128 .f32 :=
  select (cmpi .eq h (broadcast S128x128 w)) x (broadcast S128x128 (Scalar.ofBits .f32 0x00000000#32 : Ideal .f32))

theorem keep0 (h : IVec S128x128 32) (hh : ∀ r l, h (ix2 r l) = halfWord l) (x : FVec Ideal S128x128 .f32) (r l : Fin 128) :
    keep h 0#32 x (ix2 r l) = if (l : ℕ) < 64 then x (ix2 r l) else 0 := by
  unfold keep
  pointwise [hh, sel_half0]

theorem keep1 (h : IVec S128x128 32) (hh : ∀ r l, h (ix2 r l) = halfWord l) (x : FVec Ideal S128x128 .f32) (r l : Fin 128) :
    keep h 1#32 x (ix2 r l) = if (l : ℕ) < 64 then 0 else x (ix2 r l) := by
  unfold keep
  pointwise [hh, sel_half1]

/-- Four tiles one below the other. -/
abbrev stack (a b c d : FVec Ideal S128x128 .f32) : FVec Ideal S512x128 .f32 :=
  concatenate S512x128 0 [⟨S128x128, a⟩, ⟨S128x128, b⟩, ⟨S128x128, c⟩, ⟨S128x128, d⟩] concatenates_S128x128_S128x128_S128x128_S128x128_S512x128_d0

/-- The masked logits of a stack of queries. -/
def logitArr (T : FVec Ideal S512x128 .f32) : FVec Ideal S512x640 .f32 :=
  select (broadcastTo S512x640 (shapeCast S1x640 v69 shapeCasts_S1x640_S1x640) broadcasts_S1x640_S512x640)
    (addf (matmul dot_S512x128_S640x128_S512x640_1_1_0_0_n_n none (truncf .bf16 (mulf T (broadcast S512x128 (Scalar.ofBits .f32 0x3E000000#32 : Ideal .f32))) bitsLt_bf16_f32)
        v40 (constant S512x640 .f32 0x00000000#32)) (shapeCast S512x640 bias shapeCasts_S1x512x640_S512x640))
    (broadcast S512x640 (Named.named κ "mask" 0xF149F2CA#32 : Ideal .f32))

/-- Softmax of the logits against the values. -/
def mixArr (L : FVec Ideal S512x640 .f32) : FVec Ideal S512x128 .f32 :=
  let e := exp (subf L (broadcastTo S512x640 (shapeCast S512x1 (multiReduction .maximumf [1] S512 L 0xFF800000#32 reduces_S512x640_S512 (.inl rfl) rfl)
    shapeCasts_S512_S512x1) broadcasts_S512x1_S512x640))
  matmul dot_S512x640_S640x128_S512x128_1_0_0_1_n_n none
    (truncf .bf16 (divf e (broadcastTo S512x640 (shapeCast S512x1 (multiReduction .add [1] S512 e 0x00000000#32 reduces_S512x640_S512 (.inl rfl) rfl)
      shapeCasts_S512_S512x1) broadcasts_S512x1_S512x640)) bitsLt_bf16_f32) v61 (constant S512x128 .f32 0x00000000#32)

theorem mix_apply (L : FVec Ideal S512x640 .f32) (r : Fin 512) (d : Fin 128) :
    mixArr v61 L (ix2 r d) = softRow (fun c => L (ix2 r c)) (fun c => v61 (ix2 c d)) := by
  unfold mixArr
  pointwise [softRow]

theorem logit_apply (T : FVec Ideal S512x128 .f32) (r : Fin 512) (c : Fin 640) :
    logitArr v40 v69 bias T (ix2 r c) = Scalar.select (v69 (ix2 0 c))
      (∑ l : Fin 128, T (ix2 r l) * Ideal.ofBits .f32 0x3E000000#32 * v40 (ix2 c l) + bias (ix3 0 r c)) ⊥ := by
  unfold logitArr
  pointwise
  rfl

/-- The first group's queries, one head below the other, in the lower half of the lanes. -/
def tall0 : FVec Ideal S512x128 .f32 :=
  stack (k0_pay10 v64 (iota .tc S128x128 32 [1] iota_S128x128_d1_w32) 128#32 0#32)
    (keep half0 0#32 (dynamicRotate 1 64#32 none (k0_pay11 v64) rotates_S128x128_d1))
    (keep half0 0#32 (extractStridedSlice S128x128 ![0, 128] v64 slices_S128x512_o0_128_S128x128))
    (keep half0 0#32 (dynamicRotate 1 64#32 none (extractStridedSlice S128x128 ![0, 128] v64 slices_S128x512_o0_128_S128x128) rotates_S128x128_d1))

/-- The second group's queries, one head below the other, in the upper half of the lanes. -/
def tall1 : FVec Ideal S512x128 .f32 :=
  stack (keep k0_pay18 1#32 (dynamicRotate 1 64#32 none (extractStridedSlice S128x128 ![0, 256] v64 slices_S128x512_o0_256_S128x128) rotates_S128x128_d1))
    (keep k0_pay18 1#32 (extractStridedSlice S128x128 ![0, 256] v64 slices_S128x512_o0_256_S128x128))
    (keep k0_pay18 1#32 (dynamicRotate 1 64#32 none (extractStridedSlice S128x128 ![0, 384] v64 slices_S128x512_o0_384_S128x128) rotates_S128x128_d1))
    (keep k0_pay18 1#32 (extractStridedSlice S128x128 ![0, 384] v64 slices_S128x512_o0_384_S128x128))

theorem pay10_eq : k0_pay10 v64 (iota .tc S128x128 32 [1] iota_S128x128_d1_w32) 128#32 0#32
    = keep half0 0#32 (extractStridedSlice S128x128 ![0, 0] v64 slices_S128x512_o0_0_S128x128) := rfl

theorem pay12_eq : k0_pay12 v40 v61 v64 v69 half0 (k0_pay10 v64 (iota .tc S128x128 32 [1] iota_S128x128_d1_w32) 128#32 0#32) (k0_pay11 v64) 64#32 bias
    = mixArr v61 (logitArr v40 v69 bias (tall0 v64)) := rfl

theorem pay21_eq : k0_pay21 v61 (k0_pay19 v40 v64 v69 k0_pay18 bias) (k0_pay20 v40 v64 v69 k0_pay18 bias)
    = mixArr v61 (logitArr v40 v69 bias (tall1 v64)) := rfl

theorem tall0_apply (p : Fin 4) (r l : Fin 128) :
    tall0 v64 (ix2 ⟨128 * p + r, by omega⟩ l) = if h : (l : ℕ) < 64 then v64 (ix2 r ⟨64 * p + l, by omega⟩) else 0 := by
  unfold tall0 k0_pay11
  rw [pay10_eq]
  pointwise [keep0 half0 half9]
  split_ifs <;> first | rfl | omega | exact read2 v64 (by dsimp only <;> omega) (by dsimp only <;> omega)

theorem tall1_apply (p : Fin 4) (r l : Fin 128) :
    tall1 v64 (ix2 ⟨128 * p + r, by omega⟩ l) = if h : (l : ℕ) < 64 then 0 else v64 (ix2 r ⟨256 + 64 * p + (l - 64), by omega⟩) := by
  unfold tall1
  pointwise [keep1 k0_pay18 half18]
  split_ifs <;> first | rfl | omega | exact read2 v64 (by dsimp only <;> omega) (by dsimp only <;> omega)

/-- A sum over the lanes whose upper half is zero. -/
theorem sum_low (f : Fin 128 → EReal) (h : ∀ l : Fin 128, 64 ≤ (l : ℕ) → f l = 0) : ∑ l, f l = ∑ d : Fin 64, f ⟨d, by omega⟩ := by
  rw [show (∑ l, f l) = ∑ l : Fin (64 + 64), f l from rfl, Fin.sum_univ_add]
  rw [Finset.sum_eq_zero (f := fun i : Fin 64 => f (Fin.natAdd 64 i)) fun i _ => h _ (by simp), add_zero]
  rfl

/-- A sum over the lanes whose lower half is zero. -/
theorem sum_high (f : Fin 128 → EReal) (h : ∀ l : Fin 128, (l : ℕ) < 64 → f l = 0) : ∑ l, f l = ∑ d : Fin 64, f ⟨64 + d, by omega⟩ := by
  rw [show (∑ l, f l) = ∑ l : Fin (64 + 64), f l from rfl, Fin.sum_univ_add]
  rw [Finset.sum_eq_zero (f := fun i : Fin 64 => f (Fin.castAdd 64 i)) fun i _ => h _ (by simp), zero_add]
  rfl

/-- The masked logits of the first group of heads. -/
theorem logits0 (p : Fin 4) (r : Fin 128) (c : Fin 640) :
    logitArr v40 v69 bias (tall0 v64) (ix2 ⟨128 * p + r, by omega⟩ c)
      = Scalar.select (v69 (ix2 0 c))
          (∑ d : Fin 64, v64 (ix2 r ⟨64 * p + d, by omega⟩) * Ideal.ofBits .f32 0x3E000000#32 * v40 (ix2 c ⟨d, by omega⟩)
            + bias (ix3 0 ⟨128 * p + r, by omega⟩ c)) ⊥ := by
  rw [logit_apply]
  simp only [tall0_apply]
  rw [sum_low _ fun l hl => by rw [dif_neg (by omega), zero_mul, zero_mul]]
  congr 2

/-- The masked logits of the second group of heads. -/
theorem logits1 (p : Fin 4) (r : Fin 128) (c : Fin 640) :
    logitArr v40 v69 bias (tall1 v64) (ix2 ⟨128 * p + r, by omega⟩ c)
      = Scalar.select (v69 (ix2 0 c))
          (∑ d : Fin 64, v64 (ix2 r ⟨256 + 64 * p + d, by omega⟩) * Ideal.ofBits .f32 0x3E000000#32 * v40 (ix2 c ⟨64 + d, by omega⟩)
            + bias (ix3 0 ⟨128 * p + r, by omega⟩ c)) ⊥ := by
  rw [logit_apply]
  simp only [tall1_apply]
  rw [sum_high _ fun l hl => by rw [dif_pos hl, zero_mul, zero_mul]]
  congr 2

/-- The first group's heads laid side by side. -/
theorem heads0 (z : FVec Ideal S512x128 .f32) (p : Fin 4) (r : Fin 128) (d : Fin 64) :
    k0_pay17 half1 (k0_pay14 z (iota .tc S128x128 32 [1] iota_S128x128_d1_w32) 128#32 (Scalar.cmpi .eq 128#32 0#32) 1#32) (k0_pay15 z) (k0_pay16 z) 64#32
        (ix2 r ⟨64 * p + d, by omega⟩)
      = z (ix2 ⟨128 * p + r, by omega⟩ ⟨d, by omega⟩) := by
  have h := half13
  unfold half1 at h
  unfold k0_pay17 k0_pay14 k0_pay15 k0_pay16 half1
  generalize k0_pay13 (iota .tc S128x128 32 [1] iota_S128x128_d1_w32) 128#32 (Scalar.cmpi .eq 128#32 0#32) 1#32 = y at h ⊢
  pointwise [h, sel_half0]
  split_ifs <;> exact read2 z (by dsimp only <;> omega) (by dsimp only <;> omega)

/-- Both groups' heads laid side by side, read in the first group. -/
theorem close0 (A : FVec Ideal S128x256 .f32) (B : FVec Ideal S512x128 .f32) (C D : FVec Ideal S128x128 .f32) (r : Fin 128) (n : Fin 256) :
    k0_pay1 A B k0_pay22 C D (ix3 0 r ⟨n, by omega⟩) = A (ix2 r n) := by
  unfold k0_pay1
  pointwise

/-- Both groups' heads laid side by side, read in the second group. -/
theorem close1 (A : FVec Ideal S128x256 .f32) (v289 v292 : FVec Ideal S512x640 .f32) (p : Fin 4) (r : Fin 128) (d : Fin 64) :
    k0_pay1 A (k0_pay21 v61 v289 v292) k0_pay22 (k0_pay23 v61 v289 v292) (k0_pay24 v61 v289 v292) (ix3 0 r ⟨256 + 64 * p + d, by omega⟩)
      = k0_pay21 v61 v289 v292 (ix2 ⟨128 * p + r, by omega⟩ ⟨64 + d, by omega⟩) := by
  unfold k0_pay1 k0_pay23 k0_pay24
  generalize k0_pay21 v61 v289 v292 = B
  pointwise [half22, sel_half0]
  split_ifs <;> first | omega | exact read2 B (by dsimp only <;> omega) (by dsimp only <;> omega)

/-- The key row that position `c` of the span of query block `i` reads. -/
def spanRow (i : ℕ) (hi : i < 16) (c : Fin 640) : Fin 2048 := ⟨128 * (i + c / 128 - 4) + c % 128, by omega⟩

theorem point_lt (i : grid0.Coords) : (i 1 : ℕ) < 16 := (i 1).isLt

/-- Where the `k`-th key block of the span begins. -/
theorem off (i : grid0.Coords) (k : Fin 5) : k0_off1 i (BitVec.ofNat 32 k) = ![0, 128 * ((i 1 : ℕ) + k - 4), 0] := by
  have h : ∀ (j : Fin 16) (k : Fin 5), BitVec.toNat (Scalar.indexCast (Scalar.muli (Scalar.maxsi (Scalar.addi (Scalar.subi (BitVec.ofNat 32 j) 4#32) (BitVec.ofNat 32 k)) 0#32) 128#32))
      = 128 * (j + k - 4) := by decide +kernel
  show ![0, BitVec.toNat (Scalar.indexCast (Scalar.muli (Scalar.maxsi (Scalar.addi (Scalar.subi (BitVec.ofNat 32 (i 1)) 4#32) (BitVec.ofNat 32 k)) 0#32) 128#32)), 0] = _
  rw [h (i 1) k]

theorem seq8 (i : grid0.Coords) (c : Fin 640) : k0_pay8 (BitVec.ofNat 32 (i 1 : ℕ)) (ix2 0 c) = if 512 ≤ 128 * (i 1 : ℕ) + c then 1#1 else 0#1 := by
  unfold_payloads
  pointwise []
  generalize (i 1) = j
  revert j c
  decide +kernel

/-- One of the five key blocks, read at a row of it. -/
theorem block (x : Vec Ideal S1x2048x128 .bf16) (i : grid0.Coords) (k : Fin 5) (w : BitVec 32) (hw : w = BitVec.ofNat 32 k) (inb) (c : Fin 128) (l : Fin 128) :
    (View.ld x (Rect.unit (s := S1x2048x128) (k0_off1 i w) S1x128x128.size inb) : Vec Ideal S1x128x128 .bf16) (ix3 0 c l)
      = x (ix3 0 ⟨128 * ((i 1 : ℕ) + k - 4) + c, by have := point_lt i; omega⟩ l) := by
  subst hw
  have e := off i k
  generalize k0_off1 i (BitVec.ofNat 32 k) = a at e inb ⊢
  subst e
  pointwise

theorem span5 (a0 a1 a2 a3 a4 : Vec Ideal S1x128x128 .bf16) (c : Fin 640) (l : Fin 128) :
    k0_pay6 a0 a1 a2 a3 a4 (ix2 c l) = (![a0, a1, a2, a3, a4] ⟨c / 128, by omega⟩) (ix3 0 ⟨c % 128, by omega⟩ l) := by
  obtain ⟨k, d, rfl⟩ : ∃ (k : Fin 5) (d : Fin 128), c = ⟨128 * k + d, by omega⟩ :=
    ⟨⟨c / 128, by omega⟩, ⟨c % 128, by omega⟩, Fin.ext (by dsimp only; omega)⟩
  have e1 : (⟨(128 * (k : ℕ) + d) / 128, by omega⟩ : Fin 5) = k := Fin.ext (by dsimp only; omega)
  have e2 : (⟨(128 * (k : ℕ) + d) % 128, by omega⟩ : Fin 128) = d := Fin.ext (by dsimp only; omega)
  dsimp only
  rw [e1, e2]
  unfold_payloads
  pointwise
  fin_cases k <;> simp
  all_goals split_ifs
  all_goals first
    | omega
    | exact congrArg (fun q => a2 (ix3 0 q l)) (Fin.ext (by dsimp only; omega))
    | exact congrArg (fun q => a3 (ix3 0 q l)) (Fin.ext (by dsimp only; omega))
    | exact congrArg (fun q => a4 (ix3 0 q l)) (Fin.ext (by dsimp only; omega))

theorem pay5_eq (a0 a1 a2 a3 a4 : Vec Ideal S1x128x128 .bf16) : k0_pay5 (k0_pay2 a0) (k0_pay3 a1) (k0_pay4 a2) a3 a4 = k0_pay6 a0 a1 a2 a3 a4 := rfl

theorem spanV (x : Vec Ideal S1x2048x128 .bf16) (i : grid0.Coords) (inb0 inb1 inb2 inb3 inb4) (c : Fin 640) (l : Fin 128) :
    k0_pay6 (View.ld x (Rect.unit (s := S1x2048x128) (k0_off1 i 0#32) S1x128x128.size inb0)) (View.ld x (Rect.unit (s := S1x2048x128) (k0_off1 i 1#32) S1x128x128.size inb1))
      (View.ld x (Rect.unit (s := S1x2048x128) (k0_off1 i 2#32) S1x128x128.size inb2)) (View.ld x (Rect.unit (s := S1x2048x128) (k0_off1 i 3#32) S1x128x128.size inb3))
      (View.ld x (Rect.unit (s := S1x2048x128) (k0_off1 i 4#32) S1x128x128.size inb4)) (ix2 c l) = x (ix3 0 (spanRow (i 1 : ℕ) (point_lt i) c) l) := by
  rw [span5]
  have hb : ∀ k : Fin 5, 128 * ((i 1 : ℕ) + k - 4) + (⟨c % 128, by omega⟩ : Fin 128) < 2048 := fun k => by
    have := point_lt i
    dsimp only
    omega
  generalize hk : (⟨c / 128, by omega⟩ : Fin 5) = k
  have hv : (c : ℕ) / 128 = k := by rw [← hk]
  have e : spanRow (i 1 : ℕ) (point_lt i) c = ⟨128 * ((i 1 : ℕ) + k - 4) + (⟨c % 128, by omega⟩ : Fin 128), hb k⟩ :=
    Fin.ext (by unfold spanRow; dsimp only; rw [hv])
  rw [e]
  clear hk hv e
  match k with
  | ⟨0, _⟩ => exact block x i 0 _ rfl _ _ l
  | ⟨1, _⟩ => exact block x i 1 _ rfl _ _ l
  | ⟨2, _⟩ => exact block x i 2 _ rfl _ _ l
  | ⟨3, _⟩ => exact block x i 3 _ rfl _ _ l
  | ⟨4, _⟩ => exact block x i 4 _ rfl _ _ l

theorem pay7_apply (x : Vec Ideal S1x128x512 .bf16) (r : Fin 128) (n : Fin 512) : k0_pay7 x (ix2 r n) = x (ix3 0 r n) := by
  unfold_payloads
  pointwise

/-- The logit of one query row of one head at position `c` of the span: the scaled product plus the bias, −∞ before the
    sequence's first key. -/
def spanLogit (i : ℕ) (q : Fin 64 → EReal) (k : Fin 640 → Fin 64 → EReal) (bias : Fin 640 → EReal) (c : Fin 640) : EReal :=
  if 512 ≤ 128 * i + c then ∑ d, q d * Ideal.ofBits .f32 0x3E000000#32 * k c d + bias c else ⊥

/-- One element of the block the kernel writes. -/
theorem out_apply (c : Dev nD) (i : grid0.Coords) (arg2 : Memref sig .tc .vmem S1x128x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S2x512x640 .f32) (harg5 : arg5.IsWhole) (arg6 : Memref sig .tc .vmem S1x128x512 .bf16) (harg6 : arg6.IsWhole)
    (x0 : Vec Ideal S1x128x512 .bf16) (x1 : Vec Ideal S1x2048x128 .bf16) (x2 : Vec Ideal S1x2048x128 .bf16) (x3 : Vec Ideal S2x512x640 .f32) (g : Fin 2) (p : Fin 4) (r : Fin 128) (d : Fin 64) :
    out0_A_4 (F := Ideal) c i arg2 harg2 arg3 harg3 arg4 harg4 arg5 harg5 arg6 harg6 x0 x1 x2 x3 (ix3 0 r ⟨256 * g + 64 * p + d, by omega⟩)
      = softRow (spanLogit (i 1 : ℕ) (fun d => x0 (ix3 0 r ⟨256 * g + 64 * p + d, by omega⟩))
            (fun c d => x1 (ix3 0 (spanRow (i 1 : ℕ) (point_lt i) c) ⟨64 * g + d, by omega⟩))
            (fun c => x3 (ix3 g ⟨128 * p + r, by omega⟩ c)))
          (fun c => x2 (ix3 0 (spanRow (i 1 : ℕ) (point_lt i) c) ⟨64 * g + d, by omega⟩)) := by
  unfold out0_A_4
  rw [View.read_writes_eq_canon _ _ _ (cover0_A_4 c i arg2 harg2 arg3 harg3 arg4 harg4 arg5 harg5 arg6 harg6 x0 x1 x2 x3)]
  unfold kernelRun0_A
  dsimp only
  rw [View.canon_unit_zero (S := S1x128x512) hz3]
  simp only [kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.v70]
  simp only [View.readAt_eq_ld, harg2.read_unread, harg3.read_unread, harg4.read_unread, harg5.read_unread,
    View.ld_unit_zero (S := S1x128x512) hz3]
  simp only [pay5_eq]
  obtain ⟨g, hg⟩ := g
  obtain rfl | rfl : g = 0 ∨ g = 1 := by omega
  · have e : (⟨256 * (0 : ℕ) + 64 * p + d, by omega⟩ : Fin 512) = ⟨64 * p + d, by omega⟩ := Fin.ext (by simp)
    simp only [e]
    refine (close0 _ _ _ _ r ⟨64 * p + d, by omega⟩).trans ((heads0 _ p r d).trans ?_)
    refine (congrFun (pay12_eq _ _ _ _ _) _).trans ((mix_apply _ _ _ _).trans ?_)
    simp only [logits0, spanV, pay7_apply, seq8, sel_seq]
    unfold spanLogit
    pointwise
    done
  · have e : (⟨256 * (1 : ℕ) + 64 * p + d, by omega⟩ : Fin 512) = ⟨256 + 64 * p + d, by omega⟩ := Fin.ext (by simp)
    simp only [e]
    refine (close1 _ _ _ _ p r d).trans ?_
    refine (congrFun (pay21_eq _ _ _ _ _) _).trans ((mix_apply _ _ _ _).trans ?_)
    simp only [logits1, spanV, pay7_apply, seq8, sel_seq]
    unfold spanLogit
    pointwise
    done

end Layer.BandKernel
-- ==== Proof.BandRef.lean ====
/-
  The plain window-512 attention read at one element, as the softmax row of BandSpec.lean.
-/
module

public import proofs.«01_k».proof.Proof.BandSpec
public import proofs.«01_k».proof.Proof.Gen.Reference6Ideal.Read
public import Idealize.ShloMosaic.Lib.Pointwise

@[expose] public section

set_option maxRecDepth 16384

noncomputable section

open Idealize.ShloMosaic

namespace Layer.BandRef

open Cert.Reference6Ideal Cert.Reference6Ideal.Read

variable (x0 : (⟨S32x2048x3584, .bf16⟩ : BufTy).Contents (Elt Ideal)) (x1 : (⟨S32x16, .f32⟩ : BufTy).Contents (Elt Ideal))

theorem dist_apply (t s : Fin 2048) :
    val_main_v19 (F := Ideal) (ix2 t s) = distWord t s := by
  unfold val_main_v19 val_main_v18 val_main_v17 val_main_v16 val_main_v15 val_main_v14 val_main_v13
  pointwise [distWord]

theorem near_apply (t s : Fin 2048) : val_main_v26 (F := Ideal) (ix2 t s) = IntOp.maxsi (distWord t s) 0#32 := by
  unfold val_main_v26 val_main_v25 val_main_c_1
  have h := dist_apply t s
  generalize val_main_v19 (F := Ideal) = z at h ⊢
  pointwise [h]

theorem far_apply (t s : Fin 2048) : val_main_v36 (F := Ideal) (ix2 t s) = farWord (IntOp.maxsi (distWord t s) 0#32) := by
  unfold val_main_v36 val_main_v35 val_main_v34 val_main_v33 val_main_v32 val_main_v31 val_main_v30 val_main_v29 val_main_v28 val_main_v27 val_main_c_2 val_main_cst val_main_cst_3 val_main_cst_4
  have h := near_apply t s
  generalize val_main_v26 (F := Ideal) = z at h ⊢
  pointwise [h, farWord]

theorem bucket_apply (t s : Fin 2048) : val_main_v44 (F := Ideal) (ix2 t s) = bucketWord (IntOp.maxsi (distWord t s) 0#32) := by
  unfold val_main_v44 val_main_v43 val_main_v42 val_main_v41 val_main_v40 val_main_v39 val_main_v38 val_main_v37 val_main_c_5 val_main_c_6 val_main_c_7
  have h := near_apply t s
  have h' := far_apply t s
  generalize val_main_v36 (F := Ideal) = y at h' ⊢
  generalize val_main_v26 (F := Ideal) = z at h ⊢
  pointwise [h, h', bucketWord]

theorem row_apply (t s : Fin 2048) : val_main_v50 (F := Ideal) (ix3 t s 0) = rowWord (distWord t s) := by
  unfold val_main_v50 val_main_v49 val_main_v48 val_main_v47 val_main_v46 val_main_v45 val_main_c_8 val_main_c_9
  have h := bucket_apply t s
  generalize val_main_v44 (F := Ideal) = z at h ⊢
  pointwise [h, rowWord]

theorem bias_apply (g : Fin 2) (p : Fin 4) (t s : Fin 2048) :
    val_main_v53 (F := Ideal) x1 (ix4 g p t s) = x1 (ix2 (tableRow (distWord t s)) ⟨8 + (g * 4 + p), by omega⟩) := by
  unfold val_main_v53 val_main_v52 val_main_v51 val_main_v6
  have h := row_apply t s
  generalize val_main_v50 (F := Ideal) = z at h ⊢
  have e := gather_heads_apply (by decide) gather_S32x8_S2048x2048x1_S2048x2048x8_2_0_n_n_0_2_18.wf
    (extractStridedSlice S32x8 ![0, 8] x1 Gen.slices_S32x16_S32x8_0_8) z t s ⟨g * 4 + p, by omega⟩
  change Host.gather gather_S32x8_S2048x2048x1_S2048x2048x8_2_0_n_n_0_2_18 _ z _ = _ at e
  generalize Host.gather gather_S32x8_S2048x2048x1_S2048x2048x8_2_0_n_n_0_2_18
    (extractStridedSlice S32x8 ![0, 8] x1 Gen.slices_S32x16_S32x8_0_8) z = Y at e ⊢
  pointwise [e]
  simp only [h]
  rfl

theorem logit_apply (b : Fin 32) (g : Fin 2) (p : Fin 4) (t s : Fin 2048) :
    val_main_v60 (F := Ideal) x0 x1 (ix5 b g p t s)
      = Scalar.select (bandWord 512#32 (distWord t s))
          ((∑ d : Fin 64, x0 (ix3 b t ⟨512 + (g * 256 + p * 64 + d), by omega⟩) * x0 (ix3 b s ⟨3328 + (g * 64 + d), by omega⟩)) * Ideal.ofBits .f32 0x3E000000#32
            + x1 (ix2 (tableRow (distWord t s)) ⟨8 + (g * 4 + p), by omega⟩)) (Ideal.ofBits .f32 0xFF800000#32) := by
  unfold val_main_v60 val_main_call1_v2 val_main_call1_v1 val_main_call1_v0 val_main_v59 val_main_v58 val_main_v57 val_main_v56 val_main_v55 val_main_v54 val_main_v24 val_main_v23 val_main_v22 val_main_v21 val_main_v20 val_main_c val_main_c_0 val_main_cst_10 val_main_cst_11 val_main_v10 val_main_v9 val_main_v8 val_main_v7 val_main_v3 val_main_v2 val_main_v1 val_main_v0
  have h := bias_apply x1 g p t s
  have h' := dist_apply t s
  generalize val_main_v53 (F := Ideal) x1 = z at h ⊢
  generalize val_main_v19 (F := Ideal) = y at h' ⊢
  pointwise [h, h', bandWord]
  rfl

variable (b : Fin 32) (g : Fin 2) (p : Fin 4) (t : Fin 2048)

theorem max_apply : val_main_v61 (F := Ideal) x0 x1 (ix4 b g p t)
    = Finset.fold max (Ideal.ofBits .f32 0xFF800000#32) (fun s => val_main_v60 (F := Ideal) x0 x1 (ix5 b g p t s)) Finset.univ := by
  unfold val_main_v61 val_main_cst_12
  generalize val_main_v60 (F := Ideal) x0 x1 = z
  pointwise

theorem exp_apply (s : Fin 2048) : val_main_v65 (F := Ideal) x0 x1 (ix5 b g p t s)
    = Ideal.exp (val_main_v60 (F := Ideal) x0 x1 (ix5 b g p t s) - val_main_v61 (F := Ideal) x0 x1 (ix4 b g p t)) := by
  unfold val_main_v65 val_main_v64 val_main_v63 val_main_v62
  generalize val_main_v61 (F := Ideal) x0 x1 = y
  generalize val_main_v60 (F := Ideal) x0 x1 = z
  pointwise

theorem sum_apply : val_main_v66 (F := Ideal) x0 x1 (ix4 b g p t) = ∑ s, val_main_v65 (F := Ideal) x0 x1 (ix5 b g p t s) := by
  unfold val_main_v66 val_main_cst_13
  generalize val_main_v65 (F := Ideal) x0 x1 = z
  pointwise

theorem weight_apply (s : Fin 2048) : val_main_v69 (F := Ideal) x0 x1 (ix5 b g p t s)
    = Ideal.div (val_main_v65 (F := Ideal) x0 x1 (ix5 b g p t s)) (val_main_v66 (F := Ideal) x0 x1 (ix4 b g p t)) := by
  unfold val_main_v69 val_main_v68 val_main_v67
  generalize val_main_v66 (F := Ideal) x0 x1 = z
  generalize val_main_v65 (F := Ideal) x0 x1 = y
  pointwise

theorem mix_apply (d : Fin 64) : val_main_v70 (F := Ideal) x0 x1 (ix5 b g p t d)
    = ∑ s, val_main_v69 (F := Ideal) x0 x1 (ix5 b g p t s) * x0 (ix3 b s ⟨3456 + (g * 64 + d), by omega⟩) := by
  unfold val_main_v70 val_main_v12 val_main_v11 val_main_v5 val_main_v4
  generalize val_main_v69 (F := Ideal) x0 x1 = z
  pointwise

theorem close_apply (d : Fin 64) : val_main_v73 (F := Ideal) x0 x1 (ix3 b t ⟨g * 256 + p * 64 + d, by omega⟩)
    = val_main_v70 (F := Ideal) x0 x1 (ix5 b g p t d) := by
  unfold val_main_v73 val_main_v72 val_main_v71
  generalize val_main_v70 (F := Ideal) x0 x1 = z
  pointwise

/-- The result at one element. -/
theorem out_apply (d : Fin 64) :
    val_main_v73 (F := Ideal) x0 x1 (ix3 b t ⟨g * 256 + p * 64 + d, by omega⟩)
      = softRow (fun s => val_main_v60 (F := Ideal) x0 x1 (ix5 b g p t s)) (fun s => x0 (ix3 b s ⟨3456 + (g * 64 + d), by omega⟩)) := by
  rw [close_apply, mix_apply]
  simp only [weight_apply, sum_apply, exp_apply, max_apply]
  rfl

end Layer.BandRef
-- ==== Proof.BandRow.lean ====
/-
  One row of the window-512 attention: the plain program's softmax over the whole sequence is the kernel's over the span.
-/
module

public import proofs.«01_k».proof.Proof.BandHost
public import proofs.«01_k».proof.Proof.BandKernel
public import proofs.«01_k».proof.Proof.BandRef
public import proofs.«01_k».proof.Proof.SwaRow
public import proofs.«01_k».proof.Defs

@[expose] public section

set_option maxRecDepth 16384

noncomputable section

open Idealize.ShloMosaic

namespace Layer.BandRow

open Cert.Kernel6Ideal

open Layer.SwaRow (fine_of_lt select_bit)

/-- What the precondition says of the two argument arrays. -/
theorem fine_args [Cert.Pre_finite_band.Facts] (x0 : FVec Ideal S32x2048x3584 .bf16) (x1 : FVec Ideal S32x16 .f32)
    (h : (Cert.Pre_finite_band.fn (F := Ideal) x0 x1).1 = (fun _ => 1#1) ∧ (Cert.Pre_finite_band.fn (F := Ideal) x0 x1).2 = (fun _ => 1#1)) :
    (∀ i, Fine (x0 i)) ∧ (∀ i, Fine (x1 i)) :=
  ⟨fun i => fine_of_lt (congrFun h.1 i), fun i => fine_of_lt (congrFun h.2 i)⟩

/-- A span position at or after the sequence's first key is that key. -/
theorem span_key (i : ℕ) (hi : i < 16) (c : Fin 640) (h : 512 ≤ 128 * i + c) : (BandKernel.spanRow i hi c : ℕ) + 512 = 128 * i + c := by
  unfold BandKernel.spanRow
  dsimp only
  omega

theorem row_eq (x0 : FVec Ideal S32x2048x3584 .bf16) (x1 : FVec Ideal S32x16 .f32)
    (h0 : ∀ i, Fine (x0 i)) (h1 : ∀ i, Fine (x1 i)) (b : Fin 32) (i : ℕ) (hi : i < 16) (g : Fin 2) (p : Fin 4) (r : Fin 128) (d : Fin 64) :
    softRow (fun s => Cert.Reference6Ideal.Read.val_main_v60 (F := Ideal) x0 x1 (ix5 b g p ⟨128 * i + r, by omega⟩ s))
        (fun s => x0 (ix3 b s ⟨3456 + (g * 64 + d), by omega⟩))
      = softRow (BandKernel.spanLogit i (fun d => x0 (ix3 b ⟨128 * i + r, by omega⟩ ⟨512 + (g * 256 + p * 64 + d), by omega⟩))
            (fun c d => x0 (ix3 b (BandKernel.spanRow i hi c) ⟨3328 + (g * 64 + d), by omega⟩))
            (fun c => BandHost.biasArr x1 (ix3 g ⟨128 * p + r, by omega⟩ c)))
          (fun c => x0 (ix3 b (BandKernel.spanRow i hi c) ⟨3456 + (g * 64 + d), by omega⟩)) := by
  rw [softRow_eq, softRow_eq]
  have hsc := fun s : Fin 2048 => scaled_dot (fun d : Fin 64 => x0 (ix3 b (⟨128 * i + r, by omega⟩ : Fin 2048) ⟨512 + (g * 256 + p * 64 + d), by omega⟩))
    (fun d => x0 (ix3 b s ⟨3328 + (g * 64 + d), by omega⟩)) (fun _ => h0 _) (fun _ => h0 _) (1 / 8)
  have hL : ∀ s : Fin 2048, Cert.Reference6Ideal.Read.val_main_v60 (F := Ideal) x0 x1 (ix5 b g p ⟨128 * i + r, by omega⟩ s)
      = if (s : ℕ) ≤ 128 * i + r ∧ 128 * i + r < (s : ℕ) + 512 then
          (∑ d : Fin 64, x0 (ix3 b (⟨128 * i + r, by omega⟩ : Fin 2048) ⟨512 + (g * 256 + p * 64 + d), by omega⟩) * x0 (ix3 b s ⟨3328 + (g * 64 + d), by omega⟩)) * ((1 / 8 : ℝ) : EReal)
            + x1 (ix2 (tableRow (distWord (⟨128 * i + r, by omega⟩ : Fin 2048) s)) ⟨8 + (g * 4 + p), by omega⟩)
        else ⊥ := fun s => by
    rw [BandRef.logit_apply, negInf, eighth]
    exact select_bit _ _ (bandWord_iff (⟨128 * i + r, by omega⟩ : Fin 2048) s le_rfl le_rfl 512 (by omega)) _ _
  have hfine : ∀ s : Fin 2048, Fine ((∑ d : Fin 64, x0 (ix3 b (⟨128 * i + r, by omega⟩ : Fin 2048) ⟨512 + (g * 256 + p * 64 + d), by omega⟩) * x0 (ix3 b s ⟨3328 + (g * 64 + d), by omega⟩)) * ((1 / 8 : ℝ) : EReal)
            + x1 (ix2 (tableRow (distWord (⟨128 * i + r, by omega⟩ : Fin 2048) s)) ⟨8 + (g * 4 + p), by omega⟩)) := fun s => by
    obtain ⟨u, hu⟩ := (hsc s).2
    obtain ⟨v, hv⟩ := h1 (ix2 (tableRow (distWord (⟨128 * i + r, by omega⟩ : Fin 2048) s)) ⟨8 + (g * 4 + p), by omega⟩)
    rw [hu, hv, ← EReal.coe_add]
    exact ⟨_, rfl⟩
  have hdist : ∀ c : Fin 640, 512 ≤ 128 * i + c →
      distWord (⟨128 * i + r, by omega⟩ : Fin 2048) (BandKernel.spanRow i hi c) = BandHost.inBlock r c := fun c hc =>
    dist_span 512 i r c (128 * i + r) (BandKernel.spanRow i hi c) rfl (span_key i hi c hc)
  have hB : ∀ c : Fin 640, (hc : 512 ≤ 128 * i + c) → BandHost.biasArr x1 (ix3 g ⟨128 * p + r, by omega⟩ c)
      = if (BandKernel.spanRow i hi c : ℕ) ≤ 128 * i + r ∧ 128 * i + r < (BandKernel.spanRow i hi c : ℕ) + 512 then
          x1 (ix2 (tableRow (distWord (⟨128 * i + r, by omega⟩ : Fin 2048) (BandKernel.spanRow i hi c))) ⟨8 + (g * 4 + p), by omega⟩) else ⊥ := fun c hc => by
    rw [BandHost.bias_apply, negInf, ← hdist c hc]
    exact select_bit _ _ (bandWord_iff (⟨128 * i + r, by omega⟩ : Fin 2048) (BandKernel.spanRow i hi c) le_rfl le_rfl 512 (by omega)) _ _
  refine attnRow_span _ _ _ _ _ (fun c => 512 ≤ 128 * i + (c : ℕ)) (BandKernel.spanRow i hi) (fun c d hc hd e => ?_) (fun c hc => ?_) (fun c _ => rfl)
    (fun c hc => if_neg hc) (fun s hs => ?_) (fun s => ?_) bot_ne_top (Or.inr ⟨⟨128 * i + r, by omega⟩, ?_⟩)
  · have := span_key i hi c hc
    have := span_key i hi d hd
    rw [e] at *
    exact Fin.ext (by omega)
  · rw [hL]
    unfold BandKernel.spanLogit
    dsimp only
    rw [if_pos hc, hB c hc, eighth, (hsc _).1]
    split_ifs
    · rfl
    · exact EReal.add_bot _
  · rw [hL] at hs
    split_ifs at hs with h
    · obtain ⟨ha, hb⟩ := h
      have hr := r.isLt
      refine ⟨⟨s + 512 - 128 * i, by omega⟩, ?_, ?_⟩
      · show 512 ≤ 128 * i + (s + 512 - 128 * i)
        omega
      · have := span_key i hi ⟨s + 512 - 128 * i, by omega⟩ (by show 512 ≤ 128 * i + (s + 512 - 128 * i); omega)
        refine Fin.ext ?_
        dsimp only at this
        omega
    · exact absurd rfl hs
  · rw [hL]
    split_ifs
    · obtain ⟨u, hu⟩ := hfine s
      rw [hu]
      exact EReal.coe_ne_top _
    · exact bot_ne_top
  · rw [hL, if_pos ⟨le_rfl, by dsimp only; omega⟩]
    obtain ⟨u, hu⟩ := hfine ⟨128 * i + r, by omega⟩
    rw [hu]
    exact EReal.coe_ne_bot _

end Layer.BandRow

end
-- ==== Proof.BandClaim.lean ====
/-
  The window-512 attention claim: on real arguments the kernel's result array is the plain program's.
-/
module

public import proofs.«01_k».proof.Proof.BandRow
public import proofs.«01_k».proof.Proof.Gen.Pre_finite_band

@[expose] public section

set_option maxRecDepth 16384

noncomputable section

open Idealize.ShloMosaic Idealize.ShloMosaic.TcCoe Idealize.SL.Sem
open Idealize.ShloMosaic.Pipeline (Dat)

namespace Layer.BandClaim

open Cert.Kernel6Ideal Cert.Kernel6Ideal.Gen

variable (m : (ℓ : Loc nD τ sig) → Buf (Elt Ideal) ℓ) (ρ : Dev nD → PrngReg)

/-- The packed projections and the bias table of a device. -/
abbrev att (c : Dev nD) : FVec Ideal S32x2048x3584 .bf16 := m ((c : Thread nD τ).loc main_arg0)
abbrev tab (c : Dev nD) : FVec Ideal S32x16 .f32 := m ((c : Thread nD τ).loc main_arg1)

/-- The plain program's result of the device's arguments. -/
abbrev Gm (c : Dev nD) : Buf (Elt Ideal) ((c : Thread nD τ).loc main_v46) :=
  Cert.Reference6Ideal.Read.val_main_v73 (F := Ideal) (att m c) (tab m c)

theorem ix_0 : ∀ t : Fin cfg0.N, win0_0.index t 0 = t.val / 16 ∧ win0_0.index t 1 = t.val % 16 ∧ win0_0.index t 2 = 1
    ∧ win0_4.index t 0 = t.val / 16 ∧ win0_4.index t 1 = t.val % 16 ∧ win0_4.index t 2 = 0 ∧ (grid0.coords t 1 : ℕ) = t.val % 16 :=
  (by decide +kernel : ∀ t : Fin grid0.N, win0_0.index t 0 = t.val / 16 ∧ win0_0.index t 1 = t.val % 16 ∧ win0_0.index t 2 = 1
    ∧ win0_4.index t 0 = t.val / 16 ∧ win0_4.index t 1 = t.val % 16 ∧ win0_4.index t 2 = 0 ∧ (grid0.coords t 1 : ℕ) = t.val % 16)
theorem ix_kv : ∀ t : Fin cfg0.N, win0_1.index t 0 = t.val / 16 ∧ win0_1.index t 1 = 0 ∧ win0_1.index t 2 = 26
    ∧ win0_2.index t 0 = t.val / 16 ∧ win0_2.index t 1 = 0 ∧ win0_2.index t 2 = 27 :=
  (by decide +kernel : ∀ t : Fin grid0.N, win0_1.index t 0 = t.val / 16 ∧ win0_1.index t 1 = 0 ∧ win0_1.index t 2 = 26
    ∧ win0_2.index t 0 = t.val / 16 ∧ win0_2.index t 1 = 0 ∧ win0_2.index t 2 = 27)
theorem ix_w : ∀ (t : Fin cfg0.N) (a : Fin 3), win0_3.index t a = 0 :=
  (by decide +kernel : ∀ (t : Fin grid0.N) (a : Fin 3), win0_3.index t a = 0)

theorem tb (t : Fin cfg0.N) : t.val / 16 < 32 := by have := t.isLt; have hN : cfg0.N = 512 := N_0; omega

theorem blk0 (c : Dev nD) (t : Fin cfg0.N) (r : Fin 128) (k : Fin 512) :
    (iblk m c 0 t : Vec Ideal S1x128x512 .bf16) (ix3 0 r k) = att m c (ix3 ⟨t.val / 16, tb t⟩ ⟨128 * (t.val % 16) + r, by omega⟩ ⟨512 + k, by omega⟩) := by
  unfold iblk
  rw [View.read_apply]
  show V m c main_arg0 _ = _
  rw [V_main_arg0]
  congr 1
  funext a
  apply Fin.ext
  have h := ix_0 t
  match a with
  | ⟨0, _⟩ => show win0_0.index t 0 * 1 + 1 * 0 = t.val / 16; omega
  | ⟨1, _⟩ => show win0_0.index t 1 * 128 + 1 * r.val = 128 * (t.val % 16) + r.val; omega
  | ⟨2, _⟩ => show win0_0.index t 2 * 512 + 1 * k.val = 512 + k.val; omega

theorem blk1 (c : Dev nD) (t : Fin cfg0.N) (s : Fin 2048) (l : Fin 128) :
    (iblk m c 1 t : Vec Ideal S1x2048x128 .bf16) (ix3 0 s l) = att m c (ix3 ⟨t.val / 16, tb t⟩ s ⟨3328 + l, by omega⟩) := by
  unfold iblk
  rw [View.read_apply]
  show V m c main_arg0 _ = _
  rw [V_main_arg0]
  congr 1
  funext a
  apply Fin.ext
  have h := ix_kv t
  match a with
  | ⟨0, _⟩ => show win0_1.index t 0 * 1 + 1 * 0 = t.val / 16; omega
  | ⟨1, _⟩ => show win0_1.index t 1 * 2048 + 1 * s.val = s.val; omega
  | ⟨2, _⟩ => show win0_1.index t 2 * 128 + 1 * l.val = 3328 + l.val; omega

theorem blk2 (c : Dev nD) (t : Fin cfg0.N) (s : Fin 2048) (l : Fin 128) :
    (iblk m c 2 t : Vec Ideal S1x2048x128 .bf16) (ix3 0 s l) = att m c (ix3 ⟨t.val / 16, tb t⟩ s ⟨3456 + l, by omega⟩) := by
  unfold iblk
  rw [View.read_apply]
  show V m c main_arg0 _ = _
  rw [V_main_arg0]
  congr 1
  funext a
  apply Fin.ext
  have h := ix_kv t
  match a with
  | ⟨0, _⟩ => show win0_2.index t 0 * 1 + 1 * 0 = t.val / 16; omega
  | ⟨1, _⟩ => show win0_2.index t 1 * 2048 + 1 * s.val = s.val; omega
  | ⟨2, _⟩ => show win0_2.index t 2 * 128 + 1 * l.val = 3456 + l.val; omega

theorem blk3 (c : Dev nD) (t : Fin cfg0.N) : (iblk m c 3 t : Vec Ideal S2x512x640 .f32) = BandHost.biasArr (tab m c) := by
  have hz : (fun a => win0_3.index t a * main_v45.ty.shape.size a) = fun _ => 0 := funext fun a => by
    rw [ix_w t a, Nat.zero_mul]
  unfold iblk
  refine (Memref.read_access_unit_zero (Elt Ideal) main_v45 hz (fun a => by rw [congrFun hz a]; simp) _).trans ?_
  exact BandHost.V_v45 m c

variable (hfin : ∀ c, (∀ i, Fine (att m c i)) ∧ (∀ i, Fine (tab m c i)))

include hfin in
theorem flushed_eq (c : Dev nD) (t : Fin cfg0.N) :
    (dats m 0 c).flushed 4 t = ((cfg0.win 4).blk t).view.read (Elt Ideal) (Gm m c) := by
  rw [Value.flushed4_A]
  funext j
  obtain ⟨r, g, p, d, rfl⟩ : ∃ (r : Fin 128) (g : Fin 2) (p : Fin 4) (d : Fin 64), j = ix3 0 r ⟨256 * g + 64 * p + d, by omega⟩ := by
    have h2 : (j 2 : ℕ) < 512 := (j 2).isLt
    refine ⟨j 1, ⟨(j 2 : ℕ) / 256, by omega⟩, ⟨(j 2 : ℕ) % 256 / 64, by omega⟩, ⟨(j 2 : ℕ) % 64, by omega⟩, ?_⟩
    funext a
    apply Fin.ext
    match a with
    | ⟨0, _⟩ => have := (j 0).isLt; show (j 0 : ℕ) = 0; change (j 0 : ℕ) < 1 at this; omega
    | ⟨1, _⟩ => rfl
    | ⟨2, _⟩ => show (j 2 : ℕ) = 256 * ((j 2 : ℕ) / 256) + 64 * ((j 2 : ℕ) % 256 / 64) + (j 2 : ℕ) % 64; omega
  refine (BandKernel.out_apply c (grid0.coords t) _ _ _ _ _ _ _ _ _ _ _ _ _ _ g p r d).trans ?_
  have h := ix_0 t
  rw [blk3]
  simp only [blk0, blk1, blk2]
  rw [View.read_apply]
  have e : (((cfg0.win 4).blk t).view.emb (ix3 0 r ⟨256 * g + 64 * p + d, by omega⟩) : S32x2048x512.Idx)
      = ix3 ⟨t.val / 16, tb t⟩ ⟨128 * (t.val % 16) + r, by omega⟩ ⟨g * 256 + p * 64 + d, by omega⟩ := by
    funext a
    apply Fin.ext
    match a with
    | ⟨0, _⟩ => show win0_4.index t 0 * 1 + 1 * 0 = t.val / 16; omega
    | ⟨1, _⟩ => show win0_4.index t 1 * 128 + 1 * r.val = 128 * (t.val % 16) + r.val; omega
    | ⟨2, _⟩ => show win0_4.index t 2 * 512 + 1 * (256 * g.val + 64 * p.val + d.val) = g.val * 256 + p.val * 64 + d.val; omega
  rw [e]
  obtain ⟨f0, f1⟩ := hfin c
  refine Eq.trans ?_ ((BandRef.out_apply (att m c) (tab m c) ⟨t.val / 16, tb t⟩ g p ⟨128 * (t.val % 16) + r, by omega⟩ d).trans
    (BandRow.row_eq (att m c) (tab m c) f0 f1 ⟨t.val / 16, tb t⟩ (t.val % 16) (by omega) g p r d)).symm
  have hg : (grid0.coords t 1 : ℕ) = t.val % 16 := h.2.2.2.2.2.2
  generalize hi : BandKernel.point_lt (grid0.coords t) = hlt
  clear hi
  revert hlt
  rw [hg]
  intro hlt
  have a1 : (256 * (g : ℕ) + 64 * p + d) = g * 256 + p * 64 + d := by omega
  have a2 : ∀ d : Fin 64, (256 * (g : ℕ) + 64 * p + d) = g * 256 + p * 64 + d := fun d => by omega
  have a3 : ∀ d : Fin 64, (64 * (g : ℕ) + d) = g * 64 + d := fun d => by omega
  simp only [a2, a3]

theorem cover (i : S32x2048x512.Idx) :
    ∃ t : Fin cfg0.N, (cfg0.win 4).flush t = true ∧ i ∈ ((cfg0.win 4).blk t).view.set := by
  have h0 : (i 0 : Nat) < 32 := (i 0).isLt
  have h1 : (i 1 : Nat) < 2048 := (i 1).isLt
  have h2 : (i 2 : Nat) < 512 := (i 2).isLt
  have hN : cfg0.N = 512 := N_0
  refine ⟨⟨(i 0 : Nat) * 16 + (i 1 : Nat) / 128, by omega⟩, flush0_4 _, ?_⟩
  generalize ht : (⟨(i 0 : Nat) * 16 + (i 1 : Nat) / 128, by omega⟩ : Fin cfg0.N) = t
  have hv : t.val = (i 0 : Nat) * 16 + (i 1 : Nat) / 128 := by rw [← ht]
  show i ∈ ((View.whole main_v46).slice (win0_4.rect t)).set
  rw [View.set_slice_whole, Rect.mem_set_unit]
  have h := ix_0 t
  intro a
  match a with
  | ⟨0, _⟩ => show win0_4.index t 0 * 1 ≤ (i 0 : Nat) ∧ (i 0 : Nat) < win0_4.index t 0 * 1 + 1; omega
  | ⟨1, _⟩ => show win0_4.index t 1 * 128 ≤ (i 1 : Nat) ∧ (i 1 : Nat) < win0_4.index t 1 * 128 + 128; omega
  | ⟨2, _⟩ => show win0_4.index t 2 * 512 ≤ (i 2 : Nat) ∧ (i 2 : Nat) < win0_4.index t 2 * 512 + 512; omega

include hfin in
theorem final (c : Dev nD) : (dats m 0 c).arrAt 4 cfg0.N = Gm m c :=
  (dats m 0 c).arrAt_eq_of_cover 4 (Gm m c) (fun t _ => flushed_eq m hfin c t) cover

theorem algebraic : Cert.algebraic_Kernel6Ideal_Reference6Ideal_pre_finite_band := by
  intro m ρ m' ρ' hpre hag
  have hfin : ∀ c, (∀ i, Fine (att m c i)) ∧ (∀ i, Fine (tab m c i)) := fun c =>
    BandRow.fine_args (att m c) (tab m c) (hpre c)
  refine ⟨fun c => Gm m c, ?_, ?_⟩
  · exact (θ_run Cert.Kernel6Ideal.defs _ _).mono (fun r h c => ⟨(h c).1.trans (final m hfin c), (h c).2⟩)
      (Cert.Kernel6Ideal.Value.run_blocks (F := Ideal) m ρ)
  · refine (θ_run Cert.Reference6Ideal.defs _ _).mono (fun r h c => ⟨(h c).1.trans ?_, (h c).2⟩)
      (Cert.Reference6Ideal.Value.run (F := Ideal) m' ρ')
    rw [Cert.Reference6Ideal.Read.val_main_v73_eq]
    obtain ⟨e0, e1⟩ := hag c
    rw [e0, e1]

end Layer.BandClaim

end
-- ==== Proof.StickSpec.lean ====
/-
  Stick-breaking attention of one query over the reals: the logarithm of the part of the stick a key takes, the logarithm
  of the part it leaves, and how both programs' expressions are these on real logits.
-/
module

public import proofs.«01_k».proof.Proof.SwaBridge

@[expose] public section

noncomputable section

open Idealize.ShloMosaic

namespace Layer

/-- The logarithm of the logistic function. -/
def logTake (z : ℝ) : ℝ := min z 0 - Real.log (1 + Real.exp (-|z|))

/-- What key `t` leaves to the earlier ones, as a logarithm: nothing changes at or after the query's place `s`. -/
def logKeep (z : ℕ → ℝ) (s t : ℕ) : ℝ := if t < s then logTake (z t) - z t else 0

/-- The weight of key `t`, the keys after it up to `n` taking first. -/
def stickWeight (z : ℕ → ℝ) (s n t : ℕ) : ℝ :=
  if t < s then Real.exp (logTake (z t) + ∑ u ∈ Finset.Ico (t + 1) n, logKeep z s u) else 0

theorem log1p_exp (a : ℝ) : Ideal.log1p (Ideal.exp (a : EReal)) = ((Real.log (1 + Real.exp a) : ℝ) : EReal) := by
  have h : 0 < 1 + Real.exp a := by positivity
  rw [Ideal.exp_coe]
  unfold Ideal.log1p
  rw [← EReal.coe_one, ← EReal.coe_add, Ideal.log_coe, if_neg (not_le.2 h)]

theorem coe_max' (a b : ℝ) : max (a : EReal) b = ((max a b : ℝ) : EReal) := (EReal.coe_strictMono.monotone.map_max).symm
theorem coe_min' (a b : ℝ) : min (a : EReal) b = ((min a b : ℝ) : EReal) := (EReal.coe_strictMono.monotone.map_min).symm

/-- The kernel's logistic logarithm. -/
theorem take_kernel (z : ℝ) : @min EReal _ (z : EReal) 0 - Ideal.log1p (Ideal.exp (0 - @max EReal _ (z : EReal) (-(z : EReal)))) = (logTake z : EReal) := by
  rw [← EReal.coe_zero, ← EReal.coe_neg, coe_max', coe_min', ← EReal.coe_sub, log1p_exp, ← EReal.coe_sub, zero_sub]
  rfl

/-- The plain program's softplus of a real. -/
theorem softplus (x : ℝ) : @max EReal _ (x : EReal) 0 + Ideal.log1p (Ideal.exp (-(@max EReal _ ((x : EReal) - 0) (-((x : EReal) - 0))))) = ((max x 0 + Real.log (1 + Real.exp (-|x|)) : ℝ) : EReal) := by
  rw [sub_zero, ← EReal.coe_zero, ← EReal.coe_neg, coe_max', coe_max', ← EReal.coe_neg, log1p_exp, ← EReal.coe_add]
  rfl

theorem take_eq (z : ℝ) : -(max (-z) 0 + Real.log (1 + Real.exp (-|-z|))) = logTake z := by
  unfold logTake
  rw [abs_neg]
  rcases le_total z 0 with h | h
  · rw [max_eq_left (by linarith), min_eq_left h]; ring
  · rw [max_eq_right (by linarith), min_eq_right h]; ring

theorem keep_eq (z : ℝ) : -(max z 0 + Real.log (1 + Real.exp (-|z|))) = logTake z - z := by
  unfold logTake
  rcases le_total z 0 with h | h
  · rw [max_eq_right h, min_eq_left h]; ring
  · rw [max_eq_left h, min_eq_right h]; ring

/-- A sum over one block of 128 keys. -/
theorem sum_block (f : ℕ → ℝ) (a n : ℕ) : ∑ x : Fin n, f (a + x) = ∑ u ∈ Finset.Ico a (a + n), f u := by
  rw [Finset.sum_Ico_eq_sum_range, Finset.sum_range, Nat.add_sub_cancel_left]

/-- The later keys of one block. -/
theorem sum_later (f : ℕ → ℝ) (a n : ℕ) (x : Fin n) :
    ∑ y : Fin n, f (a + y) * (if (x : ℕ) < y then 1 else 0) = ∑ u ∈ Finset.Ico (a + x + 1) (a + n), f u := by
  have hx := x.isLt
  have h := sum_block (fun u => f u * (if a + x < u then 1 else 0)) a n
  simp only [Nat.add_lt_add_iff_left] at h
  rw [h, ← Finset.sum_Ico_consecutive _ (show a ≤ a + x + 1 by omega) (show a + x + 1 ≤ a + n by omega),
    Finset.sum_eq_zero (s := Finset.Ico a (a + x + 1)) fun u hu => ?_, zero_add]
  · refine Finset.sum_congr rfl fun u hu => ?_
    rw [Finset.mem_Ico] at hu
    rw [if_pos (by omega), mul_one]
  · rw [Finset.mem_Ico] at hu
    rw [if_neg (by omega), mul_zero]

/-- Keys at or after the query's place leave everything. -/
theorem keep_sum (z : ℕ → ℝ) (s t m n : ℕ) (hm : s ≤ m) (hn : s ≤ n) :
    ∑ u ∈ Finset.Ico t m, logKeep z s u = ∑ u ∈ Finset.Ico t n, logKeep z s u := by
  have key : ∀ n, s ≤ n → ∑ u ∈ Finset.Ico t n, logKeep z s u = ∑ u ∈ Finset.Ico t s, logKeep z s u := fun n hn => by
    refine (Finset.sum_subset (Finset.Ico_subset_Ico_right hn) fun u hu hu' => ?_).symm
    rw [Finset.mem_Ico] at hu hu'
    unfold logKeep
    rw [if_neg (by omega)]
  rw [key m hm, key n hn]

theorem weight_end (z : ℕ → ℝ) (s t m n : ℕ) (hm : s ≤ m) (hn : s ≤ n) : stickWeight z s m t = stickWeight z s n t := by
  unfold stickWeight
  rw [keep_sum z s (t + 1) m n hm hn]

/-- The mix over the keys before `m` is the mix over all of them. -/
theorem mix_end (z v : ℕ → ℝ) (s m n : ℕ) (hm : s ≤ m) (hmn : m ≤ n) :
    ∑ u ∈ Finset.Ico 0 m, stickWeight z s m u * v u = ∑ u : Fin n, stickWeight z s n u * v u := by
  have h := sum_block (fun u => stickWeight z s n u * v u) 0 n
  simp only [zero_add] at h
  rw [h]
  refine (Finset.sum_congr rfl fun u _ => by rw [weight_end z s u m n hm (hm.trans hmn)]).trans
    (Finset.sum_subset (Finset.Ico_subset_Ico_right hmn) fun u hu hu' => ?_)
  rw [Finset.mem_Ico] at hu hu'
  unfold stickWeight
  rw [if_neg (by omega), zero_mul]

/-- A comparison of two positions, read as a choice. -/
theorem slt_bit (a c : ℕ) (ha : a < 2048) (hc : c < 2048) {α : Type} (x y : α) :
    Scalar.select (IntOp.cmpi .slt (BitVec.ofNat 32 a) (BitVec.ofNat 32 c)) x y = if a < c then x else y := by
  have e : (BitVec.ofNat 32 a).slt (BitVec.ofNat 32 c) = decide (a < c) := by
    rw [BitVec.slt, BitVec.toInt_ofNat', BitVec.toInt_ofNat']
    simp only [Int.bmod]
    exact decide_eq_decide.2 (by omega)
  by_cases h : a < c <;> simp [Scalar.select, IntOp.cmpi, e, h]

end Layer

end
-- ==== Proof.StickKernel.lean ====
/-
  The stick-breaking kernel read at one element of one block.
-/
module

public import proofs.«01_k».proof.Proof.StickSpec
public import proofs.«01_k».proof.Proof.BandKernel
public import proofs.«01_k».proof.Proof.Gen.Kernel7Ideal.Value

@[expose] public section

set_option maxRecDepth 16384

noncomputable section

open Idealize.ShloMosaic Idealize.ShloMosaic.TcCoe Idealize.SL.Sem
open Idealize.ShloMosaic.Pipeline (Dat)

namespace Layer.StickKernel

open Cert.Kernel7Ideal Cert.Kernel7Ideal.Gen
open Layer.SwaKernel (halfWord sel_half0 sel_half1 hz3)

theorem one : Ideal.ofBits .f32 0x3F800000#32 = 1 := by
  simp [Ideal.ofBits, Ideal.ieee, -EReal.coe_mul]; norm_num

/-- The half of the 128 lanes every lane lies in. -/
theorem half18 (r l : Fin 128) : k0_pay18 (ix2 r l) = halfWord l := by
  unfold_payloads
  pointwise []
  revert l
  decide +kernel

/-- The place in its block of a row of the two heads' queries. -/
theorem row20 (r : Fin 256) (x : Fin 128) : k0_pay20 (ix2 r x) = BitVec.ofNat 32 ((r : ℕ) % 128) := by
  unfold_payloads
  pointwise []
  revert r
  decide +kernel

/-- The later keys of a block. -/
theorem later21 (y x : Fin 128) : k0_pay21 (F := Ideal) (ix2 y x) = ((if (x : ℕ) < y then 1 else 0 : ℝ) : EReal) := by
  have h := slt_bit x y (by omega) (by omega) (1 : EReal) 0
  unfold_payloads
  pointwise [one]
  refine Eq.trans h ?_
  split_ifs <;> rfl

section tile

variable (i : grid0.Coords) (arg2 : BitVec 32) (v55 : FVec Ideal S256x128 .bf16) (v72 v73 : IVec S256x128 32) (v80 : FVec Ideal S128x128 .bf16)
  (c0 c1 : BitVec 32) (k : Fin (k0_t1_loop i).trips) (v104 v107 : Vec Ideal S1x128x128 .bf16)
variable (r : Fin 256) (a s : ℕ) (Z : ℕ → ℝ)
  (hz : ∀ x : Fin 128, ∑ l : Fin 128, v55 (ix2 r l) * v104 (ix3 0 x l) = (Z (a + x) : EReal))

include hz in
theorem logit_tile (x : Fin 128) : k0_pay7 v55 v104 (ix2 r x) = (Z (a + x) : EReal) := by
  rw [← hz x]
  unfold_payloads
  pointwise

include hz in
theorem take_tile (x : Fin 128) : k0_pay9 v55 v104 (ix2 r x) = (logTake (Z (a + x)) : EReal) := by
  have h := logit_tile v55 v104 r a Z hz x
  unfold k0_pay9
  generalize k0_pay7 v55 v104 = y at h ⊢
  pointwise [h]
  exact take_kernel _

variable (hb : ∀ x : Fin 128, k0_pay8 i arg2 v72 v73 c0 c1 k (ix2 r x) = IntOp.cmpi .slt (BitVec.ofNat 32 (a + x)) (BitVec.ofNat 32 s))
  (ha : a + 128 ≤ 2048) (hs : s < 2048)

include hz hb ha hs in
theorem keep_tile (x : Fin 128) : k0_pay10 i arg2 v55 v72 v73 c0 c1 k v104 (ix2 r x) = (logKeep Z s (a + x) : EReal) := by
  have h := logit_tile v55 v104 r a Z hz x
  have h' := take_tile v55 v104 r a Z hz x
  have h'' := hb x
  unfold k0_pay10
  generalize k0_pay7 v55 v104 = y at h ⊢
  generalize k0_pay9 v55 v104 = y' at h' ⊢
  generalize k0_pay8 i arg2 v72 v73 c0 c1 k = m at h'' ⊢
  pointwise [h, h', h'']
  rw [slt_bit _ _ (by omega) hs, ← EReal.coe_sub]
  unfold logKeep
  split_ifs <;> rfl

variable (acc1 : FVec Ideal S256x1 .f32) (T : ℝ) (hT : acc1 (ix2 r 0) = (T : EReal))

include hz hb ha hs hT in
theorem exp_tile (x : Fin 128) : k0_pay11 i arg2 v55 v72 v73 k0_pay21 c0 c1 k acc1 v104 (ix2 r x)
    = (Real.exp (logTake (Z (a + x)) + (∑ u ∈ Finset.Ico (a + x + 1) (a + 128), logKeep Z s u + T)) : EReal) := by
  have h := take_tile v55 v104 r a Z hz x
  have h' := keep_tile i arg2 v55 v72 v73 c0 c1 k v104 r a s Z hz hb ha hs
  have h'' := later21
  unfold k0_pay11
  generalize k0_pay9 v55 v104 = y at h ⊢
  generalize k0_pay10 i arg2 v55 v72 v73 c0 c1 k v104 = y' at h' ⊢
  generalize k0_pay21 (F := Ideal) = m at h'' ⊢
  pointwise [h, h', h'', hT]
  simp only [← EReal.coe_sub, sub_self, EReal.coe_zero, sub_zero, zero_mul, Finset.sum_const_zero, add_zero, ← EReal.coe_mul, ← coe_sum_real, ← EReal.coe_add, Ideal.exp_coe]
  rw [sum_later (logKeep Z s)]

include hz hb ha hs hT in
theorem tail_tile : k0_pay2 acc1 (k0_pay10 i arg2 v55 v72 v73 c0 c1 k v104) (ix2 r 0)
    = ((T + ∑ u ∈ Finset.Ico a (a + 128), logKeep Z s u : ℝ) : EReal) := by
  have h' := keep_tile i arg2 v55 v72 v73 c0 c1 k v104 r a s Z hz hb ha hs
  unfold k0_pay2
  generalize k0_pay10 i arg2 v55 v72 v73 c0 c1 k v104 = y' at h' ⊢
  pointwise [h', hT]
  rw [← coe_sum_real, ← EReal.coe_add, sum_block (logKeep Z s)]

variable (acc2 : FVec Ideal S256x128 .f32) (A : ℝ) (l : Fin 128) (hA : acc2 (ix2 r l) = (A : EReal)) (V : ℕ → ℝ)
  (hV : ∀ x : Fin 128, v107 (ix3 0 x l) = (V (a + x) : EReal))

include hz hb ha hs hT hA hV in
theorem mix_tile : k0_pay1 acc2 (k0_pay6 v107) (k0_pay8 i arg2 v72 v73 c0 c1 k) (k0_pay11 i arg2 v55 v72 v73 k0_pay21 c0 c1 k acc1 v104) (Scalar.ofBits .f32 0x00000000#32) (ix2 r l)
    = ((A + ∑ u ∈ Finset.Ico a (a + 128), (if u < s then Real.exp (logTake (Z u) + (∑ w ∈ Finset.Ico (u + 1) (a + 128), logKeep Z s w + T)) else 0) * V u : ℝ) : EReal) := by
  have h := exp_tile i arg2 v55 v72 v73 c0 c1 k v104 r a s Z hz hb ha hs acc1 T hT
  have h' := hb
  unfold k0_pay1 k0_pay6
  generalize k0_pay11 i arg2 v55 v72 v73 k0_pay21 c0 c1 k acc1 v104 = y at h ⊢
  generalize k0_pay8 i arg2 v72 v73 c0 c1 k = m at h' ⊢
  pointwise [h, h', hV, hA]
  rw [← sum_block (fun u => (if u < s then Real.exp (logTake (Z u) + (∑ w ∈ Finset.Ico (u + 1) (a + 128), logKeep Z s w + T)) else 0) * V u), EReal.coe_add, coe_sum_real]
  congr 1
  refine Finset.sum_congr rfl fun x _ => ?_
  rw [slt_bit _ _ (by omega) hs, EReal.coe_mul]
  split_ifs
  · rfl
  · rw [EReal.coe_zero, zero_mul]

end tile

theorem point_lt (i : grid0.Coords) : (i 2 : ℕ) < 16 := (i 2).isLt

/-- The block a trip looks at. -/
theorem start (i k : ℕ) (hk : k ≤ i) (hi : i < 16) :
    Scalar.muli (Scalar.subi (BitVec.ofNat 32 i) (Scf.iv 0#32 1#32 k)) 128#32 = BitVec.ofNat 32 (128 * (i - k)) := by
  have h : ∀ i k : Fin 16, (k : ℕ) ≤ i → Scalar.muli (Scalar.subi (BitVec.ofNat 32 i) (Scf.iv 0#32 1#32 k)) 128#32 = BitVec.ofNat 32 (128 * (i - k)) := by
    decide +kernel
  exact h ⟨i, hi⟩ ⟨k, by omega⟩ hk

theorem off (i : grid0.Coords) (k : Fin (k0_t1_loop i).trips) (hk : (k : ℕ) ≤ i 2) : k0_off1 i k = ![0, 128 * ((i 2 : ℕ) - k), 0] := by
  show ![0, BitVec.toNat (Scalar.indexCast (Scalar.muli (Scalar.subi (BitVec.ofNat 32 (i 2)) (Scf.iv 0#32 1#32 k)) 128#32)), 0] = _
  rw [start _ _ hk (point_lt i)]
  have h : BitVec.toNat (Scalar.indexCast (BitVec.ofNat 32 (128 * ((i 2 : ℕ) - k)))) = 128 * ((i 2 : ℕ) - k) := by
    have := point_lt i
    show (BitVec.ofNat 32 _).toNat = _
    rw [BitVec.toNat_ofNat]
    omega
  rw [h]

theorem block (x : Vec Ideal S1x2048x128 .bf16) (i : grid0.Coords) (k : Fin (k0_t1_loop i).trips) (hk : (k : ℕ) ≤ i 2) (inb) (c : Fin 128) (l : Fin 128) :
    (View.ld x (Rect.unit (s := S1x2048x128) (k0_off1 i k) S1x128x128.size inb) : Vec Ideal S1x128x128 .bf16) (ix3 0 c l)
      = x (ix3 0 ⟨128 * ((i 2 : ℕ) - k) + c, by have := point_lt i; omega⟩ l) := by
  have e := off i k hk
  generalize k0_off1 i k = a at e inb ⊢
  subst e
  pointwise

theorem bit_tile (i : grid0.Coords) (k : Fin (k0_t1_loop i).trips) (hk : (k : ℕ) ≤ i 2) (r : Fin 256) (x : Fin 128) :
    k0_pay8 i (BitVec.ofNat 32 (i 2)) k0_pay20 kernelRun0_A.sl.v73 0#32 1#32 k (ix2 r x)
      = IntOp.cmpi .slt (BitVec.ofNat 32 (128 * ((i 2 : ℕ) - k) + x)) (BitVec.ofNat 32 (128 * (i 2 : ℕ) + (r : ℕ) % 128)) := by
  have h := row20 r x
  have e := start (i 2) k hk (point_lt i)
  have e' : Scalar.muli (BitVec.ofNat 32 (i 2 : ℕ)) 128#32 = BitVec.ofNat 32 (128 * (i 2 : ℕ)) := by
    have h : ∀ j : Fin 16, Scalar.muli (BitVec.ofNat 32 (j : ℕ)) 128#32 = BitVec.ofNat 32 (128 * (j : ℕ)) := by
      decide +kernel
    exact h (i 2)
  unfold k0_pay8 kernelRun0_A.sl.v73
  generalize k0_pay20 = y at h ⊢
  dsimp only
  rw [e, e']
  pointwise [h]
  rw [BitVec.ofNat_add, BitVec.ofNat_add]
  rfl

theorem trips1 (i : grid0.Coords) : (k0_t1_loop i).trips = (i 2 : ℕ) + 1 := by
  have h : ∀ j : Fin 16, Scf.trips 0#32 (Scalar.addi 0#32 (Scalar.muli (Scalar.divsi (Scalar.subi (Scalar.addi (BitVec.ofNat 32 j) 1#32) 0#32) 1#32) 1#32)) 1#32 = j + 1 := by
    decide +kernel
  exact h (i 2)

theorem trips2 (i : grid0.Coords) : (k0_t2_loop i).trips = 0 := by
  have h : ∀ j : Fin 16, Scf.trips (Scalar.addi 0#32 (Scalar.muli (Scalar.divsi (Scalar.subi (Scalar.addi (BitVec.ofNat 32 j) 1#32) 0#32) 1#32) 1#32))
      (Scalar.addi 0#32 (Scalar.subi (Scalar.addi (BitVec.ofNat 32 j) 1#32) 0#32)) 1#32 = 0 := by
    decide +kernel
  exact h (i 2)

variable (𝒱 : Variants) (c : Dev nD) (bd : Option 𝒱.V) (i : grid0.Coords) (arg3 : Memref sig .tc .vmem S1x128x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x128 .bf16) (harg6 : arg6.IsWhole) (v55 : FVec Ideal S256x128 .bf16) (x1 x2 : Vec Ideal S1x2048x128 .bf16)

/-- What the loop carries before trip `n`. -/
abbrev carried (n : ℕ) : FVec Ideal S256x1 .f32 × FVec Ideal S256x128 .f32 :=
  st_k0_t1 (F := Ideal) 𝒱 c bd i arg3 harg3 arg4 harg4 arg5 harg5 arg6 harg6 (BitVec.ofNat 32 (i 2)) v55 k0_pay20 kernelRun0_A.sl.v73 k0_pay21 0#32
    (harg4.unread x1) (harg5.unread x2) (k0_pay22, k0_pay23) n

theorem carried_succ (k : Fin (k0_t1_loop i).trips) :
    carried 𝒱 c bd i arg3 harg3 arg4 harg4 arg5 harg5 arg6 harg6 v55 x1 x2 (k + 1)
      = let acc := carried 𝒱 c bd i arg3 harg3 arg4 harg4 arg5 harg5 arg6 harg6 v55 x1 x2 k
        let kt : Vec Ideal S1x128x128 .bf16 := View.ld x1 (Rect.unit (s := S1x2048x128) (k0_off1 i k) S1x128x128.size (k0_off1_inb i k))
        let vt : Vec Ideal S1x128x128 .bf16 := View.ld x2 (Rect.unit (s := S1x2048x128) (k0_off1 i k) S1x128x128.size (k0_off1_inb i k))
        (k0_pay2 acc.1 (k0_pay10 i (BitVec.ofNat 32 (i 2)) v55 k0_pay20 kernelRun0_A.sl.v73 0#32 1#32 k kt),
          k0_pay1 acc.2 (k0_pay6 vt) (k0_pay8 i (BitVec.ofNat 32 (i 2)) k0_pay20 kernelRun0_A.sl.v73 0#32 1#32 k)
            (k0_pay11 i (BitVec.ofNat 32 (i 2)) v55 k0_pay20 kernelRun0_A.sl.v73 k0_pay21 0#32 1#32 k acc.1 kt) (Scalar.ofBits .f32 0x00000000#32)) := by
  unfold carried
  rw [st_k0_t1_succ]
  generalize st_k0_t1 (F := Ideal) 𝒱 c bd i arg3 harg3 arg4 harg4 arg5 harg5 arg6 harg6 (BitVec.ofNat 32 (i 2)) v55 k0_pay20 kernelRun0_A.sl.v73 k0_pay21 0#32
    (harg4.unread x1) (harg5.unread x2) (k0_pay22, k0_pay23) k = acc
  unfold tripR_k0_t1 trip_k0_t1
  dsimp only
  simp only [trip_k0_t1.sl.r_3, trip_k0_t1.sl.r_2, trip_k0_t1.sl.r_1, trip_k0_t1.sl.r, trip_k0_t1.sl.cst_48]
  simp only [View.readAt_eq_ld, harg4.read_unread, harg5.read_unread]

variable (r : Fin 256) (l : Fin 128) (Z V : ℕ → ℝ)
  (hz : ∀ t : Fin 2048, ∑ l : Fin 128, v55 (ix2 r l) * x1 (ix3 0 t l) = (Z t : EReal)) (hV : ∀ t : Fin 2048, x2 (ix3 0 t l) = (V t : EReal))

include hz hV in
/-- What the loop has gathered before trip `n`: the last `n` blocks of keys up to the query's own. -/
theorem carried_apply (n : ℕ) (hn : n ≤ (i 2 : ℕ) + 1) :
    (carried 𝒱 c bd i arg3 harg3 arg4 harg4 arg5 harg5 arg6 harg6 v55 x1 x2 n).1 (ix2 r 0)
        = ((∑ u ∈ Finset.Ico (128 * ((i 2 : ℕ) + 1 - n)) (128 * ((i 2 : ℕ) + 1)), logKeep Z (128 * (i 2 : ℕ) + (r : ℕ) % 128) u : ℝ) : EReal)
      ∧ (carried 𝒱 c bd i arg3 harg3 arg4 harg4 arg5 harg5 arg6 harg6 v55 x1 x2 n).2 (ix2 r l)
        = ((∑ u ∈ Finset.Ico (128 * ((i 2 : ℕ) + 1 - n)) (128 * ((i 2 : ℕ) + 1)),
            stickWeight Z (128 * (i 2 : ℕ) + (r : ℕ) % 128) (128 * ((i 2 : ℕ) + 1)) u * V u : ℝ) : EReal) := by
  induction n with
  | zero =>
    rw [Nat.sub_zero, Finset.Ico_self, Finset.sum_empty, Finset.sum_empty]
    refine ⟨?_, ?_⟩
    · show k0_pay22 (F := Ideal) (ix2 r 0) = _
      unfold_payloads
      pointwise
      exact EReal.coe_zero.symm
    · show k0_pay23 (F := Ideal) (ix2 r l) = _
      unfold_payloads
      pointwise
      exact EReal.coe_zero.symm
  | succ n ih =>
    obtain ⟨hT, hA⟩ := ih (by omega)
    have hi := point_lt i
    have hk : n < (k0_t1_loop i).trips := by rw [trips1]; omega
    have e := carried_succ 𝒱 c bd i arg3 harg3 arg4 harg4 arg5 harg5 arg6 harg6 v55 x1 x2 ⟨n, hk⟩
    dsimp only at e
    rw [e]
    have hb := bit_tile i ⟨n, hk⟩ (by show n ≤ _; omega) r
    have hk1 : ∀ x : Fin 128, ∑ m : Fin 128, v55 (ix2 r m) * (View.ld x1 (Rect.unit (s := S1x2048x128) (k0_off1 i ⟨n, hk⟩) S1x128x128.size (k0_off1_inb i ⟨n, hk⟩)) : Vec Ideal S1x128x128 .bf16) (ix3 0 x m)
        = (Z (128 * ((i 2 : ℕ) - n) + x) : EReal) := fun x => by
      simp only [block x1 i ⟨n, hk⟩ (by show n ≤ _; omega)]
      exact hz ⟨128 * ((i 2 : ℕ) - n) + x, by omega⟩
    have hv1 : ∀ x : Fin 128, (View.ld x2 (Rect.unit (s := S1x2048x128) (k0_off1 i ⟨n, hk⟩) S1x128x128.size (k0_off1_inb i ⟨n, hk⟩)) : Vec Ideal S1x128x128 .bf16) (ix3 0 x l)
        = (V (128 * ((i 2 : ℕ) - n) + x) : EReal) := fun x => by
      rw [block x2 i ⟨n, hk⟩ (by show n ≤ _; omega)]
      exact hV ⟨128 * ((i 2 : ℕ) - n) + x, by omega⟩
    have e1 : 128 * ((i 2 : ℕ) - n) + 128 = 128 * ((i 2 : ℕ) + 1 - n) := by omega
    have e2 : 128 * ((i 2 : ℕ) + 1 - (n + 1)) = 128 * ((i 2 : ℕ) - n) := by omega
    have h1 := tail_tile i _ v55 _ _ _ _ ⟨n, hk⟩ _ r (128 * ((i 2 : ℕ) - n)) (128 * (i 2 : ℕ) + (r : ℕ) % 128) Z hk1 hb (by omega) (by omega) _ _ hT
    have h2 := mix_tile i _ v55 _ _ _ _ ⟨n, hk⟩ _ _ r (128 * ((i 2 : ℕ) - n)) (128 * (i 2 : ℕ) + (r : ℕ) % 128) Z hk1 hb (by omega) (by omega) _ _ hT _ _ l hA V hv1
    refine ⟨h1.trans ?_, h2.trans ?_⟩
    · rw [e1, e2, add_comm, Finset.sum_Ico_consecutive _ (by omega) (by omega)]
    · rw [e1, e2, add_comm, ← Finset.sum_Ico_consecutive (fun u => stickWeight Z (128 * (i 2 : ℕ) + (r : ℕ) % 128) (128 * ((i 2 : ℕ) + 1)) u * V u)
        (show 128 * ((i 2 : ℕ) - n) ≤ 128 * ((i 2 : ℕ) + 1 - n) by omega) (show 128 * ((i 2 : ℕ) + 1 - n) ≤ 128 * ((i 2 : ℕ) + 1) by omega)]
      congr 2
      refine Finset.sum_congr rfl fun u hu => ?_
      rw [Finset.mem_Ico] at hu
      unfold stickWeight
      rw [Finset.sum_Ico_consecutive _ (by omega) (by omega)]

/-- A sum over the lanes that is zero outside one half. -/
theorem sum_half (h : Fin 2) (f : Fin 128 → EReal) (hf : ∀ l : Fin 128, (l : ℕ) / 64 ≠ h → f l = 0) : ∑ l, f l = ∑ d : Fin 64, f ⟨64 * h + d, by omega⟩ := by
  match h with
  | 0 =>
    refine (Layer.BandKernel.sum_low f fun l hl => hf l (by show (l : ℕ) / 64 ≠ 0; omega)).trans ?_
    exact Finset.sum_congr rfl fun d _ => congrArg f (Fin.ext (by show (d : ℕ) = 64 * 0 + d; omega))
  | 1 =>
    refine (Layer.BandKernel.sum_high f fun l hl => hf l (by show (l : ℕ) / 64 ≠ 1; omega)).trans ?_
    exact Finset.sum_congr rfl fun d _ => congrArg f (Fin.ext (by show 64 + (d : ℕ) = 64 * 1 + d; omega))

/-- The two heads' queries one below the other, each in its half of the lanes. -/
theorem queries (x0 : Vec Ideal S1x128x128 .bf16) (h : Fin 2) (r l : Fin 128) :
    k0_pay19 k0_pay18 x0 (ix2 ⟨128 * h + r, by omega⟩ l) = if (l : ℕ) / 64 = h then x0 (ix3 0 r l) * Ideal.ofBits .f32 0x3E000000#32 else 0 := by
  have hh := half18
  unfold k0_pay19
  generalize k0_pay18 = y at hh ⊢
  pointwise [hh, sel_half0, sel_half1]
  by_cases e : (l : ℕ) / 64 = h
  · rw [if_pos e]
    split_ifs <;> first
      | omega
      | exact congrArg (fun k => x0 (ix3 0 k l) * Ideal.ofBits .f32 0x3E000000#32) (Fin.ext (by dsimp only; omega))
  · rw [if_neg e]
    split_ifs <;> first | rfl | omega

theorem logits (x0 : Vec Ideal S1x128x128 .bf16) (x1 : Vec Ideal S1x2048x128 .bf16) (h : Fin 2) (r : Fin 128) (t : Fin 2048) :
    ∑ l : Fin 128, k0_pay19 k0_pay18 x0 (ix2 ⟨128 * h + r, by omega⟩ l) * x1 (ix3 0 t l)
      = ∑ d : Fin 64, x0 (ix3 0 r ⟨64 * h + d, by omega⟩) * Ideal.ofBits .f32 0x3E000000#32 * x1 (ix3 0 t ⟨64 * h + d, by omega⟩) := by
  rw [sum_half h _ fun l hl => by rw [queries, if_neg hl, zero_mul]]
  refine Finset.sum_congr rfl fun d _ => ?_
  rw [queries, if_pos (by dsimp only; omega)]

/-- Each head's result goes to its half of the lanes. -/
theorem pay5_apply (y : FVec Ideal S256x128 .f32) (h : Fin 2) (r : Fin 128) (d : Fin 64) :
    k0_pay5 k0_pay18 y (ix3 0 r ⟨64 * h + d, by omega⟩) = y (ix2 ⟨128 * h + r, by omega⟩ ⟨64 * h + d, by omega⟩) := by
  have hh := half18
  unfold k0_pay5
  generalize k0_pay18 = w at hh ⊢
  pointwise [hh, sel_half0]
  split_ifs <;> exact congrArg y (by congr 1; apply Fin.ext; dsimp only; omega)

theorem out_apply (c : Dev nD) (i : grid0.Coords) (arg3 : Memref sig .tc .vmem S1x128x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x128 .bf16) (harg6 : arg6.IsWhole)
    (x0 : Vec Ideal S1x128x128 .bf16) (x1 : Vec Ideal S1x2048x128 .bf16) (x2 : Vec Ideal S1x2048x128 .bf16) (h : Fin 2) (r : Fin 128) (d : Fin 64) (Z V : ℕ → ℝ)
    (hz : ∀ t : Fin 2048, ∑ d : Fin 64, x0 (ix3 0 r ⟨64 * h + d, by omega⟩) * Ideal.ofBits .f32 0x3E000000#32 * x1 (ix3 0 t ⟨64 * h + d, by omega⟩) = (Z t : EReal))
    (hV : ∀ t : Fin 2048, x2 (ix3 0 t ⟨64 * h + d, by omega⟩) = (V t : EReal)) :
    out0_A_3 (F := Ideal) c i arg3 harg3 arg4 harg4 arg5 harg5 arg6 harg6 x0 x1 x2 (ix3 0 r ⟨64 * h + d, by omega⟩)
      = ((∑ u : Fin 2048, stickWeight Z (128 * (i 2 : ℕ) + r) 2048 u * V u : ℝ) : EReal) := by
  have hi := point_lt i
  unfold out0_A_3
  rw [View.read_writes_eq_canon _ _ _ (cover0_A_3 c i arg3 harg3 arg4 harg4 arg5 harg5 arg6 harg6 x0 x1 x2)]
  unfold kernelRun0_A
  dsimp only
  rw [View.canon_unit_zero (S := S1x128x128) hz3]
  have hq : kernelRun0_A.sl.r c arg3 harg3 x0 = k0_pay19 k0_pay18 x0 := by
    simp only [kernelRun0_A.sl.r, View.readAt_eq_ld, harg3.read_unread, View.ld_unit_zero (S := S1x128x128) hz3]
  rw [hq]
  refine (pay5_apply _ h r d).trans ?_
  rw [show Scf.trips (Scalar.addi 0#32 (Scalar.muli (Scalar.divsi (Scalar.subi (Scalar.addi (BitVec.ofNat 32 (i 2)) 1#32) 0#32) 1#32) 1#32))
      (Scalar.addi 0#32 (Scalar.subi (Scalar.addi (BitVec.ofNat 32 (i 2)) 1#32) 0#32)) 1#32 = 0 from trips2 i,
    show Scf.trips 0#32 (Scalar.addi 0#32 (Scalar.muli (Scalar.divsi (Scalar.subi (Scalar.addi (BitVec.ofNat 32 (i 2)) 1#32) 0#32) 1#32) 1#32)) 1#32 = (i 2 : ℕ) + 1 from trips1 i,
    st_k0_t2_zero]
  have hc := (carried_apply Variants.none c none i arg3 harg3 arg4 harg4 arg5 harg5 arg6 harg6 (k0_pay19 k0_pay18 x0) x1 x2 ⟨128 * h + r, by omega⟩ ⟨64 * h + d, by omega⟩ Z V
    (fun t => (logits x0 x1 h r t).trans (hz t)) hV ((i 2 : ℕ) + 1) le_rfl).2
  refine hc.trans ?_
  have hr : (128 * (h : ℕ) + r) % 128 = r := by omega
  dsimp only
  rw [hr, Nat.sub_self, Nat.mul_zero, mix_end Z V (128 * (i 2 : ℕ) + r) (128 * ((i 2 : ℕ) + 1)) 2048 (by omega) (by omega)]

end Layer.StickKernel

end
-- ==== Proof.StickRef.lean ====
/-
  The plain stick-breaking attention read at one element, over the reals.
-/
module

public import proofs.«01_k».proof.Proof.StickSpec
public import proofs.«01_k».proof.Proof.Gen.Reference7Ideal.Read
public import Idealize.ShloMosaic.Lib.Pointwise

@[expose] public section

set_option maxRecDepth 16384

noncomputable section

open Idealize.ShloMosaic

namespace Layer.StickRef

open Cert.Reference7Ideal Cert.Reference7Ideal.Read

/-- A left fold of additions is the initial value plus the sum. -/
theorem foldl_add {n : ℕ} (f : Fin n → EReal) (v : EReal) : (List.finRange n).foldl (fun r k => r + f k) v = v + ∑ k, f k := by
  have h : ∀ (l : List (Fin n)) (v : EReal), l.foldl (fun r k => r + f k) v = v + (l.map f).sum := fun l => by
    induction l with
    | nil => intro v; simp
    | cons a l ih => intro v; rw [List.foldl_cons, ih, List.map_cons, List.sum_cons, add_assoc]
  rw [h, ← List.ofFn_eq_map, List.sum_ofFn]

abbrev W : Shape := ⟨4, ![1, 1, 1, 2048]⟩

/-- The places of a window of 2048 along the last axis. -/
def place : Fin 2048 ≃ W.Idx where
  toFun w := ix4 (0 : Fin 1) (0 : Fin 1) (0 : Fin 1) w
  invFun j := j 3
  left_inv _ := rfl
  right_inv j := by
    funext a
    apply Fin.ext
    match a with
    | ⟨0, _⟩ => have := (j 0).isLt; change (j 0 : ℕ) < 1 at this; show 0 = (j 0 : ℕ); omega
    | ⟨1, _⟩ => have := (j 1).isLt; change (j 1 : ℕ) < 1 at this; show 0 = (j 1 : ℕ); omega
    | ⟨2, _⟩ => have := (j 2).isLt; change (j 2 : ℕ) < 1 at this; show 0 = (j 2 : ℕ); omega
    | ⟨3, _⟩ => rfl

/-- The place in the operand that a place of the window at `j` reads. -/
def at' (j : S32x8x2048x2048.Idx) (p : W.Idx) (a : Fin 4) : ℕ :=
  (j a).val * (![1, 1, 1, 1] : Fin 4 → ℕ) a + (p a).val

/-- What a place of the window at `j` contributes. -/
def term (x : FVec Ideal S32x8x2048x2048 .f32) (j : S32x8x2048x2048.Idx) (p : W.Idx) : EReal :=
  if hin : ∀ a : Fin 4, (![0, 0, 0, 0] : Fin 4 → ℕ) a ≤ at' j p a ∧ at' j p a - (![0, 0, 0, 0] : Fin 4 → ℕ) a < S32x8x2048x2048.size a then
    x fun a => ⟨at' j p a - (![0, 0, 0, 0] : Fin 4 → ℕ) a, (hin a).2⟩
  else 0

/-- The reversed running sum along the last axis. -/
theorem window_apply {u : Shape} (x : FVec Ideal S32x8x2048x2048 .f32) (init : FVec Ideal u .f32)
    (h : S32x8x2048x2048.ReduceWindows ![1, 1, 1, 2048] ![1, 1, 1, 1] ![0, 0, 0, 0] ![0, 0, 0, 2047] S32x8x2048x2048) (hu : 0 < u.numel)
    (hz : init (Shape.Idx.first hu) = 0) (b : Fin 32) (g : Fin 8) (t s : Fin 2048) :
    Host.reduceWindowAdd ![1, 1, 1, 2048] ![1, 1, 1, 1] ![0, 0, 0, 0] ![0, 0, 0, 2047] x init h hu (ix4 b g t s)
      = ∑ w : Fin 2048, if k : (s : ℕ) + w < 2048 then x (ix4 b g t ⟨s + w, k⟩) else 0 := by
  unfold Host.reduceWindowAdd
  rw [Ideal.hostReduceWindowAdd_def]
  unfold Ideal.hostReduceWindowAdd Host.reduceWindow
  dsimp only
  rw [hz, foldl_add, zero_add]
  refine (Finset.sum_congr rfl fun n _ => ?_ : _ = ∑ n, term x (ix4 b g t s) (W.rowMajor.symm n)).trans ((Equiv.sum_comp W.rowMajor.symm (term x (ix4 b g t s))).trans ?_)
  · unfold term at'
    congr
  refine (Equiv.sum_comp place (term x (ix4 b g t s))).symm.trans (Finset.sum_congr rfl fun w _ => ?_)
  show term x (ix4 b g t s) (ix4 (0 : Fin 1) (0 : Fin 1) (0 : Fin 1) w) = _
  unfold term
  by_cases k : (s : ℕ) + w < 2048
  · rw [dif_pos k, dif_pos]
    · refine congrArg x ?_
      funext a
      apply Fin.ext
      match a with
      | ⟨0, _⟩ => show (b : ℕ) * 1 + 0 - 0 = b; omega
      | ⟨1, _⟩ => show (g : ℕ) * 1 + 0 - 0 = g; omega
      | ⟨2, _⟩ => show (t : ℕ) * 1 + 0 - 0 = t; omega
      | ⟨3, _⟩ => show (s : ℕ) * 1 + w - 0 = s + w; omega
    · intro a
      match a with
      | ⟨0, _⟩ => have := b.isLt; show 0 ≤ (b : ℕ) * 1 + 0 ∧ (b : ℕ) * 1 + 0 - 0 < 32; omega
      | ⟨1, _⟩ => have := g.isLt; show 0 ≤ (g : ℕ) * 1 + 0 ∧ (g : ℕ) * 1 + 0 - 0 < 8; omega
      | ⟨2, _⟩ => have := t.isLt; show 0 ≤ (t : ℕ) * 1 + 0 ∧ (t : ℕ) * 1 + 0 - 0 < 2048; omega
      | ⟨3, _⟩ => show 0 ≤ (s : ℕ) * 1 + w ∧ (s : ℕ) * 1 + w - 0 < 2048; omega
  · rw [dif_neg k, dif_neg]
    intro a
    have := (a 3).2
    change (s : ℕ) * 1 + w - 0 < 2048 at this
    omega

variable (x0 : (⟨S32x2048x3584, .bf16⟩ : BufTy).Contents (Elt Ideal)) (b : Fin 32) (g : Fin 8) (t : Fin 2048)

/-- The logits. -/
theorem logit_apply (s : Fin 2048) :
    val_main_v14 (F := Ideal) x0 (ix4 b g t s)
      = (∑ d : Fin 64, x0 (ix3 b t ⟨1024 + (g * 64 + d), by omega⟩) * x0 (ix3 b s ⟨1536 + (g * 64 + d), by omega⟩)) * Ideal.ofBits .f32 0x3E000000#32 := by
  unfold val_main_v14 val_main_v13 val_main_cst val_main_v12 val_main_v7 val_main_v6 val_main_v5 val_main_v4 val_main_v3 val_main_v2 val_main_v1 val_main_v0
  pointwise

theorem strict_apply (s : Fin 2048) : val_main_v21 (F := Ideal) (ix2 t s) = IntOp.cmpi .slt (BitVec.ofNat 32 s) (BitVec.ofNat 32 t) := by
  unfold val_main_v21 val_main_v20 val_main_v19 val_main_v18 val_main_v17 val_main_v16 val_main_v15
  pointwise

variable (z : ℕ → ℝ) (hz : ∀ s : Fin 2048, val_main_v14 (F := Ideal) x0 (ix4 b g t s) = (z s : EReal))

include hz in
theorem keep_apply (s : Fin 2048) : val_main_v24 (F := Ideal) x0 (ix4 b g t s) = (logKeep z t s : EReal) := by
  unfold val_main_v24 val_main_call1_v2 val_main_call1_v1 val_main_call1_v0 val_main_v23 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 val_main_v22 val_main_cst_0
  have h := hz s
  have h' := strict_apply t s
  generalize val_main_v14 (F := Ideal) x0 = y at h ⊢
  generalize val_main_v21 (F := Ideal) = m at h' ⊢
  pointwise [h, h', id, slt_bit]
  simp only [ne_eq, not_true_eq_false, if_false, neg_neg]
  unfold logKeep
  have hs := softplus (z s)
  rw [sub_zero] at hs
  split_ifs
  · show -(@max EReal _ (z s : EReal) 0 + Ideal.log1p (Ideal.exp (-(@max EReal _ (z s : EReal) (-(z s : EReal)))))) = _
    rw [hs, ← EReal.coe_neg, keep_eq]
  · rfl

include hz in
theorem take_apply (s : Fin 2048) : val_main_v27 (F := Ideal) x0 (ix4 b g t s) = (logTake (z s) : EReal) := by
  unfold val_main_v27 val_main_call3_v1 val_main_call3_call0_v11 val_main_call3_call0_v10 val_main_call3_call0_v9 val_main_call3_call0_v8 val_main_call3_call0_v7 val_main_call3_call0_v6 val_main_call3_call0_v5 val_main_call3_call0_v4 val_main_call3_call0_v3 val_main_call3_call0_v2 val_main_call3_call0_v1 val_main_call3_call0_v0 val_main_call3_call0_cst val_main_call3_v0
  have h := hz s
  generalize val_main_v14 (F := Ideal) x0 = y at h ⊢
  pointwise [h, id]
  rw [if_neg (fun h => h rfl)]
  have hs := softplus (-z s)
  rw [sub_zero, EReal.coe_neg] at hs
  show -(@max EReal _ (-(z s : EReal)) 0 + Ideal.log1p (Ideal.exp (-(@max EReal _ (-(z s : EReal)) (-(-(z s : EReal))))))) = _
  rw [hs, ← EReal.coe_neg, take_eq]

include hz in
theorem later_apply (s : Fin 2048) : val_main_v26 (F := Ideal) x0 (ix4 b g t s) = ((∑ u ∈ Finset.Ico ((s : ℕ) + 1) 2048, logKeep z t u : ℝ) : EReal) := by
  have h := keep_apply x0 b g t z hz
  have e : val_main_v25 (F := Ideal) x0 (ix4 b g t s) = ((∑ u ∈ Finset.Ico (s : ℕ) 2048, logKeep z t u : ℝ) : EReal) := by
    unfold val_main_v25
    rw [window_apply _ _ _ _ (by unfold val_main_call2_v0 val_main_call2_cst; pointwise)]
    simp only [h]
    rw [show (∑ u ∈ Finset.Ico (s : ℕ) 2048, logKeep z t u) = ∑ w : Fin 2048, if (s : ℕ) + w < 2048 then logKeep z t (s + w) else 0 from ?_, coe_sum_real]
    · refine Finset.sum_congr rfl fun w _ => ?_
      split_ifs <;> rfl
    · rw [sum_block (fun u => if u < 2048 then logKeep z t u else 0) s 2048]
      rw [← Finset.sum_Ico_consecutive _ (show (s : ℕ) ≤ 2048 by omega) (show 2048 ≤ (s : ℕ) + 2048 by omega),
        Finset.sum_eq_zero (s := Finset.Ico 2048 _) fun u hu => if_neg (by rw [Finset.mem_Ico] at hu; omega), add_zero]
      exact Finset.sum_congr rfl fun u hu => (if_pos (by rw [Finset.mem_Ico] at hu; omega)).symm
  unfold val_main_v26
  have h' := h s
  generalize val_main_v25 (F := Ideal) x0 = y at e ⊢
  generalize val_main_v24 (F := Ideal) x0 = y' at h' ⊢
  pointwise [e, h']
  rw [← EReal.coe_sub, Finset.sum_eq_sum_Ico_succ_bot s.isLt, add_sub_cancel_left]

include hz in
theorem weight_apply (s : Fin 2048) : val_main_v30 (F := Ideal) x0 (ix4 b g t s) = (stickWeight z t 2048 s : EReal) := by
  unfold val_main_v30 val_main_call4_v2 val_main_call4_v1 val_main_call4_v0 val_main_v29 val_main_v28 val_main_cst_1
  have h1 := take_apply x0 b g t z hz s
  have h2 := later_apply x0 b g t z hz s
  have h' := strict_apply t s
  generalize val_main_v26 (F := Ideal) x0 = y at h2 ⊢
  generalize val_main_v27 (F := Ideal) x0 = y' at h1 ⊢
  generalize val_main_v21 (F := Ideal) = m at h' ⊢
  pointwise [h1, h2, h', id]
  rw [slt_bit _ _ s.isLt t.isLt, ← EReal.coe_add, Ideal.exp_coe]
  unfold stickWeight
  split_ifs <;> rfl

include hz in
/-- The result at one element. -/
theorem out_apply (v : ℕ → ℝ) (d : Fin 64) (hv : ∀ s : Fin 2048, x0 (ix3 b s ⟨2048 + (g * 64 + d), by omega⟩) = (v s : EReal)) :
    val_main_v34 (F := Ideal) x0 (ix3 b t ⟨g * 64 + d, by omega⟩) = ((∑ s : Fin 2048, stickWeight z t 2048 s * v s : ℝ) : EReal) := by
  have h := weight_apply x0 b g t z hz
  unfold val_main_v34 val_main_v33 val_main_v32 val_main_v31 val_main_v11 val_main_v10 val_main_v9 val_main_v8
  generalize val_main_v30 (F := Ideal) x0 = y at h ⊢
  pointwise
  simp only [h, hv, ← EReal.coe_mul]
  rw [coe_sum_real]

end Layer.StickRef

end
-- ==== Proof.StickClaim.lean ====
/-
  The stick-breaking attention claim: on real arguments the kernel's result array is the plain program's.
-/
module

public import proofs.«01_k».proof.Proof.StickKernel
public import proofs.«01_k».proof.Proof.StickRef
public import proofs.«01_k».proof.Proof.SwaRow
public import proofs.«01_k».proof.Defs
public import proofs.«01_k».proof.Proof.Gen.Pre_finite_stick

@[expose] public section

set_option maxRecDepth 16384

noncomputable section

open Idealize.ShloMosaic Idealize.ShloMosaic.TcCoe Idealize.SL.Sem
open Idealize.ShloMosaic.Pipeline (Dat)

namespace Layer.StickClaim

open Cert.Kernel7Ideal Cert.Kernel7Ideal.Gen

variable (m : (ℓ : Loc nD τ sig) → Buf (Elt Ideal) ℓ) (ρ : Dev nD → PrngReg)

/-- The packed projections of a device. -/
abbrev att (c : Dev nD) : FVec Ideal S32x2048x3584 .bf16 := m ((c : Thread nD τ).loc main_arg0)

/-- The plain program's result of the device's argument. -/
abbrev Gm (c : Dev nD) : Buf (Elt Ideal) ((c : Thread nD τ).loc main_v0) :=
  Cert.Reference7Ideal.Read.val_main_v34 (F := Ideal) (att m c)

theorem ix_q : ∀ t : Fin cfg0.N, win0_0.index t 0 = t.val / 64 ∧ win0_0.index t 1 = t.val % 16 ∧ win0_0.index t 2 = 8 + t.val % 64 / 16
    ∧ (grid0.coords t 2 : ℕ) = t.val % 16 :=
  (by decide +kernel : ∀ t : Fin grid0.N, win0_0.index t 0 = t.val / 64 ∧ win0_0.index t 1 = t.val % 16 ∧ win0_0.index t 2 = 8 + t.val % 64 / 16
    ∧ (grid0.coords t 2 : ℕ) = t.val % 16)
theorem ix_k : ∀ t : Fin cfg0.N, win0_1.index t 0 = t.val / 64 ∧ win0_1.index t 1 = 0 ∧ win0_1.index t 2 = 12 + t.val % 64 / 16 :=
  (by decide +kernel : ∀ t : Fin grid0.N, win0_1.index t 0 = t.val / 64 ∧ win0_1.index t 1 = 0 ∧ win0_1.index t 2 = 12 + t.val % 64 / 16)
theorem ix_v : ∀ t : Fin cfg0.N, win0_2.index t 0 = t.val / 64 ∧ win0_2.index t 1 = 0 ∧ win0_2.index t 2 = 16 + t.val % 64 / 16 :=
  (by decide +kernel : ∀ t : Fin grid0.N, win0_2.index t 0 = t.val / 64 ∧ win0_2.index t 1 = 0 ∧ win0_2.index t 2 = 16 + t.val % 64 / 16)
theorem ix_o : ∀ t : Fin cfg0.N, win0_3.index t 0 = t.val / 64 ∧ win0_3.index t 1 = t.val % 16 ∧ win0_3.index t 2 = t.val % 64 / 16 :=
  (by decide +kernel : ∀ t : Fin grid0.N, win0_3.index t 0 = t.val / 64 ∧ win0_3.index t 1 = t.val % 16 ∧ win0_3.index t 2 = t.val % 64 / 16)

theorem tb (t : Fin cfg0.N) : t.val / 64 < 32 := by have := t.isLt; have hN : cfg0.N = 2048 := N_0; omega

theorem blk0 (c : Dev nD) (t : Fin cfg0.N) (r l : Fin 128) :
    (iblk m c 0 t : Vec Ideal S1x128x128 .bf16) (ix3 0 r l)
      = att m c (ix3 ⟨t.val / 64, tb t⟩ ⟨128 * (t.val % 16) + r, by omega⟩ ⟨1024 + (128 * (t.val % 64 / 16) + l), by omega⟩) := by
  unfold iblk
  rw [View.read_apply]
  show V m c main_arg0 _ = _
  rw [V_main_arg0]
  congr 1
  funext a
  apply Fin.ext
  have h := ix_q t
  match a with
  | ⟨0, _⟩ => show win0_0.index t 0 * 1 + 1 * 0 = t.val / 64; omega
  | ⟨1, _⟩ => show win0_0.index t 1 * 128 + 1 * r.val = 128 * (t.val % 16) + r.val; omega
  | ⟨2, _⟩ => show win0_0.index t 2 * 128 + 1 * l.val = 1024 + (128 * (t.val % 64 / 16) + l.val); omega

theorem blk1 (c : Dev nD) (t : Fin cfg0.N) (s : Fin 2048) (l : Fin 128) :
    (iblk m c 1 t : Vec Ideal S1x2048x128 .bf16) (ix3 0 s l) = att m c (ix3 ⟨t.val / 64, tb t⟩ s ⟨1536 + (128 * (t.val % 64 / 16) + l), by omega⟩) := by
  unfold iblk
  rw [View.read_apply]
  show V m c main_arg0 _ = _
  rw [V_main_arg0]
  congr 1
  funext a
  apply Fin.ext
  have h := ix_k t
  match a with
  | ⟨0, _⟩ => show win0_1.index t 0 * 1 + 1 * 0 = t.val / 64; omega
  | ⟨1, _⟩ => show win0_1.index t 1 * 2048 + 1 * s.val = s.val; omega
  | ⟨2, _⟩ => show win0_1.index t 2 * 128 + 1 * l.val = 1536 + (128 * (t.val % 64 / 16) + l.val); omega

theorem blk2 (c : Dev nD) (t : Fin cfg0.N) (s : Fin 2048) (l : Fin 128) :
    (iblk m c 2 t : Vec Ideal S1x2048x128 .bf16) (ix3 0 s l) = att m c (ix3 ⟨t.val / 64, tb t⟩ s ⟨2048 + (128 * (t.val % 64 / 16) + l), by omega⟩) := by
  unfold iblk
  rw [View.read_apply]
  show V m c main_arg0 _ = _
  rw [V_main_arg0]
  congr 1
  funext a
  apply Fin.ext
  have h := ix_v t
  match a with
  | ⟨0, _⟩ => show win0_2.index t 0 * 1 + 1 * 0 = t.val / 64; omega
  | ⟨1, _⟩ => show win0_2.index t 1 * 2048 + 1 * s.val = s.val; omega
  | ⟨2, _⟩ => show win0_2.index t 2 * 128 + 1 * l.val = 2048 + (128 * (t.val % 64 / 16) + l.val); omega

/-- Real values of a sequence, as a function of the position. -/
theorem exists_real (f : Fin 2048 → EReal) (hf : ∀ s, Fine (f s)) : ∃ z : ℕ → ℝ, ∀ s : Fin 2048, f s = (z s : EReal) := by
  choose u hu using hf
  exact ⟨fun n => if h : n < 2048 then u ⟨n, h⟩ else 0, fun s => by dsimp only; rw [dif_pos s.isLt]; exact hu s⟩

variable (hfin : ∀ c i, Fine (att m c i))

include hfin in
theorem flushed_eq (c : Dev nD) (t : Fin cfg0.N) :
    (dats m 0 c).flushed 3 t = ((cfg0.win 3).blk t).view.read (Elt Ideal) (Gm m c) := by
  rw [Value.flushed3_A]
  funext j
  obtain ⟨h, r, d, rfl⟩ : ∃ (h : Fin 2) (r : Fin 128) (d : Fin 64), j = ix3 0 r ⟨64 * h + d, by omega⟩ := by
    have h2 : (j 2 : ℕ) < 128 := (j 2).isLt
    refine ⟨⟨(j 2 : ℕ) / 64, by omega⟩, j 1, ⟨(j 2 : ℕ) % 64, by omega⟩, ?_⟩
    funext a
    apply Fin.ext
    match a with
    | ⟨0, _⟩ => have := (j 0).isLt; show (j 0 : ℕ) = 0; change (j 0 : ℕ) < 1 at this; omega
    | ⟨1, _⟩ => rfl
    | ⟨2, _⟩ => show (j 2 : ℕ) = 64 * ((j 2 : ℕ) / 64) + (j 2 : ℕ) % 64; omega
  have hb := tb t
  have hp : t.val % 64 / 16 < 4 := by omega
  -- the head, and its columns
  obtain ⟨g, hg⟩ : ∃ g : Fin 8, (g : ℕ) = 2 * (t.val % 64 / 16) + h := ⟨⟨2 * (t.val % 64 / 16) + h, by omega⟩, rfl⟩
  have col : ∀ d : Fin 64, 128 * (t.val % 64 / 16) + (64 * (h : ℕ) + d) = g * 64 + d := fun d => by omega
  obtain ⟨z, hz⟩ := exists_real
    (fun s => Cert.Reference7Ideal.Read.val_main_v14 (F := Ideal) (att m c) (ix4 ⟨t.val / 64, hb⟩ g ⟨128 * (t.val % 16) + r, by omega⟩ s)) fun s => by
      rw [StickRef.logit_apply, eighth]
      exact (scaled_dot _ _ (fun d => hfin c _) (fun d => hfin c _) _).2
  obtain ⟨v, hv⟩ := exists_real (fun s => att m c (ix3 ⟨t.val / 64, hb⟩ s ⟨2048 + (g * 64 + d), by omega⟩)) fun s => hfin c _
  refine (StickKernel.out_apply c (grid0.coords t) _ _ _ _ _ _ _ _ _ _ _ h r d z v ?_ ?_).trans ?_
  · intro s
    rw [← hz s]
    rw [StickRef.logit_apply]
    simp only [blk0, blk1, col]
    rw [eighth]
    exact (scaled_dot _ _ (fun d => hfin c _) (fun d => hfin c _) _).1
  · intro s
    rw [← hv s]
    simp only [blk2, col]
  have hc : (grid0.coords t 2 : ℕ) = t.val % 16 := (ix_q t).2.2.2
  rw [hc, View.read_apply]
  have e : (((cfg0.win 3).blk t).view.emb (ix3 0 r ⟨64 * h + d, by omega⟩) : S32x2048x512.Idx)
      = ix3 ⟨t.val / 64, hb⟩ ⟨128 * (t.val % 16) + r, by omega⟩ ⟨g * 64 + d, by omega⟩ := by
    have ho := ix_o t
    funext a
    apply Fin.ext
    match a with
    | ⟨0, _⟩ => show win0_3.index t 0 * 1 + 1 * 0 = t.val / 64; omega
    | ⟨1, _⟩ => show win0_3.index t 1 * 128 + 1 * r.val = 128 * (t.val % 16) + r.val; omega
    | ⟨2, _⟩ => show win0_3.index t 2 * 128 + 1 * (64 * h.val + d.val) = g.val * 64 + d.val; omega
  rw [e]
  exact (StickRef.out_apply (att m c) ⟨t.val / 64, hb⟩ g ⟨128 * (t.val % 16) + r, by omega⟩ z hz v d hv).symm

theorem cover (i : S32x2048x512.Idx) :
    ∃ t : Fin cfg0.N, (cfg0.win 3).flush t = true ∧ i ∈ ((cfg0.win 3).blk t).view.set := by
  have h0 : (i 0 : Nat) < 32 := (i 0).isLt
  have h1 : (i 1 : Nat) < 2048 := (i 1).isLt
  have h2 : (i 2 : Nat) < 512 := (i 2).isLt
  have hN : cfg0.N = 2048 := N_0
  refine ⟨⟨(i 0 : Nat) * 64 + (i 2 : Nat) / 128 * 16 + (i 1 : Nat) / 128, by omega⟩, flush0_3 _, ?_⟩
  generalize ht : (⟨(i 0 : Nat) * 64 + (i 2 : Nat) / 128 * 16 + (i 1 : Nat) / 128, by omega⟩ : Fin cfg0.N) = t
  have hv : t.val = (i 0 : Nat) * 64 + (i 2 : Nat) / 128 * 16 + (i 1 : Nat) / 128 := by rw [← ht]
  show i ∈ ((View.whole main_v0).slice (win0_3.rect t)).set
  rw [View.set_slice_whole, Rect.mem_set_unit]
  have h := ix_o t
  intro a
  match a with
  | ⟨0, _⟩ => show win0_3.index t 0 * 1 ≤ (i 0 : Nat) ∧ (i 0 : Nat) < win0_3.index t 0 * 1 + 1; omega
  | ⟨1, _⟩ => show win0_3.index t 1 * 128 ≤ (i 1 : Nat) ∧ (i 1 : Nat) < win0_3.index t 1 * 128 + 128; omega
  | ⟨2, _⟩ => show win0_3.index t 2 * 128 ≤ (i 2 : Nat) ∧ (i 2 : Nat) < win0_3.index t 2 * 128 + 128; omega

include hfin in
theorem final (c : Dev nD) : (dats m 0 c).arrAt 3 cfg0.N = Gm m c :=
  (dats m 0 c).arrAt_eq_of_cover 3 (Gm m c) (fun t _ => flushed_eq m hfin c t) cover

theorem algebraic : Cert.algebraic_Kernel7Ideal_Reference7Ideal_pre_finite_stick := by
  intro m ρ m' ρ' hpre hag
  have hfin : ∀ c i, Fine (att m c i) := fun c i => SwaRow.fine_of_lt (congrFun (hpre c) i)
  refine ⟨fun c => Gm m c, ?_, ?_⟩
  · exact (θ_run Cert.Kernel7Ideal.defs _ _).mono (fun r h c => ⟨(h c).1.trans (final m hfin c), (h c).2⟩)
      (Cert.Kernel7Ideal.Value.run_blocks (F := Ideal) m ρ)
  · refine (θ_run Cert.Reference7Ideal.defs _ _).mono (fun r h c => ⟨(h c).1.trans ?_, (h c).2⟩)
      (Cert.Reference7Ideal.Value.run (F := Ideal) m' ρ')
    rw [Cert.Reference7Ideal.Read.val_main_v34_eq]
    rw [hag c]

end Layer.StickClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Pre_finite
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_band
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_stick
public import proofs.«01_k».proof.Proof.FfnClaim
public import proofs.«01_k».proof.Proof.FirstFfnClaim
public import proofs.«01_k».proof.Proof.InprojClaim
public import proofs.«01_k».proof.Proof.MergeClaim
public import proofs.«01_k».proof.Proof.SwaClaim
public import proofs.«01_k».proof.Proof.BandClaim
public import proofs.«01_k».proof.Proof.StickClaim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_R : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_R2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem frame_R3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem frame_R4 : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

theorem frame_R5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem frame_R6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem frame_R7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  Cert.Pre_finite.Gen.facts, Cert.Pre_finite_band.Gen.facts, Cert.Pre_finite_stick.Gen.facts,
  fun m ρ _ => Cert.Kernel.Gen.frame m ρ, fun m ρ _ => Cert.KernelIdeal.Gen.frame m ρ, fun m ρ _ => Cert.KernelIdeal.Gen.frame m ρ,
  frame_R, fun m ρ _ => frame_R m ρ trivial,
  fun m ρ _ => Cert.Kernel2.Gen.frame m ρ, fun m ρ _ => Cert.Kernel2Ideal.Gen.frame m ρ, frame_R2,
  fun m ρ _ => Cert.Kernel3.Gen.frame m ρ, fun m ρ _ => Cert.Kernel3Ideal.Gen.frame m ρ, frame_R3,
  fun m ρ _ => Cert.Kernel4.Gen.frame m ρ, fun m ρ _ => Cert.Kernel4Ideal.Gen.frame m ρ, frame_R4,
  fun m ρ _ => Cert.Kernel5.Gen.frame m ρ, fun m ρ _ => Cert.Kernel5Ideal.Gen.frame m ρ, frame_R5,
  fun m ρ _ => Cert.Kernel6.Gen.frame m ρ, fun m ρ _ => Cert.Kernel6Ideal.Gen.frame m ρ, fun m ρ _ => Cert.Kernel6Ideal.Gen.frame m ρ,
  frame_R6, fun m ρ _ => frame_R6 m ρ trivial,
  fun m ρ _ => Cert.Kernel7.Gen.frame m ρ, fun m ρ _ => Cert.Kernel7Ideal.Gen.frame m ρ, fun m ρ _ => Cert.Kernel7Ideal.Gen.frame m ρ,
  frame_R7, fun m ρ _ => frame_R7 m ρ trivial,
  IdealRules.named_const.statement Cert.KernelIdeal.κ "mask" .f32 0xF149F2CA#32 ⊥ rfl, Layer.SwaClaim.algebraic,
  trivial, Layer.FfnClaim.algebraic, trivial, Layer.FirstFfnClaim.algebraic, trivial, Layer.InprojClaim.algebraic,
  trivial, Layer.MergeClaim.algebraic,
  IdealRules.named_const.statement Cert.Kernel6Ideal.κ "mask" .f32 0xF149F2CA#32 ⊥ rfl, Layer.BandClaim.algebraic,
  trivial, Layer.StickClaim.algebraic⟩

end Cert.Proof

end
